-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojIdeal_finite3 [hPre_finite3 : Cert.Pre_finite3.Facts] (m : (ℓ : Loc Cert.OutprojIdeal.nD Cert.OutprojIdeal.τ Cert.OutprojIdeal.sig) → Buf (Elt Ideal) ℓ) : Prop :=
  ∀ c : Dev Cert.OutprojIdeal.nD,
    (Cert.Pre_finite3.fn (F := Ideal) (m ((c.tc : Thread Cert.OutprojIdeal.nD Cert.OutprojIdeal.τ).loc Cert.OutprojIdeal.main_arg0)) (m ((c.tc : Thread Cert.OutprojIdeal.nD Cert.OutprojIdeal.τ).loc Cert.OutprojIdeal.main_arg1)) (m ((c.tc : Thread Cert.OutprojIdeal.nD Cert.OutprojIdeal.τ).loc Cert.OutprojIdeal.main_arg2)) (m ((c.tc : Thread Cert.OutprojIdeal.nD Cert.OutprojIdeal.τ).loc Cert.OutprojIdeal.main_arg3)) (m ((c.tc : Thread Cert.OutprojIdeal.nD Cert.OutprojIdeal.τ).loc Cert.OutprojIdeal.main_arg4)) (m ((c.tc : Thread Cert.OutprojIdeal.nD Cert.OutprojIdeal.τ).loc Cert.OutprojIdeal.main_arg5)) (m ((c.tc : Thread Cert.OutprojIdeal.nD Cert.OutprojIdeal.τ).loc Cert.OutprojIdeal.main_arg6)) (m ((c.tc : Thread Cert.OutprojIdeal.nD Cert.OutprojIdeal.τ).loc Cert.OutprojIdeal.main_arg7)) (m ((c.tc : Thread Cert.OutprojIdeal.nD Cert.OutprojIdeal.τ).loc Cert.OutprojIdeal.main_arg8)) (m ((c.tc : Thread Cert.OutprojIdeal.nD Cert.OutprojIdeal.τ).loc Cert.OutprojIdeal.main_arg9)) (m ((c.tc : Thread Cert.OutprojIdeal.nD Cert.OutprojIdeal.τ).loc Cert.OutprojIdeal.main_arg10)) (m ((c.tc : Thread Cert.OutprojIdeal.nD Cert.OutprojIdeal.τ).loc Cert.OutprojIdeal.main_arg11))).1 = (fun _ => 1#1)
    ∧ (Cert.Pre_finite3.fn (F := Ideal) (m ((c.tc : Thread Cert.OutprojIdeal.nD Cert.OutprojIdeal.τ).loc Cert.OutprojIdeal.main_arg0)) (m ((c.tc : Thread Cert.OutprojIdeal.nD Cert.OutprojIdeal.τ).loc Cert.OutprojIdeal.main_arg1)) (m ((c.tc : Thread Cert.OutprojIdeal.nD Cert.OutprojIdeal.τ).loc Cert.OutprojIdeal.main_arg2)) (m ((c.tc : Thread Cert.OutprojIdeal.nD Cert.OutprojIdeal.τ).loc Cert.OutprojIdeal.main_arg3)) (m ((c.tc : Thread Cert.OutprojIdeal.nD Cert.OutprojIdeal.τ).loc Cert.OutprojIdeal.main_arg4)) (m ((c.tc : Thread Cert.OutprojIdeal.nD Cert.OutprojIdeal.τ).loc Cert.OutprojIdeal.main_arg5)) (m ((c.tc : Thread Cert.OutprojIdeal.nD Cert.OutprojIdeal.τ).loc Cert.OutprojIdeal.main_arg6)) (m ((c.tc : Thread Cert.OutprojIdeal.nD Cert.OutprojIdeal.τ).loc Cert.OutprojIdeal.main_arg7)) (m ((c.tc : Thread Cert.OutprojIdeal.nD Cert.OutprojIdeal.τ).loc Cert.OutprojIdeal.main_arg8)) (m ((c.tc : Thread Cert.OutprojIdeal.nD Cert.OutprojIdeal.τ).loc Cert.OutprojIdeal.main_arg9)) (m ((c.tc : Thread Cert.OutprojIdeal.nD Cert.OutprojIdeal.τ).loc Cert.OutprojIdeal.main_arg10)) (m ((c.tc : Thread Cert.OutprojIdeal.nD Cert.OutprojIdeal.τ).loc Cert.OutprojIdeal.main_arg11))).2 = (fun _ => 1#1)

def Pre_OutprojReferenceIdeal (m : (ℓ : Loc Cert.OutprojReferenceIdeal.nD Cert.OutprojReferenceIdeal.τ Cert.OutprojReferenceIdeal.sig) → Buf (Elt Ideal) ℓ) : Prop :=
  True

def Pre_OutprojReferenceIdeal_finite3 [hPre_finite3 : Cert.Pre_finite3.Facts] (m : (ℓ : Loc Cert.OutprojReferenceIdeal.nD Cert.OutprojReferenceIdeal.τ Cert.OutprojReferenceIdeal.sig) → Buf (Elt Ideal) ℓ) : Prop :=
  ∀ c : Dev Cert.OutprojReferenceIdeal.nD,
    (Cert.Pre_finite3.fn (F := Ideal) (m ((c.tc : Thread Cert.OutprojReferenceIdeal.nD Cert.OutprojReferenceIdeal.τ).loc Cert.OutprojReferenceIdeal.main_arg0)) (m ((c.tc : Thread Cert.OutprojReferenceIdeal.nD Cert.OutprojReferenceIdeal.τ).loc Cert.OutprojReferenceIdeal.main_arg1)) (m ((c.tc : Thread Cert.OutprojReferenceIdeal.nD Cert.OutprojReferenceIdeal.τ).loc Cert.OutprojReferenceIdeal.main_arg2)) (m ((c.tc : Thread Cert.OutprojReferenceIdeal.nD Cert.OutprojReferenceIdeal.τ).loc Cert.OutprojReferenceIdeal.main_arg3)) (m ((c.tc : Thread Cert.OutprojReferenceIdeal.nD Cert.OutprojReferenceIdeal.τ).loc Cert.OutprojReferenceIdeal.main_arg4)) (m ((c.tc : Thread Cert.OutprojReferenceIdeal.nD Cert.OutprojReferenceIdeal.τ).loc Cert.OutprojReferenceIdeal.main_arg5)) (m ((c.tc : Thread Cert.OutprojReferenceIdeal.nD Cert.OutprojReferenceIdeal.τ).loc Cert.OutprojReferenceIdeal.main_arg6)) (m ((c.tc : Thread Cert.OutprojReferenceIdeal.nD Cert.OutprojReferenceIdeal.τ).loc Cert.OutprojReferenceIdeal.main_arg7)) (m ((c.tc : Thread Cert.OutprojReferenceIdeal.nD Cert.OutprojReferenceIdeal.τ).loc Cert.OutprojReferenceIdeal.main_arg8)) (m ((c.tc : Thread Cert.OutprojReferenceIdeal.nD Cert.OutprojReferenceIdeal.τ).loc Cert.OutprojReferenceIdeal.main_arg9)) (m ((c.tc : Thread Cert.OutprojReferenceIdeal.nD Cert.OutprojReferenceIdeal.τ).loc Cert.OutprojReferenceIdeal.main_arg10)) (m ((c.tc : Thread Cert.OutprojReferenceIdeal.nD Cert.OutprojReferenceIdeal.τ).loc Cert.OutprojReferenceIdeal.main_arg11))).1 = (fun _ => 1#1)
    ∧ (Cert.Pre_finite3.fn (F := Ideal) (m ((c.tc : Thread Cert.OutprojReferenceIdeal.nD Cert.OutprojReferenceIdeal.τ).loc Cert.OutprojReferenceIdeal.main_arg0)) (m ((c.tc : Thread Cert.OutprojReferenceIdeal.nD Cert.OutprojReferenceIdeal.τ).loc Cert.OutprojReferenceIdeal.main_arg1)) (m ((c.tc : Thread Cert.OutprojReferenceIdeal.nD Cert.OutprojReferenceIdeal.τ).loc Cert.OutprojReferenceIdeal.main_arg2)) (m ((c.tc : Thread Cert.OutprojReferenceIdeal.nD Cert.OutprojReferenceIdeal.τ).loc Cert.OutprojReferenceIdeal.main_arg3)) (m ((c.tc : Thread Cert.OutprojReferenceIdeal.nD Cert.OutprojReferenceIdeal.τ).loc Cert.OutprojReferenceIdeal.main_arg4)) (m ((c.tc : Thread Cert.OutprojReferenceIdeal.nD Cert.OutprojReferenceIdeal.τ).loc Cert.OutprojReferenceIdeal.main_arg5)) (m ((c.tc : Thread Cert.OutprojReferenceIdeal.nD Cert.OutprojReferenceIdeal.τ).loc Cert.OutprojReferenceIdeal.main_arg6)) (m ((c.tc : Thread Cert.OutprojReferenceIdeal.nD Cert.OutprojReferenceIdeal.τ).loc Cert.OutprojReferenceIdeal.main_arg7)) (m ((c.tc : Thread Cert.OutprojReferenceIdeal.nD Cert.OutprojReferenceIdeal.τ).loc Cert.OutprojReferenceIdeal.main_arg8)) (m ((c.tc : Thread Cert.OutprojReferenceIdeal.nD Cert.OutprojReferenceIdeal.τ).loc Cert.OutprojReferenceIdeal.main_arg9)) (m ((c.tc : Thread Cert.OutprojReferenceIdeal.nD Cert.OutprojReferenceIdeal.τ).loc Cert.OutprojReferenceIdeal.main_arg10)) (m ((c.tc : Thread Cert.OutprojReferenceIdeal.nD Cert.OutprojReferenceIdeal.τ).loc Cert.OutprojReferenceIdeal.main_arg11))).2 = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_AttnCtx (m : (ℓ : Loc Cert.AttnCtx.nD Cert.AttnCtx.τ Cert.AttnCtx.sig) → Buf (Elt Bits) ℓ) : Prop :=
  True

def Pre_AttnCtxIdeal (m : (ℓ : Loc Cert.AttnCtxIdeal.nD Cert.AttnCtxIdeal.τ Cert.AttnCtxIdeal.sig) → Buf (Elt Ideal) ℓ) : Prop :=
  True

def Pre_AttnCtxIdeal_finite6 [hPre_finite6 : Cert.Pre_finite6.Facts] (m : (ℓ : Loc Cert.AttnCtxIdeal.nD Cert.AttnCtxIdeal.τ Cert.AttnCtxIdeal.sig) → Buf (Elt Ideal) ℓ) : Prop :=
  ∀ c : Dev Cert.AttnCtxIdeal.nD,
    (Cert.Pre_finite6.fn (F := Ideal) (m ((c.tc : Thread Cert.AttnCtxIdeal.nD Cert.AttnCtxIdeal.τ).loc Cert.AttnCtxIdeal.main_arg0)) (m ((c.tc : Thread Cert.AttnCtxIdeal.nD Cert.AttnCtxIdeal.τ).loc Cert.AttnCtxIdeal.main_arg1)) (m ((c.tc : Thread Cert.AttnCtxIdeal.nD Cert.AttnCtxIdeal.τ).loc Cert.AttnCtxIdeal.main_arg2)) (m ((c.tc : Thread Cert.AttnCtxIdeal.nD Cert.AttnCtxIdeal.τ).loc Cert.AttnCtxIdeal.main_arg3))).1 = (fun _ => 1#1)
    ∧ (Cert.Pre_finite6.fn (F := Ideal) (m ((c.tc : Thread Cert.AttnCtxIdeal.nD Cert.AttnCtxIdeal.τ).loc Cert.AttnCtxIdeal.main_arg0)) (m ((c.tc : Thread Cert.AttnCtxIdeal.nD Cert.AttnCtxIdeal.τ).loc Cert.AttnCtxIdeal.main_arg1)) (m ((c.tc : Thread Cert.AttnCtxIdeal.nD Cert.AttnCtxIdeal.τ).loc Cert.AttnCtxIdeal.main_arg2)) (m ((c.tc : Thread Cert.AttnCtxIdeal.nD Cert.AttnCtxIdeal.τ).loc Cert.AttnCtxIdeal.main_arg3))).2.1 = (fun _ => 1#1)
    ∧ (Cert.Pre_finite6.fn (F := Ideal) (m ((c.tc : Thread Cert.AttnCtxIdeal.nD Cert.AttnCtxIdeal.τ).loc Cert.AttnCtxIdeal.main_arg0)) (m ((c.tc : Thread Cert.AttnCtxIdeal.nD Cert.AttnCtxIdeal.τ).loc Cert.AttnCtxIdeal.main_arg1)) (m ((c.tc : Thread Cert.AttnCtxIdeal.nD Cert.AttnCtxIdeal.τ).loc Cert.AttnCtxIdeal.main_arg2)) (m ((c.tc : Thread Cert.AttnCtxIdeal.nD Cert.AttnCtxIdeal.τ).loc Cert.AttnCtxIdeal.main_arg3))).2.2 = (fun _ => 1#1)

def Pre_AttnCtxReferenceIdeal (m : (ℓ : Loc Cert.AttnCtxReferenceIdeal.nD Cert.AttnCtxReferenceIdeal.τ Cert.AttnCtxReferenceIdeal.sig) → Buf (Elt Ideal) ℓ) : Prop :=
  True

def Pre_AttnCtxReferenceIdeal_finite6 [hPre_finite6 : Cert.Pre_finite6.Facts] (m : (ℓ : Loc Cert.AttnCtxReferenceIdeal.nD Cert.AttnCtxReferenceIdeal.τ Cert.AttnCtxReferenceIdeal.sig) → Buf (Elt Ideal) ℓ) : Prop :=
  ∀ c : Dev Cert.AttnCtxReferenceIdeal.nD,
    (Cert.Pre_finite6.fn (F := Ideal) (m ((c.tc : Thread Cert.AttnCtxReferenceIdeal.nD Cert.AttnCtxReferenceIdeal.τ).loc Cert.AttnCtxReferenceIdeal.main_arg0)) (m ((c.tc : Thread Cert.AttnCtxReferenceIdeal.nD Cert.AttnCtxReferenceIdeal.τ).loc Cert.AttnCtxReferenceIdeal.main_arg1)) (m ((c.tc : Thread Cert.AttnCtxReferenceIdeal.nD Cert.AttnCtxReferenceIdeal.τ).loc Cert.AttnCtxReferenceIdeal.main_arg2)) (m ((c.tc : Thread Cert.AttnCtxReferenceIdeal.nD Cert.AttnCtxReferenceIdeal.τ).loc Cert.AttnCtxReferenceIdeal.main_arg3))).1 = (fun _ => 1#1)
    ∧ (Cert.Pre_finite6.fn (F := Ideal) (m ((c.tc : Thread Cert.AttnCtxReferenceIdeal.nD Cert.AttnCtxReferenceIdeal.τ).loc Cert.AttnCtxReferenceIdeal.main_arg0)) (m ((c.tc : Thread Cert.AttnCtxReferenceIdeal.nD Cert.AttnCtxReferenceIdeal.τ).loc Cert.AttnCtxReferenceIdeal.main_arg1)) (m ((c.tc : Thread Cert.AttnCtxReferenceIdeal.nD Cert.AttnCtxReferenceIdeal.τ).loc Cert.AttnCtxReferenceIdeal.main_arg2)) (m ((c.tc : Thread Cert.AttnCtxReferenceIdeal.nD Cert.AttnCtxReferenceIdeal.τ).loc Cert.AttnCtxReferenceIdeal.main_arg3))).2.1 = (fun _ => 1#1)
    ∧ (Cert.Pre_finite6.fn (F := Ideal) (m ((c.tc : Thread Cert.AttnCtxReferenceIdeal.nD Cert.AttnCtxReferenceIdeal.τ).loc Cert.AttnCtxReferenceIdeal.main_arg0)) (m ((c.tc : Thread Cert.AttnCtxReferenceIdeal.nD Cert.AttnCtxReferenceIdeal.τ).loc Cert.AttnCtxReferenceIdeal.main_arg1)) (m ((c.tc : Thread Cert.AttnCtxReferenceIdeal.nD Cert.AttnCtxReferenceIdeal.τ).loc Cert.AttnCtxReferenceIdeal.main_arg2)) (m ((c.tc : Thread Cert.AttnCtxReferenceIdeal.nD Cert.AttnCtxReferenceIdeal.τ).loc Cert.AttnCtxReferenceIdeal.main_arg3))).2.2 = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8)
      ∧ r.2.mem ((c.tc : Thread Cert.Outproj.nD Cert.Outproj.τ).loc Cert.Outproj.main_arg9) = m ((c.tc : Thread Cert.Outproj.nD Cert.Outproj.τ).loc Cert.Outproj.main_arg9)
      ∧ r.2.mem ((c.tc : Thread Cert.Outproj.nD Cert.Outproj.τ).loc Cert.Outproj.main_arg10) = m ((c.tc : Thread Cert.Outproj.nD Cert.Outproj.τ).loc Cert.Outproj.main_arg10)
      ∧ r.2.mem ((c.tc : Thread Cert.Outproj.nD Cert.Outproj.τ).loc Cert.Outproj.main_arg11) = m ((c.tc : Thread Cert.Outproj.nD Cert.Outproj.τ).loc Cert.Outproj.main_arg11))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
      ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10)
      ∧ r.2.mem ((c.tc : Thread Cert.OutprojIdeal.nD Cert.OutprojIdeal.τ).loc Cert.OutprojIdeal.main_arg11) = m ((c.tc : Thread Cert.OutprojIdeal.nD Cert.OutprojIdeal.τ).loc Cert.OutprojIdeal.main_arg11))
      ∧ r.2.sem = fun _ => 0)

def quiescent_OutprojIdeal_pre_finite3 [hOutprojIdeal : Cert.OutprojIdeal.Facts] [hPre_finite3 : Cert.Pre_finite3.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal_finite3 m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
      ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10)
      ∧ r.2.mem ((c.tc : Thread Cert.OutprojIdeal.nD Cert.OutprojIdeal.τ).loc Cert.OutprojIdeal.main_arg11) = m ((c.tc : Thread Cert.OutprojIdeal.nD Cert.OutprojIdeal.τ).loc Cert.OutprojIdeal.main_arg11))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5)
      ∧ r.2.mem ((c.tc : Thread Cert.OutprojReferenceIdeal.nD Cert.OutprojReferenceIdeal.τ).loc Cert.OutprojReferenceIdeal.main_arg6) = m ((c.tc : Thread Cert.OutprojReferenceIdeal.nD Cert.OutprojReferenceIdeal.τ).loc Cert.OutprojReferenceIdeal.main_arg6)
      ∧ r.2.mem ((c.tc : Thread Cert.OutprojReferenceIdeal.nD Cert.OutprojReferenceIdeal.τ).loc Cert.OutprojReferenceIdeal.main_arg7) = m ((c.tc : Thread Cert.OutprojReferenceIdeal.nD Cert.OutprojReferenceIdeal.τ).loc Cert.OutprojReferenceIdeal.main_arg7)
      ∧ r.2.mem ((c.tc : Thread Cert.OutprojReferenceIdeal.nD Cert.OutprojReferenceIdeal.τ).loc Cert.OutprojReferenceIdeal.main_arg8) = m ((c.tc : Thread Cert.OutprojReferenceIdeal.nD Cert.OutprojReferenceIdeal.τ).loc Cert.OutprojReferenceIdeal.main_arg8)
      ∧ r.2.mem ((c.tc : Thread Cert.OutprojReferenceIdeal.nD Cert.OutprojReferenceIdeal.τ).loc Cert.OutprojReferenceIdeal.main_arg9) = m ((c.tc : Thread Cert.OutprojReferenceIdeal.nD Cert.OutprojReferenceIdeal.τ).loc Cert.OutprojReferenceIdeal.main_arg9)
      ∧ r.2.mem ((c.tc : Thread Cert.OutprojReferenceIdeal.nD Cert.OutprojReferenceIdeal.τ).loc Cert.OutprojReferenceIdeal.main_arg10) = m ((c.tc : Thread Cert.OutprojReferenceIdeal.nD Cert.OutprojReferenceIdeal.τ).loc Cert.OutprojReferenceIdeal.main_arg10)
      ∧ r.2.mem ((c.tc : Thread Cert.OutprojReferenceIdeal.nD Cert.OutprojReferenceIdeal.τ).loc Cert.OutprojReferenceIdeal.main_arg11) = m ((c.tc : Thread Cert.OutprojReferenceIdeal.nD Cert.OutprojReferenceIdeal.τ).loc Cert.OutprojReferenceIdeal.main_arg11))
      ∧ r.2.sem = fun _ => 0)

def quiescent_OutprojReferenceIdeal_pre_finite3 [hOutprojReferenceIdeal : Cert.OutprojReferenceIdeal.Facts] [hPre_finite3 : Cert.Pre_finite3.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal_finite3 m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5)
      ∧ r.2.mem ((c.tc : Thread Cert.OutprojReferenceIdeal.nD Cert.OutprojReferenceIdeal.τ).loc Cert.OutprojReferenceIdeal.main_arg6) = m ((c.tc : Thread Cert.OutprojReferenceIdeal.nD Cert.OutprojReferenceIdeal.τ).loc Cert.OutprojReferenceIdeal.main_arg6)
      ∧ r.2.mem ((c.tc : Thread Cert.OutprojReferenceIdeal.nD Cert.OutprojReferenceIdeal.τ).loc Cert.OutprojReferenceIdeal.main_arg7) = m ((c.tc : Thread Cert.OutprojReferenceIdeal.nD Cert.OutprojReferenceIdeal.τ).loc Cert.OutprojReferenceIdeal.main_arg7)
      ∧ r.2.mem ((c.tc : Thread Cert.OutprojReferenceIdeal.nD Cert.OutprojReferenceIdeal.τ).loc Cert.OutprojReferenceIdeal.main_arg8) = m ((c.tc : Thread Cert.OutprojReferenceIdeal.nD Cert.OutprojReferenceIdeal.τ).loc Cert.OutprojReferenceIdeal.main_arg8)
      ∧ r.2.mem ((c.tc : Thread Cert.OutprojReferenceIdeal.nD Cert.OutprojReferenceIdeal.τ).loc Cert.OutprojReferenceIdeal.main_arg9) = m ((c.tc : Thread Cert.OutprojReferenceIdeal.nD Cert.OutprojReferenceIdeal.τ).loc Cert.OutprojReferenceIdeal.main_arg9)
      ∧ r.2.mem ((c.tc : Thread Cert.OutprojReferenceIdeal.nD Cert.OutprojReferenceIdeal.τ).loc Cert.OutprojReferenceIdeal.main_arg10) = m ((c.tc : Thread Cert.OutprojReferenceIdeal.nD Cert.OutprojReferenceIdeal.τ).loc Cert.OutprojReferenceIdeal.main_arg10)
      ∧ r.2.mem ((c.tc : Thread Cert.OutprojReferenceIdeal.nD Cert.OutprojReferenceIdeal.τ).loc Cert.OutprojReferenceIdeal.main_arg11) = m ((c.tc : Thread Cert.OutprojReferenceIdeal.nD Cert.OutprojReferenceIdeal.τ).loc Cert.OutprojReferenceIdeal.main_arg11))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5)
      ∧ r.2.mem ((c.tc : Thread Cert.CombineReferenceIdeal.nD Cert.CombineReferenceIdeal.τ).loc Cert.CombineReferenceIdeal.main_arg6) = m ((c.tc : Thread Cert.CombineReferenceIdeal.nD Cert.CombineReferenceIdeal.τ).loc Cert.CombineReferenceIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_AttnCtx [hAttnCtx : Cert.AttnCtx.Facts] : Prop :=
  ∀ (m : (ℓ : Loc Cert.AttnCtx.nD Cert.AttnCtx.τ Cert.AttnCtx.sig) → Buf (Elt Bits) ℓ) (g : Dev Cert.AttnCtx.nD → PrngReg), Pre_AttnCtx m →
    θ_run (Cert.AttnCtx.defs (F := Bits)) (onTc (τ := Cert.AttnCtx.τ) (Cert.AttnCtx.main (F := Bits))) ⟨m, fun _ => 0, g⟩ (fun r => (∀ c : Dev Cert.AttnCtx.nD,
      r.2.mem ((c.tc : Thread Cert.AttnCtx.nD Cert.AttnCtx.τ).loc Cert.AttnCtx.main_arg0) = m ((c.tc : Thread Cert.AttnCtx.nD Cert.AttnCtx.τ).loc Cert.AttnCtx.main_arg0)
      ∧ r.2.mem ((c.tc : Thread Cert.AttnCtx.nD Cert.AttnCtx.τ).loc Cert.AttnCtx.main_arg1) = m ((c.tc : Thread Cert.AttnCtx.nD Cert.AttnCtx.τ).loc Cert.AttnCtx.main_arg1)
      ∧ r.2.mem ((c.tc : Thread Cert.AttnCtx.nD Cert.AttnCtx.τ).loc Cert.AttnCtx.main_arg2) = m ((c.tc : Thread Cert.AttnCtx.nD Cert.AttnCtx.τ).loc Cert.AttnCtx.main_arg2)
      ∧ r.2.mem ((c.tc : Thread Cert.AttnCtx.nD Cert.AttnCtx.τ).loc Cert.AttnCtx.main_arg3) = m ((c.tc : Thread Cert.AttnCtx.nD Cert.AttnCtx.τ).loc Cert.AttnCtx.main_arg3))
      ∧ r.2.sem = fun _ => 0)

def quiescent_AttnCtxIdeal [hAttnCtxIdeal : Cert.AttnCtxIdeal.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg), Pre_AttnCtxIdeal m →
    θ_run (Cert.AttnCtxIdeal.defs (F := Ideal)) (onTc (τ := Cert.AttnCtxIdeal.τ) (Cert.AttnCtxIdeal.main (F := Ideal))) ⟨m, fun _ => 0, g⟩ (fun r => (∀ c : Dev Cert.AttnCtxIdeal.nD,
      r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
      ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
      ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2)
      ∧ r.2.mem ((c.tc : Thread Cert.AttnCtxIdeal.nD Cert.AttnCtxIdeal.τ).loc Cert.AttnCtxIdeal.main_arg3) = m ((c.tc : Thread Cert.AttnCtxIdeal.nD Cert.AttnCtxIdeal.τ).loc Cert.AttnCtxIdeal.main_arg3))
      ∧ r.2.sem = fun _ => 0)

def quiescent_AttnCtxIdeal_pre_finite6 [hAttnCtxIdeal : Cert.AttnCtxIdeal.Facts] [hPre_finite6 : Cert.Pre_finite6.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg), Pre_AttnCtxIdeal_finite6 m →
    θ_run (Cert.AttnCtxIdeal.defs (F := Ideal)) (onTc (τ := Cert.AttnCtxIdeal.τ) (Cert.AttnCtxIdeal.main (F := Ideal))) ⟨m, fun _ => 0, g⟩ (fun r => (∀ c : Dev Cert.AttnCtxIdeal.nD,
      r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
      ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
      ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2)
      ∧ r.2.mem ((c.tc : Thread Cert.AttnCtxIdeal.nD Cert.AttnCtxIdeal.τ).loc Cert.AttnCtxIdeal.main_arg3) = m ((c.tc : Thread Cert.AttnCtxIdeal.nD Cert.AttnCtxIdeal.τ).loc Cert.AttnCtxIdeal.main_arg3))
      ∧ r.2.sem = fun _ => 0)

def quiescent_AttnCtxReferenceIdeal [hAttnCtxReferenceIdeal : Cert.AttnCtxReferenceIdeal.Facts] : Prop :=
  ∀ (m : (ℓ : Loc Cert.AttnCtxReferenceIdeal.nD Cert.AttnCtxReferenceIdeal.τ Cert.AttnCtxReferenceIdeal.sig) → Buf (Elt Ideal) ℓ) (g : Dev Cert.AttnCtxReferenceIdeal.nD → PrngReg), Pre_AttnCtxReferenceIdeal m →
    θ_run (Cert.AttnCtxReferenceIdeal.defs (F := Ideal)) (onTc (τ := Cert.AttnCtxReferenceIdeal.τ) (Cert.AttnCtxReferenceIdeal.main (F := Ideal))) ⟨m, fun _ => 0, g⟩ (fun r => (∀ c : Dev Cert.AttnCtxReferenceIdeal.nD,
      r.2.mem ((c.tc : Thread Cert.AttnCtxReferenceIdeal.nD Cert.AttnCtxReferenceIdeal.τ).loc Cert.AttnCtxReferenceIdeal.main_arg0) = m ((c.tc : Thread Cert.AttnCtxReferenceIdeal.nD Cert.AttnCtxReferenceIdeal.τ).loc Cert.AttnCtxReferenceIdeal.main_arg0)
      ∧ r.2.mem ((c.tc : Thread Cert.AttnCtxReferenceIdeal.nD Cert.AttnCtxReferenceIdeal.τ).loc Cert.AttnCtxReferenceIdeal.main_arg1) = m ((c.tc : Thread Cert.AttnCtxReferenceIdeal.nD Cert.AttnCtxReferenceIdeal.τ).loc Cert.AttnCtxReferenceIdeal.main_arg1)
      ∧ r.2.mem ((c.tc : Thread Cert.AttnCtxReferenceIdeal.nD Cert.AttnCtxReferenceIdeal.τ).loc Cert.AttnCtxReferenceIdeal.main_arg2) = m ((c.tc : Thread Cert.AttnCtxReferenceIdeal.nD Cert.AttnCtxReferenceIdeal.τ).loc Cert.AttnCtxReferenceIdeal.main_arg2)
      ∧ r.2.mem ((c.tc : Thread Cert.AttnCtxReferenceIdeal.nD Cert.AttnCtxReferenceIdeal.τ).loc Cert.AttnCtxReferenceIdeal.main_arg3) = m ((c.tc : Thread Cert.AttnCtxReferenceIdeal.nD Cert.AttnCtxReferenceIdeal.τ).loc Cert.AttnCtxReferenceIdeal.main_arg3))
      ∧ r.2.sem = fun _ => 0)

def quiescent_AttnCtxReferenceIdeal_pre_finite6 [hAttnCtxReferenceIdeal : Cert.AttnCtxReferenceIdeal.Facts] [hPre_finite6 : Cert.Pre_finite6.Facts] : Prop :=
  ∀ (m : (ℓ : Loc Cert.AttnCtxReferenceIdeal.nD Cert.AttnCtxReferenceIdeal.τ Cert.AttnCtxReferenceIdeal.sig) → Buf (Elt Ideal) ℓ) (g : Dev Cert.AttnCtxReferenceIdeal.nD → PrngReg), Pre_AttnCtxReferenceIdeal_finite6 m →
    θ_run (Cert.AttnCtxReferenceIdeal.defs (F := Ideal)) (onTc (τ := Cert.AttnCtxReferenceIdeal.τ) (Cert.AttnCtxReferenceIdeal.main (F := Ideal))) ⟨m, fun _ => 0, g⟩ (fun r => (∀ c : Dev Cert.AttnCtxReferenceIdeal.nD,
      r.2.mem ((c.tc : Thread Cert.AttnCtxReferenceIdeal.nD Cert.AttnCtxReferenceIdeal.τ).loc Cert.AttnCtxReferenceIdeal.main_arg0) = m ((c.tc : Thread Cert.AttnCtxReferenceIdeal.nD Cert.AttnCtxReferenceIdeal.τ).loc Cert.AttnCtxReferenceIdeal.main_arg0)
      ∧ r.2.mem ((c.tc : Thread Cert.AttnCtxReferenceIdeal.nD Cert.AttnCtxReferenceIdeal.τ).loc Cert.AttnCtxReferenceIdeal.main_arg1) = m ((c.tc : Thread Cert.AttnCtxReferenceIdeal.nD Cert.AttnCtxReferenceIdeal.τ).loc Cert.AttnCtxReferenceIdeal.main_arg1)
      ∧ r.2.mem ((c.tc : Thread Cert.AttnCtxReferenceIdeal.nD Cert.AttnCtxReferenceIdeal.τ).loc Cert.AttnCtxReferenceIdeal.main_arg2) = m ((c.tc : Thread Cert.AttnCtxReferenceIdeal.nD Cert.AttnCtxReferenceIdeal.τ).loc Cert.AttnCtxReferenceIdeal.main_arg2)
      ∧ r.2.mem ((c.tc : Thread Cert.AttnCtxReferenceIdeal.nD Cert.AttnCtxReferenceIdeal.τ).loc Cert.AttnCtxReferenceIdeal.main_arg3) = m ((c.tc : Thread Cert.AttnCtxReferenceIdeal.nD Cert.AttnCtxReferenceIdeal.τ).loc Cert.AttnCtxReferenceIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v12) = v0 c
          ∧ r.2.mem ((c.tc : Thread Cert.FfnReferenceIdeal.nD Cert.FfnReferenceIdeal.τ).loc Cert.FfnReferenceIdeal.main_v25) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Outproj_OutprojIdeal : Prop :=
  True

def algebraic_OutprojIdeal_OutprojReferenceIdeal_pre_finite3 [hOutprojIdeal : Cert.OutprojIdeal.Facts] [hOutprojReferenceIdeal : Cert.OutprojReferenceIdeal.Facts] [hPre_finite3 : Cert.Pre_finite3.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal_finite3 m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)
      ∧ m' ((c.tc : Thread Cert.OutprojReferenceIdeal.nD Cert.OutprojReferenceIdeal.τ).loc Cert.OutprojReferenceIdeal.main_arg4) = m ((c.tc : Thread Cert.OutprojIdeal.nD Cert.OutprojIdeal.τ).loc Cert.OutprojIdeal.main_arg4)
      ∧ m' ((c.tc : Thread Cert.OutprojReferenceIdeal.nD Cert.OutprojReferenceIdeal.τ).loc Cert.OutprojReferenceIdeal.main_arg5) = m ((c.tc : Thread Cert.OutprojIdeal.nD Cert.OutprojIdeal.τ).loc Cert.OutprojIdeal.main_arg5)
      ∧ m' ((c.tc : Thread Cert.OutprojReferenceIdeal.nD Cert.OutprojReferenceIdeal.τ).loc Cert.OutprojReferenceIdeal.main_arg6) = m ((c.tc : Thread Cert.OutprojIdeal.nD Cert.OutprojIdeal.τ).loc Cert.OutprojIdeal.main_arg6)
      ∧ m' ((c.tc : Thread Cert.OutprojReferenceIdeal.nD Cert.OutprojReferenceIdeal.τ).loc Cert.OutprojReferenceIdeal.main_arg7) = m ((c.tc : Thread Cert.OutprojIdeal.nD Cert.OutprojIdeal.τ).loc Cert.OutprojIdeal.main_arg7)
      ∧ m' ((c.tc : Thread Cert.OutprojReferenceIdeal.nD Cert.OutprojReferenceIdeal.τ).loc Cert.OutprojReferenceIdeal.main_arg8) = m ((c.tc : Thread Cert.OutprojIdeal.nD Cert.OutprojIdeal.τ).loc Cert.OutprojIdeal.main_arg8)
      ∧ m' ((c.tc : Thread Cert.OutprojReferenceIdeal.nD Cert.OutprojReferenceIdeal.τ).loc Cert.OutprojReferenceIdeal.main_arg9) = m ((c.tc : Thread Cert.OutprojIdeal.nD Cert.OutprojIdeal.τ).loc Cert.OutprojIdeal.main_arg9)
      ∧ m' ((c.tc : Thread Cert.OutprojReferenceIdeal.nD Cert.OutprojReferenceIdeal.τ).loc Cert.OutprojReferenceIdeal.main_arg10) = m ((c.tc : Thread Cert.OutprojIdeal.nD Cert.OutprojIdeal.τ).loc Cert.OutprojIdeal.main_arg10)
      ∧ m' ((c.tc : Thread Cert.OutprojReferenceIdeal.nD Cert.OutprojReferenceIdeal.τ).loc Cert.OutprojReferenceIdeal.main_arg11) = m ((c.tc : Thread Cert.OutprojIdeal.nD Cert.OutprojIdeal.τ).loc Cert.OutprojIdeal.main_arg11)) →
    ∃ (v0 : (c : Dev Cert.OutprojIdeal.nD) → Buf (Elt Ideal) ((c.tc : Thread Cert.OutprojIdeal.nD Cert.OutprojIdeal.τ).loc Cert.OutprojIdeal.main_v4_0)) (v1 : (c : Dev Cert.OutprojIdeal.nD) → Buf (Elt Ideal) ((c.tc : Thread Cert.OutprojIdeal.nD Cert.OutprojIdeal.τ).loc Cert.OutprojIdeal.main_v4_1)) (v2 : (c : Dev Cert.OutprojIdeal.nD) → Buf (Elt Ideal) ((c.tc : Thread Cert.OutprojIdeal.nD Cert.OutprojIdeal.τ).loc Cert.OutprojIdeal.main_v4_2)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v4_0) = v0 c
          ∧ r.2.mem ((c.tc : Thread Cert.OutprojIdeal.nD Cert.OutprojIdeal.τ).loc Cert.OutprojIdeal.main_v4_1) = v1 c
          ∧ r.2.mem ((c.tc : Thread Cert.OutprojIdeal.nD Cert.OutprojIdeal.τ).loc Cert.OutprojIdeal.main_v4_2) = v2 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
          ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
          ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10)
          ∧ r.2.mem ((c.tc : Thread Cert.OutprojIdeal.nD Cert.OutprojIdeal.τ).loc Cert.OutprojIdeal.main_arg11) = m ((c.tc : Thread Cert.OutprojIdeal.nD Cert.OutprojIdeal.τ).loc Cert.OutprojIdeal.main_arg11))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v83) = v0 c
          ∧ r.2.mem ((c.tc : Thread Cert.OutprojReferenceIdeal.nD Cert.OutprojReferenceIdeal.τ).loc Cert.OutprojReferenceIdeal.main_v92) = v1 c
          ∧ r.2.mem ((c.tc : Thread Cert.OutprojReferenceIdeal.nD Cert.OutprojReferenceIdeal.τ).loc Cert.OutprojReferenceIdeal.main_v96) = v2 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4)
          ∧ r.2.mem ((c.tc : Thread Cert.OutprojReferenceIdeal.nD Cert.OutprojReferenceIdeal.τ).loc Cert.OutprojReferenceIdeal.main_arg5) = m' ((c.tc : Thread Cert.OutprojReferenceIdeal.nD Cert.OutprojReferenceIdeal.τ).loc Cert.OutprojReferenceIdeal.main_arg5)
          ∧ r.2.mem ((c.tc : Thread Cert.OutprojReferenceIdeal.nD Cert.OutprojReferenceIdeal.τ).loc Cert.OutprojReferenceIdeal.main_arg6) = m' ((c.tc : Thread Cert.OutprojReferenceIdeal.nD Cert.OutprojReferenceIdeal.τ).loc Cert.OutprojReferenceIdeal.main_arg6)
          ∧ r.2.mem ((c.tc : Thread Cert.OutprojReferenceIdeal.nD Cert.OutprojReferenceIdeal.τ).loc Cert.OutprojReferenceIdeal.main_arg7) = m' ((c.tc : Thread Cert.OutprojReferenceIdeal.nD Cert.OutprojReferenceIdeal.τ).loc Cert.OutprojReferenceIdeal.main_arg7)
          ∧ r.2.mem ((c.tc : Thread Cert.OutprojReferenceIdeal.nD Cert.OutprojReferenceIdeal.τ).loc Cert.OutprojReferenceIdeal.main_arg8) = m' ((c.tc : Thread Cert.OutprojReferenceIdeal.nD Cert.OutprojReferenceIdeal.τ).loc Cert.OutprojReferenceIdeal.main_arg8)
          ∧ r.2.mem ((c.tc : Thread Cert.OutprojReferenceIdeal.nD Cert.OutprojReferenceIdeal.τ).loc Cert.OutprojReferenceIdeal.main_arg9) = m' ((c.tc : Thread Cert.OutprojReferenceIdeal.nD Cert.OutprojReferenceIdeal.τ).loc Cert.OutprojReferenceIdeal.main_arg9)
          ∧ r.2.mem ((c.tc : Thread Cert.OutprojReferenceIdeal.nD Cert.OutprojReferenceIdeal.τ).loc Cert.OutprojReferenceIdeal.main_arg10) = m' ((c.tc : Thread Cert.OutprojReferenceIdeal.nD Cert.OutprojReferenceIdeal.τ).loc Cert.OutprojReferenceIdeal.main_arg10)
          ∧ r.2.mem ((c.tc : Thread Cert.OutprojReferenceIdeal.nD Cert.OutprojReferenceIdeal.τ).loc Cert.OutprojReferenceIdeal.main_arg11) = m' ((c.tc : Thread Cert.OutprojReferenceIdeal.nD Cert.OutprojReferenceIdeal.τ).loc Cert.OutprojReferenceIdeal.main_arg11))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)
      ∧ m' ((c.tc : Thread Cert.CombineReferenceIdeal.nD Cert.CombineReferenceIdeal.τ).loc Cert.CombineReferenceIdeal.main_arg6) = m ((c.tc : Thread Cert.CombineIdeal.nD Cert.CombineIdeal.τ).loc Cert.CombineIdeal.main_arg6)) →
    ∃ (v0 : (c : Dev Cert.CombineIdeal.nD) → Buf (Elt Ideal) ((c.tc : Thread Cert.CombineIdeal.nD Cert.CombineIdeal.τ).loc Cert.CombineIdeal.main_v2)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v52) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5)
          ∧ r.2.mem ((c.tc : Thread Cert.CombineReferenceIdeal.nD Cert.CombineReferenceIdeal.τ).loc Cert.CombineReferenceIdeal.main_arg6) = m' ((c.tc : Thread Cert.CombineReferenceIdeal.nD Cert.CombineReferenceIdeal.τ).loc Cert.CombineReferenceIdeal.main_arg6))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v52) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_AttnCtx_AttnCtxIdeal : Prop :=
  IdealRules.named_const.Statement Cert.AttnCtxIdeal.κ "log2e" .f32 0x3FB8AA3B#32 (((Real.log 2)⁻¹ : ℝ) : EReal)

def algebraic_AttnCtxIdeal_AttnCtxReferenceIdeal_pre_finite6 [hAttnCtxIdeal : Cert.AttnCtxIdeal.Facts] [hAttnCtxReferenceIdeal : Cert.AttnCtxReferenceIdeal.Facts] [hPre_finite6 : Cert.Pre_finite6.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg)
    (m' : (ℓ : Loc Cert.AttnCtxReferenceIdeal.nD Cert.AttnCtxReferenceIdeal.τ Cert.AttnCtxReferenceIdeal.sig) → Buf (Elt Ideal) ℓ) (g' : Dev Cert.AttnCtxReferenceIdeal.nD → PrngReg), Pre_AttnCtxIdeal_finite6 m →
    (∀ c : Dev Cert.AttnCtxIdeal.nD,
      m' ((c.tc : Thread Cert.AttnCtxReferenceIdeal.nD Cert.AttnCtxReferenceIdeal.τ).loc Cert.AttnCtxReferenceIdeal.main_arg0) = m ((c.tc : Thread Cert.AttnCtxIdeal.nD Cert.AttnCtxIdeal.τ).loc Cert.AttnCtxIdeal.main_arg0)
      ∧ m' ((c.tc : Thread Cert.AttnCtxReferenceIdeal.nD Cert.AttnCtxReferenceIdeal.τ).loc Cert.AttnCtxReferenceIdeal.main_arg1) = m ((c.tc : Thread Cert.AttnCtxIdeal.nD Cert.AttnCtxIdeal.τ).loc Cert.AttnCtxIdeal.main_arg1)
      ∧ m' ((c.tc : Thread Cert.AttnCtxReferenceIdeal.nD Cert.AttnCtxReferenceIdeal.τ).loc Cert.AttnCtxReferenceIdeal.main_arg2) = m ((c.tc : Thread Cert.AttnCtxIdeal.nD Cert.AttnCtxIdeal.τ).loc Cert.AttnCtxIdeal.main_arg2)
      ∧ m' ((c.tc : Thread Cert.AttnCtxReferenceIdeal.nD Cert.AttnCtxReferenceIdeal.τ).loc Cert.AttnCtxReferenceIdeal.main_arg3) = m ((c.tc : Thread Cert.AttnCtxIdeal.nD Cert.AttnCtxIdeal.τ).loc Cert.AttnCtxIdeal.main_arg3)) →
    ∃ (v0 : (c : Dev Cert.AttnCtxIdeal.nD) → Buf (Elt Ideal) ((c.tc : Thread Cert.AttnCtxIdeal.nD Cert.AttnCtxIdeal.τ).loc Cert.AttnCtxIdeal.main_v4)),
      θ_run (Cert.AttnCtxIdeal.defs (F := Ideal)) (onTc (τ := Cert.AttnCtxIdeal.τ) (Cert.AttnCtxIdeal.main (F := Ideal))) ⟨m, fun _ => 0, g⟩ (fun r => ∀ c : Dev Cert.AttnCtxIdeal.nD,
          r.2.mem ((c.tc : Thread Cert.AttnCtxIdeal.nD Cert.AttnCtxIdeal.τ).loc Cert.AttnCtxIdeal.main_v4) = v0 c
          ∧ r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
          ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
          ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2)
          ∧ r.2.mem ((c.tc : Thread Cert.AttnCtxIdeal.nD Cert.AttnCtxIdeal.τ).loc Cert.AttnCtxIdeal.main_arg3) = m ((c.tc : Thread Cert.AttnCtxIdeal.nD Cert.AttnCtxIdeal.τ).loc Cert.AttnCtxIdeal.main_arg3))
      ∧ θ_run (Cert.AttnCtxReferenceIdeal.defs (F := Ideal)) (onTc (τ := Cert.AttnCtxReferenceIdeal.τ) (Cert.AttnCtxReferenceIdeal.main (F := Ideal))) ⟨m', fun _ => 0, g'⟩ (fun r => ∀ c : Dev Cert.AttnCtxReferenceIdeal.nD,
          r.2.mem ((c.tc : Thread Cert.AttnCtxReferenceIdeal.nD Cert.AttnCtxReferenceIdeal.τ).loc Cert.AttnCtxReferenceIdeal.main_v40) = v0 c
          ∧ r.2.mem ((c.tc : Thread Cert.AttnCtxReferenceIdeal.nD Cert.AttnCtxReferenceIdeal.τ).loc Cert.AttnCtxReferenceIdeal.main_arg0) = m' ((c.tc : Thread Cert.AttnCtxReferenceIdeal.nD Cert.AttnCtxReferenceIdeal.τ).loc Cert.AttnCtxReferenceIdeal.main_arg0)
          ∧ r.2.mem ((c.tc : Thread Cert.AttnCtxReferenceIdeal.nD Cert.AttnCtxReferenceIdeal.τ).loc Cert.AttnCtxReferenceIdeal.main_arg1) = m' ((c.tc : Thread Cert.AttnCtxReferenceIdeal.nD Cert.AttnCtxReferenceIdeal.τ).loc Cert.AttnCtxReferenceIdeal.main_arg1)
          ∧ r.2.mem ((c.tc : Thread Cert.AttnCtxReferenceIdeal.nD Cert.AttnCtxReferenceIdeal.τ).loc Cert.AttnCtxReferenceIdeal.main_arg2) = m' ((c.tc : Thread Cert.AttnCtxReferenceIdeal.nD Cert.AttnCtxReferenceIdeal.τ).loc Cert.AttnCtxReferenceIdeal.main_arg2)
          ∧ r.2.mem ((c.tc : Thread Cert.AttnCtxReferenceIdeal.nD Cert.AttnCtxReferenceIdeal.τ).loc Cert.AttnCtxReferenceIdeal.main_arg3) = m' ((c.tc : Thread Cert.AttnCtxReferenceIdeal.nD Cert.AttnCtxReferenceIdeal.τ).loc Cert.AttnCtxReferenceIdeal.main_arg3))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)
      ∧ m' ((c.tc : Thread Cert.AdaReferenceIdeal.nD Cert.AdaReferenceIdeal.τ).loc Cert.AdaReferenceIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v8) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3))

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v0) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v17) = v0 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hOutproj : Cert.Outproj.Facts) (hOutprojIdeal : Cert.OutprojIdeal.Facts) (hOutprojReferenceIdeal : Cert.OutprojReferenceIdeal.Facts) (hCombine : Cert.Combine.Facts) (hCombineIdeal : Cert.CombineIdeal.Facts) (hCombineReferenceIdeal : Cert.CombineReferenceIdeal.Facts) (hMerge : Cert.Merge.Facts) (hMergeIdeal : Cert.MergeIdeal.Facts) (hMergeReferenceIdeal : Cert.MergeReferenceIdeal.Facts) (hAttnCtx : Cert.AttnCtx.Facts) (hAttnCtxIdeal : Cert.AttnCtxIdeal.Facts) (hAttnCtxReferenceIdeal : Cert.AttnCtxReferenceIdeal.Facts) (hAda : Cert.Ada.Facts) (hAdaIdeal : Cert.AdaIdeal.Facts) (hAdaReferenceIdeal : Cert.AdaReferenceIdeal.Facts) (hGather : Cert.Gather.Facts) (hGatherIdeal : Cert.GatherIdeal.Facts) (hGatherReferenceIdeal : Cert.GatherReferenceIdeal.Facts) (hPre_finite : Cert.Pre_finite.Facts) (hPre_finite3 : Cert.Pre_finite3.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Outproj (hOutproj := hOutproj)
    ∧ quiescent_OutprojIdeal (hOutprojIdeal := hOutprojIdeal)
    ∧ quiescent_OutprojIdeal_pre_finite3 (hOutprojIdeal := hOutprojIdeal) (hPre_finite3 := hPre_finite3)
    ∧ quiescent_OutprojReferenceIdeal (hOutprojReferenceIdeal := hOutprojReferenceIdeal)
    ∧ quiescent_OutprojReferenceIdeal_pre_finite3 (hOutprojReferenceIdeal := hOutprojReferenceIdeal) (hPre_finite3 := hPre_finite3)
    ∧ quiescent_Combine (hCombine := hCombine)
    ∧ quiescent_CombineIdeal (hCombineIdeal := hCombineIdeal)
    ∧ quiescent_CombineReferenceIdeal (hCombineReferenceIdeal := hCombineReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_AttnCtx (hAttnCtx := hAttnCtx)
    ∧ quiescent_AttnCtxIdeal (hAttnCtxIdeal := hAttnCtxIdeal)
    ∧ quiescent_AttnCtxIdeal_pre_finite6 (hAttnCtxIdeal := hAttnCtxIdeal) (hPre_finite6 := hPre_finite6)
    ∧ quiescent_AttnCtxReferenceIdeal (hAttnCtxReferenceIdeal := hAttnCtxReferenceIdeal)
    ∧ quiescent_AttnCtxReferenceIdeal_pre_finite6 (hAttnCtxReferenceIdeal := hAttnCtxReferenceIdeal) (hPre_finite6 := hPre_finite6)
    ∧ quiescent_Ada (hAda := hAda)
    ∧ quiescent_AdaIdeal (hAdaIdeal := hAdaIdeal)
    ∧ quiescent_AdaReferenceIdeal (hAdaReferenceIdeal := hAdaReferenceIdeal)
    ∧ quiescent_Gather (hGather := hGather)
    ∧ quiescent_GatherIdeal (hGatherIdeal := hGatherIdeal)
    ∧ quiescent_GatherReferenceIdeal (hGatherReferenceIdeal := hGatherReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Outproj_OutprojIdeal
    ∧ algebraic_OutprojIdeal_OutprojReferenceIdeal_pre_finite3 (hOutprojIdeal := hOutprojIdeal) (hOutprojReferenceIdeal := hOutprojReferenceIdeal) (hPre_finite3 := hPre_finite3)
    ∧ preserves_Combine_CombineIdeal
    ∧ algebraic_CombineIdeal_CombineReferenceIdeal (hCombineIdeal := hCombineIdeal) (hCombineReferenceIdeal := hCombineReferenceIdeal)
    ∧ preserves_Merge_MergeIdeal
    ∧ algebraic_MergeIdeal_MergeReferenceIdeal (hMergeIdeal := hMergeIdeal) (hMergeReferenceIdeal := hMergeReferenceIdeal)
    ∧ preserves_AttnCtx_AttnCtxIdeal
    ∧ algebraic_AttnCtxIdeal_AttnCtxReferenceIdeal_pre_finite6 (hAttnCtxIdeal := hAttnCtxIdeal) (hAttnCtxReferenceIdeal := hAttnCtxReferenceIdeal) (hPre_finite6 := hPre_finite6)
    ∧ preserves_Ada_AdaIdeal
    ∧ algebraic_AdaIdeal_AdaReferenceIdeal (hAdaIdeal := hAdaIdeal) (hAdaReferenceIdeal := hAdaReferenceIdeal)
    ∧ preserves_Gather_GatherIdeal
    ∧ algebraic_GatherIdeal_GatherReferenceIdeal (hGatherIdeal := hGatherIdeal) (hGatherReferenceIdeal := hGatherReferenceIdeal)
-- ==== Pre_finite.lean ====
abbrev S8192x512 : Shape := ⟨2, ![8192, 512]⟩
abbrev S8192x128 : Shape := ⟨2, ![8192, 128]⟩
abbrev S4x4x512x2x64 : Shape := ⟨5, ![4, 4, 512, 2, 64]⟩
abbrev S4x8 : Shape := ⟨2, ![4, 8]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  bcast_S_S8192x128 : S_.BroadcastsInDim S8192x128 (![] : Fin 0 → Fin S8192x128.rank)
  bcast_S_S4x4x512x2x64 : S_.BroadcastsInDim S4x4x512x2x64 (![] : Fin 0 → Fin S4x4x512x2x64.rank)
  bcast_S_S4x8 : S_.BroadcastsInDim S4x8 (![] : Fin 0 → Fin S4x8.rank)

variable [Facts]

def fn {F : FTy → Type} [FloatOps F] (main_arg0 : FVec F S8192x512 .bf16) (main_arg1 : FVec F S8192x128 .bf16) (main_arg2 : FVec F S8192x128 .bf16) (main_arg3 : FVec F S4x4x512x2x64 .f32) (main_arg4 : FVec F S4x4x512x2x64 .f32) (main_arg5 : FVec F S4x8 .f32) : IVec S8192x512 1 × IVec S8192x128 1 × IVec S4x4x512x2x64 1 × IVec S4x8 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x128 .f32 := (extf .f32 · bitsLt_bf16_f32) main_arg1
  let main_v5 : FVec F S8192x128 .f32 := Host.absf main_v4
  let main_cst_0 : FVec F S_ .f32 := constant S_ .f32 0x7F800000#32
  let main_v6 : FVec F S8192x128 .f32 := broadcastInDim S8192x128 ![] bcast_S_S8192x128 main_cst_0
  let main_v7 : IVec S8192x128 1 := cmpf .olt main_v5 main_v6
  let main_v8 : FVec F S4x4x512x2x64 .f32 := Host.absf main_arg3
  let main_cst_1 : FVec F S_ .f32 := constant S_ .f32 0x7F800000#32
  let main_v9 : FVec F S4x4x512x2x64 .f32 := broadcastInDim S4x4x512x2x64 ![] bcast_S_S4x4x512x2x64 main_cst_1
  let main_v10 : IVec S4x4x512x2x64 1 := cmpf .olt main_v8 main_v9
  let main_v11 : FVec F S4x8 .f32 := Host.absf main_arg5
  let main_cst_2 : FVec F S_ .f32 := constant S_ .f32 0x7F800000#32
  let main_v12 : FVec F S4x8 .f32 := broadcastInDim S4x8 ![] bcast_S_S4x8 main_cst_2
  let main_v13 : IVec S4x8 1 := cmpf .olt main_v11 main_v12
  (main_v3, main_v7, main_v10, main_v13)
-- ==== Pre_finite3.lean ====
abbrev S8192x512 : Shape := ⟨2, ![8192, 512]⟩
abbrev S8192x256 : Shape := ⟨2, ![8192, 256]⟩
abbrev S2x8192x128 : Shape := ⟨3, ![2, 8192, 128]⟩
abbrev S4x256 : Shape := ⟨2, ![4, 256]⟩
abbrev S4x256x256 : Shape := ⟨3, ![4, 256, 256]⟩
abbrev S4x1024x1024 : Shape := ⟨3, ![4, 1024, 1024]⟩
abbrev S8192x1024 : Shape := ⟨2, ![8192, 1024]⟩
abbrev S4x8x6x1024 : Shape := ⟨4, ![4, 8, 6, 1024]⟩
abbrev S4x1024 : Shape := ⟨2, ![4, 1024]⟩
abbrev S4x1024x16 : Shape := ⟨3, ![4, 1024, 16]⟩
abbrev S_ : Shape := ⟨0, ![]⟩

class Facts : Prop where
  bcast_S_S4x8x6x1024 : S_.BroadcastsInDim S4x8x6x1024 (![] : Fin 0 → Fin S4x8x6x1024.rank)
  bcast_S_S4x1024 : S_.BroadcastsInDim S4x1024 (![] : Fin 0 → Fin S4x1024.rank)

variable [Facts]

def fn {F : FTy → Type} [FloatOps F] (main_arg0 : FVec F S8192x512 .bf16) (main_arg1 : FVec F S8192x256 .bf16) (main_arg2 : FVec F S2x8192x128 .f32) (main_arg3 : FVec F S2x8192x128 .f32) (main_arg4 : FVec F S4x256 .f32) (main_arg5 : FVec F S4x256x256 .f32) (main_arg6 : FVec F S4x1024x1024 .f32) (main_arg7 : FVec F S8192x1024 .f32) (main_arg8 : FVec F S4x8x6x1024 .f32) (main_arg9 : FVec F S4x1024 .f32) (main_arg10 : FVec F S4x1024 .f32) (main_arg11 : FVec F S4x1024x16 .f32) : IVec S4x8x6x1024 1 × IVec S4x1024 1 :=
  let main_v0 : FVec F S4x8x6x1024 .f32 := Host.absf main_arg8
  let main_cst : FVec F S_ .f32 := constant S_ .f32 0x7F800000#32
  let main_v1 : FVec F S4x8x6x1024 .f32 := broadcastInDim S4x8x6x1024 ![] bcast_S_S4x8x6x1024 main_cst
  let main_v2 : IVec S4x8x6x1024 1 := cmpf .olt main_v0 main_v1
  let main_v3 : FVec F S4x1024 .f32 := Host.absf main_arg10
  let main_cst_0 : FVec F S_ .f32 := constant S_ .f32 0x7F800000#32
  let main_v4 : FVec F S4x1024 .f32 := broadcastInDim S4x1024 ![] bcast_S_S4x1024 main_cst_0
  let main_v5 : IVec S4x1024 1 := cmpf .olt main_v3 main_v4
  (main_v2, main_v5)
-- ==== Pre_finite6.lean ====
abbrev S8192x512 : Shape := ⟨2, ![8192, 512]⟩
abbrev S8192x128 : Shape := ⟨2, ![8192, 128]⟩
abbrev S4x8 : Shape := ⟨2, ![4, 8]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  bcast_S_S8192x128 : S_.BroadcastsInDim S8192x128 (![] : Fin 0 → Fin S8192x128.rank)
  bcast_S_S4x8 : S_.BroadcastsInDim S4x8 (![] : Fin 0 → Fin S4x8.rank)

variable [Facts]

def fn {F : FTy → Type} [FloatOps F] (main_arg0 : FVec F S8192x512 .bf16) (main_arg1 : FVec F S8192x128 .bf16) (main_arg2 : FVec F S8192x128 .bf16) (main_arg3 : FVec F S4x8 .f32) : IVec S8192x512 1 × IVec S8192x128 1 × IVec S4x8 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x128 .f32 := (extf .f32 · bitsLt_bf16_f32) main_arg1
  let main_v5 : FVec F S8192x128 .f32 := Host.absf main_v4
  let main_cst_0 : FVec F S_ .f32 := constant S_ .f32 0x7F800000#32
  let main_v6 : FVec F S8192x128 .f32 := broadcastInDim S8192x128 ![] bcast_S_S8192x128 main_cst_0
  let main_v7 : IVec S8192x128 1 := cmpf .olt main_v5 main_v6
  let main_v8 : FVec F S4x8 .f32 := Host.absf main_arg3
  let main_cst_1 : FVec F S_ .f32 := constant S_ .f32 0x7F800000#32
  let main_v9 : FVec F S4x8 .f32 := broadcastInDim S4x8 ![] bcast_S_S4x8 main_cst_1
  let main_v10 : IVec S4x8 1 := cmpf .olt main_v8 main_v9
  (main_v3, main_v7, main_v10)
-- ==== Kernel.lean ====
abbrev S8192x512 : Shape := ⟨2, ![8192, 512]⟩
abbrev S8192x128 : Shape := ⟨2, ![8192, 128]⟩
abbrev S4x4x512x2x64 : Shape := ⟨5, ![4, 4, 512, 2, 64]⟩
abbrev S4x8 : Shape := ⟨2, ![4, 8]⟩
abbrev S4x4x2x64x512 : Shape := ⟨5, ![4, 4, 2, 64, 512]⟩
abbrev S4x4x128x512 : Shape := ⟨4, ![4, 4, 128, 512]⟩
abbrev S4x8x1 : Shape := ⟨3, ![4, 8, 1]⟩
abbrev S4x8x128 : Shape := ⟨3, ![4, 8, 128]⟩
abbrev S1x8x128 : Shape := ⟨3, ![1, 8, 128]⟩
abbrev S8x128 : Shape := ⟨2, ![8, 128]⟩
abbrev S128x512 : Shape := ⟨2, ![128, 512]⟩
abbrev S1024x128 : Shape := ⟨2, ![1024, 128]⟩
abbrev S1x1x128x512 : Shape := ⟨4, ![1, 1, 128, 512]⟩
abbrev S512x128 : Shape := ⟨2, ![512, 128]⟩
abbrev S128x128 : Shape := ⟨2, ![128, 128]⟩
abbrev S384x128 : Shape := ⟨2, ![384, 128]⟩
abbrev S128x64 : Shape := ⟨2, ![128, 64]⟩
abbrev S512x64 : Shape := ⟨2, ![512, 64]⟩
abbrev S384x64 : Shape := ⟨2, ![384, 64]⟩
abbrev S384x512 : Shape := ⟨2, ![384, 512]⟩
abbrev S512x512 : Shape := ⟨2, ![512, 512]⟩
abbrev S1x1 : Shape := ⟨2, ![1, 1]⟩
abbrev S1x128 : Shape := ⟨2, ![1, 128]⟩
abbrev S1x512 : Shape := ⟨2, ![1, 512]⟩
abbrev S512 : Shape := ⟨1, ![512]⟩
abbrev S16x1 : Shape := ⟨2, ![16, 1]⟩
abbrev S16x512 : Shape := ⟨2, ![16, 512]⟩
abbrev S128x256 : Shape := ⟨2, ![128, 256]⟩
abbrev S512x256 : Shape := ⟨2, ![512, 256]⟩
abbrev S16x256 : Shape := ⟨2, ![16, 256]⟩
abbrev S912x512 : Shape := ⟨2, ![912, 512]⟩
abbrev S912x256 : Shape := ⟨2, ![912, 256]⟩

abbrev nBuf : Space → Nat
  | .hbm => 15
  | .vmem => 15
  | .smem => 0
  | _ => 0

abbrev bufTy : (tb : Table) → Fin (tcTables nBuf tb) → BufTy
  | .hbm, ⟨0, _⟩ => ⟨S8192x512, .bf16⟩
  | .hbm, ⟨1, _⟩ => ⟨S8192x128, .bf16⟩
  | .hbm, ⟨2, _⟩ => ⟨S8192x128, .bf16⟩
  | .hbm, ⟨3, _⟩ => ⟨S4x4x512x2x64, .f32⟩
  | .hbm, ⟨4, _⟩ => ⟨S4x4x512x2x64, .f32⟩
  | .hbm, ⟨5, _⟩ => ⟨S4x8, .f32⟩
  | .hbm, ⟨6, _⟩ => ⟨S4x4x2x64x512, .f32⟩
  | .hbm, ⟨7, _⟩ => ⟨S4x4x128x512, .f32⟩
  | .hbm, ⟨8, _⟩ => ⟨S4x4x2x64x512, .f32⟩
  | .hbm, ⟨9, _⟩ => ⟨S4x4x128x512, .f32⟩
  | .hbm, ⟨10, _⟩ => ⟨S4x8x1, .f32⟩
  | .hbm, ⟨11, _⟩ => ⟨S4x8x128, .f32⟩
  | .hbm, ⟨12, _⟩ => ⟨S1x8x128, .f32⟩
  | .hbm, ⟨13, _⟩ => ⟨S8x128, .f32⟩
  | .hbm, ⟨14, _⟩ => ⟨S8192x512, .bf16⟩
  | .local _ .vmem, ⟨0, _⟩ => ⟨S128x512, .bf16⟩
  | .local _ .vmem, ⟨1, _⟩ => ⟨S128x512, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1x1x128x512, .f32⟩
  | .local _ .vmem, ⟨7, _⟩ => ⟨S1x1x128x512, .f32⟩
  | .local _ .vmem, ⟨8, _⟩ => ⟨S1x1x128x512, .f32⟩
  | .local _ .vmem, ⟨9, _⟩ => ⟨S1x1x128x512, .f32⟩
  | .local _ .vmem, ⟨10, _⟩ => ⟨S8x128, .f32⟩
  | .local _ .vmem, ⟨11, _⟩ => ⟨S128x512, .bf16⟩
  | .local _ .vmem, ⟨12, _⟩ => ⟨S128x512, .bf16⟩
  | .local _ .vmem, ⟨13, _⟩ => ⟨S512x128, .bf16⟩
  | .local _ .vmem, ⟨14, _⟩ => ⟨S512x128, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1_i32 : BitVec 32 := 1#32
  let v4 : BitVec 32 := Scalar.subi arg1 c1_i32
  let c0_i32_2 : BitVec 32 := 0#32
  let v5 : BitVec 32 := Scalar.maxsi v4 c0_i32_2
  let c128_i32 : BitVec 32 := 128#32
  let v6 : BitVec 32 := Scalar.muli v5 c128_i32
  v6
def k0_off1 (i : grid0.Coords) : Fin 2 → Nat :=
  let arg1 : BitVec 32 := BitVec.ofNat 32 (i 1).val
  let c1_i32 : BitVec 32 := 1#32
  let v4 : BitVec 32 := Scalar.subi arg1 c1_i32
  let c0_i32_2 : BitVec 32 := 0#32
  let v5 : BitVec 32 := Scalar.maxsi v4 c0_i32_2
  let c128_i32 : BitVec 32 := 128#32
  let v6 : BitVec 32 := Scalar.muli v5 c128_i32
  let v7 : BitVec 32 := v6
  let v8 : Index := Scalar.indexCast v7
  let c0_3 : Index := 0#32
  ![v8.toNat, 0]
def k0_mult2 (i : grid0.Coords) : BitVec 32 :=
  let arg1 : BitVec 32 := BitVec.ofNat 32 (i 1).val
  let c128_i32_5 : BitVec 32 := 128#32
  let v12 : BitVec 32 := Scalar.muli arg1 c128_i32_5
  v12
def k0_off2 (i : grid0.Coords) : Fin 2 → Nat :=
  let arg1 : BitVec 32 := BitVec.ofNat 32 (i 1).val
  let c128_i32_5 : BitVec 32 := 128#32
  let v12 : BitVec 32 := Scalar.muli arg1 c128_i32_5
  let v13 : BitVec 32 := v12
  let v14 : Index := Scalar.indexCast v13
  let c0_6 : Index := 0#32
  ![v14.toNat, 0]
def k0_mult3 (i : grid0.Coords) : BitVec 32 :=
  let arg1 : BitVec 32 := BitVec.ofNat 32 (i 1).val
  let c1_i32_8 : BitVec 32 := 1#32
  let v18 : BitVec 32 := Scalar.addi arg1 c1_i32_8
  let c7_i32 : BitVec 32 := 7#32
  let v19 : BitVec 32 := Scalar.minsi v18 c7_i32
  let c128_i32_9 : BitVec 32 := 128#32
  let v20 : BitVec 32 := Scalar.muli v19 c128_i32_9
  v20
def k0_off3 (i : grid0.Coords) : Fin 2 → Nat :=
  let arg1 : BitVec 32 := BitVec.ofNat 32 (i 1).val
  let c1_i32_8 : BitVec 32 := 1#32
  let v18 : BitVec 32 := Scalar.addi arg1 c1_i32_8
  let c7_i32 : BitVec 32 := 7#32
  let v19 : BitVec 32 := Scalar.minsi v18 c7_i32
  let c128_i32_9 : BitVec 32 := 128#32
  let v20 : BitVec 32 := Scalar.muli v19 c128_i32_9
  let v21 : BitVec 32 := v20
  let v22 : Index := Scalar.indexCast v21
  let c0_10 : Index := 0#32
  ![v22.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c32_i32 : BitVec 32 := 32#32
  let v1 : BitVec 32 := Scalar.addi c32_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c32_i32 : BitVec 32 := 32#32
  let v1 : BitVec 32 := Scalar.addi c32_i32 v0
  let v2 : BitVec 32 := Scalar.addi v1 arg1
  let c0_i32 : BitVec 32 := 0#32
  let c0_i32_0 : BitVec 32 := 0#32
  ![v2.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8192x512 : Shape := ⟨2, ![8192, 512]⟩
abbrev S8192x128 : Shape := ⟨2, ![8192, 128]⟩
abbrev S4x4x512x2x64 : Shape := ⟨5, ![4, 4, 512, 2, 64]⟩
abbrev S4x8 : Shape := ⟨2, ![4, 8]⟩
abbrev S4096x512 : Shape := ⟨2, ![4096, 512]⟩
abbrev S_ : Shape := ⟨0, ![]⟩
abbrev S4x1024x2x4x64 : Shape := ⟨5, ![4, 1024, 2, 4, 64]⟩
abbrev S4096x128 : Shape := ⟨2, ![4096, 128]⟩
abbrev S4x1024x2x64 : Shape := ⟨4, ![4, 1024, 2, 64]⟩
abbrev S4x1x512x2x64 : Shape := ⟨5, ![4, 1, 512, 2, 64]⟩
abbrev S4x512x2x64 : Shape := ⟨4, ![4, 512, 2, 64]⟩
abbrev S4x1536x2x64 : Shape := ⟨4, ![4, 1536, 2, 64]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S1024x512 : Shape := ⟨2, ![1024, 512]⟩
abbrev S1024x1536 : Shape := ⟨2, ![1024, 1536]⟩
abbrev S4x2x1536x1024x4 : Shape := ⟨5, ![4, 2, 1536, 1024, 4]⟩
abbrev S4x2x4x1024x1536 : Shape := ⟨5, ![4, 2, 4, 1024, 1536]⟩
abbrev S1x8 : Shape := ⟨2, ![1, 8]⟩
abbrev S8 : Shape := ⟨1, ![8]⟩
abbrev S1x2x4x1x1 : Shape := ⟨5, ![1, 2, 4, 1, 1]⟩
abbrev S4x2x4x1024x1 : Shape := ⟨5, ![4, 2, 4, 1024, 1]⟩
abbrev S4x2x4x1024x1537 : Shape := ⟨5, ![4, 2, 4, 1024, 1537]⟩
abbrev S4x2x4x1024 : Shape := ⟨4, ![4, 2, 4, 1024]⟩
abbrev S4x2x64x4x1024 : Shape := ⟨5, ![4, 2, 64, 4, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x128, .bf16⟩
  | .hbm, ⟨2, _⟩ => ⟨S8192x128, .bf16⟩
  | .hbm, ⟨3, _⟩ => ⟨S4x4x512x2x64, .f32⟩
  | .hbm, ⟨4, _⟩ => ⟨S4x4x512x2x64, .f32⟩
  | .hbm, ⟨5, _⟩ => ⟨S4x8, .f32⟩
  | .hbm, ⟨6, _⟩ => ⟨S8192x512, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S4x1024x2x4x64, .f32⟩
  | .hbm, ⟨16, _⟩ => ⟨S8192x128, .f32⟩
  | .hbm, ⟨17, _⟩ => ⟨S4096x128, .f32⟩
  | .hbm, ⟨18, _⟩ => ⟨S4x1024x2x64, .f32⟩
  | .hbm, ⟨19, _⟩ => ⟨S8192x128, .f32⟩
  | .hbm, ⟨20, _⟩ => ⟨S4096x128, .f32⟩
  | .hbm, ⟨21, _⟩ => ⟨S4x1024x2x64, .f32⟩
  | .hbm, ⟨22, _⟩ => ⟨S4x1x512x2x64, .f32⟩
  | .hbm, ⟨23, _⟩ => ⟨S4x512x2x64, .f32⟩
  | .hbm, ⟨24, _⟩ => ⟨S4x1536x2x64, .f32⟩
  | .hbm, ⟨25, _⟩ => ⟨S4x1x512x2x64, .f32⟩
  | .hbm, ⟨26, _⟩ => ⟨S4x512x2x64, .f32⟩
  | .hbm, ⟨27, _⟩ => ⟨S4x1536x2x64, .f32⟩
  | .hbm, ⟨28, _⟩ => ⟨S1024, .i32⟩
  | .hbm, ⟨29, _⟩ => ⟨S1x1024, .i32⟩
  | .hbm, ⟨30, _⟩ => ⟨S1024x1, .i32⟩
  | .hbm, ⟨31, _⟩ => ⟨S1024x1024, .i32⟩
  | .hbm, ⟨32, _⟩ => ⟨S1024x1024, .i32⟩
  | .hbm, ⟨33, _⟩ => ⟨S1024x1024, .i32⟩
  | .hbm, ⟨34, _⟩ => ⟨S1024x1024, .i32⟩
  | .hbm, ⟨35, _⟩ => ⟨S_, .i32⟩
  | .hbm, ⟨36, _⟩ => ⟨S1024x1024, .i32⟩
  | .hbm, ⟨37, _⟩ => ⟨S1024x1024, .i1⟩
  | .hbm, ⟨38, _⟩ => ⟨S_, .i1⟩
  | .hbm, ⟨39, _⟩ => ⟨S1024x512, .i1⟩
  | .hbm, ⟨40, _⟩ => ⟨S1024x1536, .i1⟩
  | .hbm, ⟨41, _⟩ => ⟨S4x2x1536x1024x4, .f32⟩
  | .hbm, ⟨42, _⟩ => ⟨S4x2x4x1024x1536, .f32⟩
  | .hbm, ⟨43, _⟩ => ⟨S_, .f32⟩
  | .hbm, ⟨44, _⟩ => ⟨S4x2x4x1024x1536, .f32⟩
  | .hbm, ⟨45, _⟩ => ⟨S4x2x4x1024x1536, .f32⟩
  | .hbm, ⟨46, _⟩ => ⟨S_, .f32⟩
  | .hbm, ⟨47, _⟩ => ⟨S_, .f32⟩
  | .hbm, ⟨48, _⟩ => ⟨S4x2x4x1024x1536, .i1⟩
  | .hbm, ⟨49, _⟩ => ⟨S4x2x4x1024x1536, .f32⟩
  | .hbm, ⟨50, _⟩ => ⟨S4x2x4x1024x1536, .f32⟩
  | .hbm, ⟨51, _⟩ => ⟨S1x8, .f32⟩
  | .hbm, ⟨52, _⟩ => ⟨S8, .f32⟩
  | .hbm, ⟨53, _⟩ => ⟨S1x2x4x1x1, .f32⟩
  | .hbm, ⟨54, _⟩ => ⟨S4x2x4x1024x1, .f32⟩
  | .hbm, ⟨55, _⟩ => ⟨S4x2x4x1024x1537, .f32⟩
  | .hbm, ⟨56, _⟩ => ⟨S_, .f32⟩
  | .hbm, ⟨57, _⟩ => ⟨S4x2x4x1024, .f32⟩
  | .hbm, ⟨58, _⟩ => ⟨S_, .f32⟩
  | .hbm, ⟨59, _⟩ => ⟨S4x2x4x1024, .f32⟩
  | .hbm, ⟨60, _⟩ => ⟨S4x2x4x1024, .f32⟩
  | .hbm, ⟨61, _⟩ => ⟨S4x2x4x1024x1, .f32⟩
  | .hbm, ⟨62, _⟩ => ⟨S4x2x4x1024x1537, .f32⟩
  | .hbm, ⟨63, _⟩ => ⟨S4x2x4x1024x1537, .f32⟩
  | .hbm, ⟨64, _⟩ => ⟨S4x2x4x1024x1537, .f32⟩
  | .hbm, ⟨65, _⟩ => ⟨S_, .f32⟩
  | .hbm, ⟨66, _⟩ => ⟨S4x2x4x1024, .f32⟩
  | .hbm, ⟨67, _⟩ => ⟨S4x2x4x1024x1, .f32⟩
  | .hbm, ⟨68, _⟩ => ⟨S4x2x4x1024x1537, .f32⟩
  | .hbm, ⟨69, _⟩ => ⟨S4x2x4x1024x1537, .f32⟩
  | .hbm, ⟨70, _⟩ => ⟨S4x2x4x1024x1536, .f32⟩
  | .hbm, ⟨71, _⟩ => ⟨S4x2x64x4x1024, .f32⟩
  | .hbm, ⟨72, _⟩ => ⟨S4x1024x2x4x64, .f32⟩
  | .hbm, ⟨73, _⟩ => ⟨S4096x512, .f32⟩
  | .hbm, ⟨74, _⟩ => ⟨S4096x512, .bf16⟩
  | .hbm, ⟨75, _⟩ => ⟨S4096x512, .bf16⟩
  | .hbm, ⟨76, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_v27 : Ref sig .tc := ⟨.hbm, 36, rfl⟩
abbrev main_v28 : Ref sig .tc := ⟨.hbm, 37, rfl⟩
abbrev main_c_1 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Ffn.lean ====
abbrev S16x512x1024 : Shape := ⟨3, ![16, 512, 1024]⟩
abbrev S4x16x1024x1024 : Shape := ⟨4, ![4, 16, 1024, 1024]⟩
abbrev S1x512x1024 : Shape := ⟨3, ![1, 512, 1024]⟩
abbrev S1x1x1024x1024 : Shape := ⟨4, ![1, 1, 1024, 1024]⟩
abbrev S1024x1024 : Shape := ⟨2, ![1024, 1024]⟩
abbrev S512x1024 : Shape := ⟨2, ![512, 1024]⟩

abbrev nBuf : Space → Nat
  | .hbm => 7
  | .vmem => 17
  | .smem => 0
  | _ => 0

abbrev bufTy : (tb : Table) → Fin (tcTables nBuf tb) → BufTy
  | .hbm, ⟨0, _⟩ => ⟨S16x512x1024, .bf16⟩
  | .hbm, ⟨1, _⟩ => ⟨S16x512x1024, .bf16⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S16x512x1024, .bf16⟩
  | .hbm, ⟨6, _⟩ => ⟨S16x512x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | _, _ => ⟨S16x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnReferenceIdeal.lean ====
abbrev S16x512x1024 : Shape := ⟨3, ![16, 512, 1024]⟩
abbrev S4x16x1024x1024 : Shape := ⟨4, ![4, 16, 1024, 1024]⟩
abbrev S1x16x1024x1024 : Shape := ⟨4, ![1, 16, 1024, 1024]⟩
abbrev S16x1024x1024 : Shape := ⟨3, ![16, 1024, 1024]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S16x512x1024, .bf16⟩
  | .hbm, ⟨1, _⟩ => ⟨S16x512x1024, .bf16⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S16x512x1024, .f32⟩
  | .hbm, ⟨6, _⟩ => ⟨S1x16x1024x1024, .f32⟩
  | .hbm, ⟨7, _⟩ => ⟨S16x1024x1024, .f32⟩
  | .hbm, ⟨8, _⟩ => ⟨S16x512x1024, .f32⟩
  | .hbm, ⟨9, _⟩ => ⟨S16x512x1024, .f32⟩
  | .hbm, ⟨10, _⟩ => ⟨S16x512x1024, .f32⟩
  | .hbm, ⟨11, _⟩ => ⟨S_, .f32⟩
  | .hbm, ⟨12, _⟩ => ⟨S16x512x1024, .f32⟩
  | .hbm, ⟨13, _⟩ => ⟨S16x512x1024, .f32⟩
  | .hbm, ⟨14, _⟩ => ⟨S_, .f32⟩
  | .hbm, ⟨15, _⟩ => ⟨S16x512x1024, .f32⟩
  | .hbm, ⟨16, _⟩ => ⟨S16x512x1024, .f32⟩
  | .hbm, ⟨17, _⟩ => ⟨S16x512x1024, .f32⟩
  | .hbm, ⟨18, _⟩ => ⟨S1x16x1024x1024, .f32⟩
  | .hbm, ⟨19, _⟩ => ⟨S16x1024x1024, .f32⟩
  | .hbm, ⟨20, _⟩ => ⟨S16x512x1024, .f32⟩
  | .hbm, ⟨21, _⟩ => ⟨S16x512x1024, .f32⟩
  | .hbm, ⟨22, _⟩ => ⟨S1x16x1024x1024, .f32⟩
  | .hbm, ⟨23, _⟩ => ⟨S16x1024x1024, .f32⟩
  | .hbm, ⟨24, _⟩ => ⟨S16x512x1024, .f32⟩
  | .hbm, ⟨25, _⟩ => ⟨S16x512x1024, .bf16⟩
  | .hbm, ⟨26, _⟩ => ⟨S16x512x1024, .f32⟩
  | .hbm, ⟨27, _⟩ => ⟨S1x16x1024x1024, .f32⟩
  | .hbm, ⟨28, _⟩ => ⟨S16x1024x1024, .f32⟩
  | .hbm, ⟨29, _⟩ => ⟨S16x512x1024, .f32⟩
  | .hbm, ⟨30, _⟩ => ⟨S16x512x1024, .f32⟩
  | .hbm, ⟨31, _⟩ => ⟨S16x512x1024, .f32⟩
  | .hbm, ⟨32, _⟩ => ⟨S_, .f32⟩
  | .hbm, ⟨33, _⟩ => ⟨S16x512x1024, .f32⟩
  | .hbm, ⟨34, _⟩ => ⟨S16x512x1024, .f32⟩
  | .hbm, ⟨35, _⟩ => ⟨S_, .f32⟩
  | .hbm, ⟨36, _⟩ => ⟨S16x512x1024, .f32⟩
  | .hbm, ⟨37, _⟩ => ⟨S16x512x1024, .f32⟩
  | .hbm, ⟨38, _⟩ => ⟨S16x512x1024, .f32⟩
  | .hbm, ⟨39, _⟩ => ⟨S1x16x1024x1024, .f32⟩
  | .hbm, ⟨40, _⟩ => ⟨S16x1024x1024, .f32⟩
  | .hbm, ⟨41, _⟩ => ⟨S16x512x1024, .f32⟩
  | .hbm, ⟨42, _⟩ => ⟨S16x512x1024, .f32⟩
  | .hbm, ⟨43, _⟩ => ⟨S1x16x1024x1024, .f32⟩
  | .hbm, ⟨44, _⟩ => ⟨S16x1024x1024, .f32⟩
  | .hbm, ⟨45, _⟩ => ⟨S16x512x1024, .f32⟩
  | .hbm, ⟨46, _⟩ => ⟨S16x512x1024, .bf16⟩
  | _, _ => ⟨S16x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩

abbrev nD : Nat := 1
abbrev τ : Topo := Topo.v7x

variable {F : FTy → Type} [FloatOps F]
-- ==== Outproj.lean ====
abbrev S8192x512 : Shape := ⟨2, ![8192, 512]⟩
abbrev S8192x256 : Shape := ⟨2, ![8192, 256]⟩
abbrev S2x8192x128 : Shape := ⟨3, ![2, 8192, 128]⟩
abbrev S4x256 : Shape := ⟨2, ![4, 256]⟩
abbrev S4x256x256 : Shape := ⟨3, ![4, 256, 256]⟩
abbrev S4x1024x1024 : Shape := ⟨3, ![4, 1024, 1024]⟩
abbrev S8192x1024 : Shape := ⟨2, ![8192, 1024]⟩
abbrev S4x8x6x1024 : Shape := ⟨4, ![4, 8, 6, 1024]⟩
abbrev S4x1024 : Shape := ⟨2, ![4, 1024]⟩
abbrev S4x1024x16 : Shape := ⟨3, ![4, 1024, 16]⟩
abbrev S4x16x1024 : Shape := ⟨3, ![4, 16, 1024]⟩
abbrev S4x1x1024 : Shape := ⟨3, ![4, 1, 1024]⟩
abbrev S4x1x256 : Shape := ⟨3, ![4, 1, 256]⟩
abbrev S16x8192 : Shape := ⟨2, ![16, 8192]⟩
abbrev S512x1024 : Shape := ⟨2, ![512, 1024]⟩
abbrev S512x512 : Shape := ⟨2, ![512, 512]⟩
abbrev S512x256 : Shape := ⟨2, ![512, 256]⟩
abbrev S2x512x128 : Shape := ⟨3, ![2, 512, 128]⟩
abbrev S1x1x256 : Shape := ⟨3, ![1, 1, 256]⟩
abbrev S1x256x256 : Shape := ⟨3, ![1, 256, 256]⟩
abbrev S1x1024x1024 : Shape := ⟨3, ![1, 1024, 1024]⟩
abbrev S1x1x6x1024 : Shape := ⟨4, ![1, 1, 6, 1024]⟩
abbrev S1x1x1024 : Shape := ⟨3, ![1, 1, 1024]⟩
abbrev S1x16x1024 : Shape := ⟨3, ![1, 16, 1024]⟩
abbrev S16x512 : Shape := ⟨2, ![16, 512]⟩
abbrev S1024x1024 : Shape := ⟨2, ![1024, 1024]⟩
abbrev S1x512x128 : Shape := ⟨3, ![1, 512, 128]⟩
abbrev S512x128 : Shape := ⟨2, ![512, 128]⟩
abbrev S1x256 : Shape := ⟨2, ![1, 256]⟩
abbrev S256x256 : Shape := ⟨2, ![256, 256]⟩
abbrev S256x1024 : Shape := ⟨2, ![256, 1024]⟩
abbrev S6x1024 : Shape := ⟨2, ![6, 1024]⟩
abbrev S1x1024 : Shape := ⟨2, ![1, 1024]⟩
abbrev S512 : Shape := ⟨1, ![512]⟩
abbrev S512x1 : Shape := ⟨2, ![512, 1]⟩
abbrev S16x1024 : Shape := ⟨2, ![16, 1024]⟩

abbrev nBuf : Space → Nat
  | .hbm => 19
  | .vmem => 25
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S2x8192x128, .f32⟩
  | .hbm, ⟨3, _⟩ => ⟨S2x8192x128, .f32⟩
  | .hbm, ⟨4, _⟩ => ⟨S4x256, .f32⟩
  | .hbm, ⟨5, _⟩ => ⟨S4x256x256, .f32⟩
  | .hbm, ⟨6, _⟩ => ⟨S4x1024x1024, .f32⟩
  | .hbm, ⟨7, _⟩ => ⟨S8192x1024, .f32⟩
  | .hbm, ⟨8, _⟩ => ⟨S4x8x6x1024, .f32⟩
  | .hbm, ⟨9, _⟩ => ⟨S4x1024, .f32⟩
  | .hbm, ⟨10, _⟩ => ⟨S4x1024, .f32⟩
  | .hbm, ⟨11, _⟩ => ⟨S4x1024x16, .f32⟩
  | .hbm, ⟨12, _⟩ => ⟨S4x16x1024, .f32⟩
  | .hbm, ⟨13, _⟩ => ⟨S4x1x1024, .f32⟩
  | .hbm, ⟨14, _⟩ => ⟨S4x1x1024, .f32⟩
  | .hbm, ⟨15, _⟩ => ⟨S4x1x256, .f32⟩
  | .hbm, ⟨16, _⟩ => ⟨S8192x1024, .f32⟩
  | .hbm, ⟨17, _⟩ => ⟨S8192x1024, .bf16⟩
  | .hbm, ⟨18, _⟩ => ⟨S16x8192, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S2x512x128, .f32⟩
  | .local _ .vmem, ⟨7, _⟩ => ⟨S2x512x128, .f32⟩
  | .local _ .vmem, ⟨8, _⟩ => ⟨S2x512x128, .f32⟩
  | .local _ .vmem, ⟨9, _⟩ => ⟨S2x512x128, .f32⟩
  | .local _ .vmem, ⟨10, _⟩ => ⟨S1x1x256, .f32⟩
  | .local _ .vmem, ⟨11, _⟩ => ⟨S1x256x256, .f32⟩
  | .local _ .vmem, ⟨12, _⟩ => ⟨S1x1024x1024, .f32⟩
  | .local _ .vmem, ⟨13, _⟩ => ⟨S1x1x6x1024, .f32⟩
  | .local _ .vmem, ⟨14, _⟩ => ⟨S1x1x6x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x16x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S16x512, .f32⟩
  | .local _ .vmem, ⟨23, _⟩ => ⟨S16x512, .f32⟩
  | .local _ .vmem, ⟨24, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c1_i32_7 : BitVec 32 := 1#32
  let c0_i32_8 : BitVec 32 := 0#32
  let c0_i32_9 : BitVec 32 := 0#32
  let c0_i32_10 : BitVec 32 := 0#32
  ![c1_i32_7.toNat, v21.toNat, c0_i32_8.toNat, c0_i32_9.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x16x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== OutprojReferenceIdeal.lean ====
abbrev S8192x512 : Shape := ⟨2, ![8192, 512]⟩
abbrev S8192x256 : Shape := ⟨2, ![8192, 256]⟩
abbrev S2x8192x128 : Shape := ⟨3, ![2, 8192, 128]⟩
abbrev S4x256 : Shape := ⟨2, ![4, 256]⟩
abbrev S4x256x256 : Shape := ⟨3, ![4, 256, 256]⟩
abbrev S4x1024x1024 : Shape := ⟨3, ![4, 1024, 1024]⟩
abbrev S8192x1024 : Shape := ⟨2, ![8192, 1024]⟩
abbrev S4x8x6x1024 : Shape := ⟨4, ![4, 8, 6, 1024]⟩
abbrev S4x1024 : Shape := ⟨2, ![4, 1024]⟩
abbrev S4x1024x16 : Shape := ⟨3, ![4, 1024, 16]⟩
abbrev S1x1x6x1024 : Shape := ⟨4, ![1, 1, 6, 1024]⟩
abbrev S1x6x1024 : Shape := ⟨3, ![1, 6, 1024]⟩
abbrev S1x4096x6x1024 : Shape := ⟨4, ![1, 4096, 6, 1024]⟩
abbrev S4096x6x1024 : Shape := ⟨3, ![4096, 6, 1024]⟩
abbrev S1x4x6x1024 : Shape := ⟨4, ![1, 4, 6, 1024]⟩
abbrev S4x6x1024 : Shape := ⟨3, ![4, 6, 1024]⟩
abbrev S4x1x6x1024 : Shape := ⟨4, ![4, 1, 6, 1024]⟩
abbrev S4x1024x6x1024 : Shape := ⟨4, ![4, 1024, 6, 1024]⟩
abbrev S8192x6x1024 : Shape := ⟨3, ![8192, 6, 1024]⟩
abbrev S8192x2x128 : Shape := ⟨3, ![8192, 2, 128]⟩
abbrev S1x256 : Shape := ⟨2, ![1, 256]⟩
abbrev S256 : Shape := ⟨1, ![256]⟩
abbrev S_ : Shape := ⟨0, ![]⟩
abbrev S1x256x256 : Shape := ⟨3, ![1, 256, 256]⟩
abbrev S256x256 : Shape := ⟨2, ![256, 256]⟩
abbrev S1x1024x1024 : Shape := ⟨3, ![1, 1024, 1024]⟩
abbrev S1024x1024 : Shape := ⟨2, ![1024, 1024]⟩
abbrev S8192x1x1024 : Shape := ⟨3, ![8192, 1, 1024]⟩
abbrev S1x1024 : Shape := ⟨2, ![1, 1024]⟩
abbrev S1024 : Shape := ⟨1, ![1024]⟩
abbrev S8192 : Shape := ⟨1, ![8192]⟩
abbrev S8192x1 : Shape := ⟨2, ![8192, 1]⟩
abbrev S1x1024x16 : Shape := ⟨3, ![1, 1024, 16]⟩
abbrev S1024x16 : Shape := ⟨2, ![1024, 16]⟩
abbrev S8192x16 : Shape := ⟨2, ![8192, 16]⟩
abbrev S16x8192 : Shape := ⟨2, ![16, 8192]⟩

abbrev nBuf : Space → Nat
  | .hbm => 122
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S2x8192x128, .f32⟩
  | .hbm, ⟨3, _⟩ => ⟨S2x8192x128, .f32⟩
  | .hbm, ⟨4, _⟩ => ⟨S4x256, .f32⟩
  | .hbm, ⟨5, _⟩ => ⟨S4x256x256, .f32⟩
  | .hbm, ⟨6, _⟩ => ⟨S4x1024x1024, .f32⟩
  | .hbm, ⟨7, _⟩ => ⟨S8192x1024, .f32⟩
  | .hbm, ⟨8, _⟩ => ⟨S4x8x6x1024, .f32⟩
  | .hbm, ⟨9, _⟩ => ⟨S4x1024, .f32⟩
  | .hbm, ⟨10, _⟩ => ⟨S4x1024, .f32⟩
  | .hbm, ⟨11, _⟩ => ⟨S4x1024x16, .f32⟩
  | .hbm, ⟨12, _⟩ => ⟨S1x1x6x1024, .f32⟩
  | .hbm, ⟨13, _⟩ => ⟨S1x6x1024, .f32⟩
  | .hbm, ⟨14, _⟩ => ⟨S1x1x6x1024, .f32⟩
  | .hbm, ⟨15, _⟩ => ⟨S1x4096x6x1024, .f32⟩
  | .hbm, ⟨16, _⟩ => ⟨S4096x6x1024, .f32⟩
  | .hbm, ⟨17, _⟩ => ⟨S1x4x6x1024, .f32⟩
  | .hbm, ⟨18, _⟩ => ⟨S4x6x1024, .f32⟩
  | .hbm, ⟨19, _⟩ => ⟨S4x1x6x1024, .f32⟩
  | .hbm, ⟨20, _⟩ => ⟨S4x1024x6x1024, .f32⟩
  | .hbm, ⟨21, _⟩ => ⟨S4096x6x1024, .f32⟩
  | .hbm, ⟨22, _⟩ => ⟨S8192x6x1024, .f32⟩
  | .hbm, ⟨23, _⟩ => ⟨S8192x2x128, .f32⟩
  | .hbm, ⟨24, _⟩ => ⟨S8192x256, .f32⟩
  | .hbm, ⟨25, _⟩ => ⟨S1x256, .f32⟩
  | .hbm, ⟨26, _⟩ => ⟨S256, .f32⟩
  | .hbm, ⟨27, _⟩ => ⟨S1x256, .f32⟩
  | .hbm, ⟨28, _⟩ => ⟨S8192x256, .f32⟩
  | .hbm, ⟨29, _⟩ => ⟨S8192x256, .f32⟩
  | .hbm, ⟨30, _⟩ => ⟨S8192x2x128, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S_, .f32⟩
  | .hbm, ⟨36, _⟩ => ⟨S8192x256, .f32⟩
  | .hbm, ⟨37, _⟩ => ⟨S8192x256, .f32⟩
  | .hbm, ⟨38, _⟩ => ⟨S8192x256, .f32⟩
  | .hbm, ⟨39, _⟩ => ⟨S_, .f32⟩
  | .hbm, ⟨40, _⟩ => ⟨S8192x256, .f32⟩
  | .hbm, ⟨41, _⟩ => ⟨S8192x256, .f32⟩
  | .hbm, ⟨42, _⟩ => ⟨S8192x256, .f32⟩
  | .hbm, ⟨43, _⟩ => ⟨S_, .f32⟩
  | .hbm, ⟨44, _⟩ => ⟨S8192x256, .f32⟩
  | .hbm, ⟨45, _⟩ => ⟨S8192x256, .f32⟩
  | .hbm, ⟨46, _⟩ => ⟨S_, .f32⟩
  | .hbm, ⟨47, _⟩ => ⟨S8192x256, .f32⟩
  | .hbm, ⟨48, _⟩ => ⟨S8192x256, .f32⟩
  | .hbm, ⟨49, _⟩ => ⟨S8192x256, .f32⟩
  | .hbm, ⟨50, _⟩ => ⟨S1x256x256, .f32⟩
  | .hbm, ⟨51, _⟩ => ⟨S256x256, .f32⟩
  | .hbm, ⟨52, _⟩ => ⟨S8192x256, .f32⟩
  | .hbm, ⟨53, _⟩ => ⟨S8192x256, .f32⟩
  | .hbm, ⟨54, _⟩ => ⟨S8192x256, .f32⟩
  | .hbm, ⟨55, _⟩ => ⟨S_, .f32⟩
  | .hbm, ⟨56, _⟩ => ⟨S8192x256, .f32⟩
  | .hbm, ⟨57, _⟩ => ⟨S8192x256, .f32⟩
  | .hbm, ⟨58, _⟩ => ⟨S_, .f32⟩
  | .hbm, ⟨59, _⟩ => ⟨S8192x256, .f32⟩
  | .hbm, ⟨60, _⟩ => ⟨S8192x256, .f32⟩
  | .hbm, ⟨61, _⟩ => ⟨S8192x256, .f32⟩
  | .hbm, ⟨62, _⟩ => ⟨S8192x512, .f32⟩
  | .hbm, ⟨63, _⟩ => ⟨S8192x256, .f32⟩
  | .hbm, ⟨64, _⟩ => ⟨S8192x1024, .f32⟩
  | .hbm, ⟨65, _⟩ => ⟨S1x1024x1024, .f32⟩
  | .hbm, ⟨66, _⟩ => ⟨S1024x1024, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S8192x1x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1x1024, .f32⟩
  | .hbm, ⟨76, _⟩ => ⟨S1024, .f32⟩
  | .hbm, ⟨77, _⟩ => ⟨S1x1024, .f32⟩
  | .hbm, ⟨78, _⟩ => ⟨S1024, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S8192x1, .f32⟩
  | .hbm, ⟨100, _⟩ => ⟨S8192x1024, .f32⟩
  | .hbm, ⟨101, _⟩ => ⟨S8192x1024, .f32⟩
  | .hbm, ⟨102, _⟩ => ⟨S1x1024, .f32⟩
  | .hbm, ⟨103, _⟩ => ⟨S8192x1024, .f32⟩
  | .hbm, ⟨104, _⟩ => ⟨S8192x1024, .f32⟩
  | .hbm, ⟨105, _⟩ => ⟨S1x1024, .f32⟩
  | .hbm, ⟨106, _⟩ => ⟨S8192x1024, .f32⟩
  | .hbm, ⟨107, _⟩ => ⟨S8192x1024, .f32⟩
  | .hbm, ⟨108, _⟩ => ⟨S8192x1x1024, .f32⟩
  | .hbm, ⟨109, _⟩ => ⟨S8192x1024, .f32⟩
  | .hbm, ⟨110, _⟩ => ⟨S_, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S8192x1x1024, .f32⟩
  | .hbm, ⟨115, _⟩ => ⟨S8192x1024, .f32⟩
  | .hbm, ⟨116, _⟩ => ⟨S8192x1024, .f32⟩
  | .hbm, ⟨117, _⟩ => ⟨S8192x1024, .bf16⟩
  | .hbm, ⟨118, _⟩ => ⟨S1x1024x16, .f32⟩
  | .hbm, ⟨119, _⟩ => ⟨S1024x16, .f32⟩
  | .hbm, ⟨120, _⟩ => ⟨S8192x16, .f32⟩
  | .hbm, ⟨121, _⟩ => ⟨S16x8192, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_1 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_6 : Ref sig .tc := ⟨.hbm, 79, rfl⟩
abbrev main_v60 : Ref sig .tc := ⟨.hbm, 80, rfl⟩
abbrev main_v61 : Ref sig .tc := ⟨.hbm, 81, rfl⟩
abbrev main_cst_7 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_8 : Ref sig .tc := ⟨.hbm, 88, rfl⟩
abbrev main_v67 : Ref sig .tc := ⟨.hbm, 89, rfl⟩
abbrev main_v68 : Ref sig .tc := ⟨.hbm, 90, rfl⟩
abbrev main_cst_9 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_10 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_11 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩

abbrev nD : Nat := 1
abbrev τ : Topo := Topo.v7x

variable {F : FTy → Type} [FloatOps F]
-- ==== Combine.lean ====
abbrev S16x4096 : Shape := ⟨2, ![16, 4096]⟩
abbrev S16x512x1024 : Shape := ⟨3, ![16, 512, 1024]⟩
abbrev S8192x1024 : Shape := ⟨2, ![8192, 1024]⟩
abbrev S4x8x6x1024 : Shape := ⟨4, ![4, 8, 6, 1024]⟩
abbrev S4x1024 : Shape := ⟨2, ![4, 1024]⟩
abbrev S4x1x1024 : Shape := ⟨3, ![4, 1, 1024]⟩
abbrev S4096x1024 : Shape := ⟨2, ![4096, 1024]⟩
abbrev S16x1024 : Shape := ⟨2, ![16, 1024]⟩
abbrev S16x128x1024 : Shape := ⟨3, ![16, 128, 1024]⟩
abbrev S1024x1024 : Shape := ⟨2, ![1024, 1024]⟩
abbrev S1x1x6x1024 : Shape := ⟨4, ![1, 1, 6, 1024]⟩
abbrev S1x1x1024 : Shape := ⟨3, ![1, 1, 1024]⟩
abbrev S128x1024 : Shape := ⟨2, ![128, 1024]⟩
abbrev S6x1024 : Shape := ⟨2, ![6, 1024]⟩
abbrev S1x1024 : Shape := ⟨2, ![1, 1024]⟩
abbrev S2048x1024 : Shape := ⟨2, ![2048, 1024]⟩
abbrev S1024 : Shape := ⟨1, ![1024]⟩
abbrev S1024x1 : Shape := ⟨2, ![1024, 1]⟩

abbrev nBuf : Space → Nat
  | .hbm => 10
  | .vmem => 14
  | .smem => 0
  | _ => 0

abbrev bufTy : (tb : Table) → Fin (tcTables nBuf tb) → BufTy
  | .hbm, ⟨0, _⟩ => ⟨S16x4096, .f32⟩
  | .hbm, ⟨1, _⟩ => ⟨S16x4096, .f32⟩
  | .hbm, ⟨2, _⟩ => ⟨S16x512x1024, .bf16⟩
  | .hbm, ⟨3, _⟩ => ⟨S8192x1024, .f32⟩
  | .hbm, ⟨4, _⟩ => ⟨S4x8x6x1024, .f32⟩
  | .hbm, ⟨5, _⟩ => ⟨S4x1024, .f32⟩
  | .hbm, ⟨6, _⟩ => ⟨S4x1024, .f32⟩
  | .hbm, ⟨7, _⟩ => ⟨S4x1x1024, .f32⟩
  | .hbm, ⟨8, _⟩ => ⟨S4x1x1024, .f32⟩
  | .hbm, ⟨9, _⟩ => ⟨S4096x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x128x1024, .bf16⟩
  | .local _ .vmem, ⟨5, _⟩ => ⟨S16x128x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1x6x1024, .f32⟩
  | .local _ .vmem, ⟨9, _⟩ => ⟨S1x1x6x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .f32⟩
  | .local _ .vmem, ⟨13, _⟩ => ⟨S1024x1024, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c4_i32 : BitVec 32 := 4#32
  let v1 : BitVec 32 := Scalar.addi c4_i32 v0
  let v2 : BitVec 32 := Scalar.addi v1 arg1
  let c0_i32 : BitVec 32 := 0#32
  let c0_i32_0 : BitVec 32 := 0#32
  ![v2.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c4_i32 : BitVec 32 := 4#32
  let v1 : BitVec 32 := Scalar.addi c4_i32 v0
  let v2 : BitVec 32 := Scalar.addi v1 arg1
  let c1024_i32 : BitVec 32 := 1024#32
  let v3 : BitVec 32 := Scalar.muli v2 c1024_i32
  let c4096_i32 : BitVec 32 := 4096#32
  let v4 : BitVec 1 := Scalar.cmpi .slt v3 c4096_i32
  let c4096_i32_0 : BitVec 32 := 4096#32
  let v5 : BitVec 32 := Scalar.subi v3 c4096_i32_0
  let c1024_i32_1 : BitVec 32 := 1024#32
  let v6 : BitVec 32 := Scalar.divsi v5 c1024_i32_1
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c0_i32_3 : BitVec 32 := 0#32
  let v12 : BitVec 1 := Scalar.cmpi .sgt c1024_i32_1 c0_i32_3
  let v13 : BitVec 32 := Scalar.extui v12
  let c0_i32_4 : BitVec 32 := 0#32
  let v14 : BitVec 1 := Scalar.cmpi .slt c1024_i32_1 c0_i32_4
  let v15 : BitVec 32 := Scalar.extui v14
  let v16 : BitVec 32 := Scalar.subi v13 v15
  let v17 : BitVec 1 := Scalar.cmpi .ne v11 v16
  let v18 : BitVec 32 := Scalar.remsi v5 c1024_i32_1
  let c0_i32_5 : BitVec 32 := 0#32
  let v19 : BitVec 1 := Scalar.cmpi .ne v18 c0_i32_5
  let v20 : BitVec 1 := Scalar.andi v17 v19
  let c1_i32_6 : BitVec 32 := 1#32
  let v21 : BitVec 32 := Scalar.subi v6 c1_i32_6
  let v22 : BitVec 32 := Scalar.select v20 v21 v6
  let c1_i32_7 : BitVec 32 := 1#32
  let v23 : BitVec 32 := Scalar.addi c1_i32_7 v22
  let c0_i32_8 : BitVec 32 := 0#32
  let v24 : BitVec 32 := Scalar.select v4 c0_i32_8 v23
  let c3_i32 : BitVec 32 := 3#32
  let c0_i32_9 : BitVec 32 := 0#32
  let c0_i32_10 : BitVec 32 := 0#32
  let c0_i32_11 : BitVec 32 := 0#32
  ![c3_i32.toNat, v24.toNat, c0_i32_9.toNat, c0_i32_10.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c4_i32 : BitVec 32 := 4#32
  let v1 : BitVec 32 := Scalar.addi c4_i32 v0
  let v2 : BitVec 32 := Scalar.addi v1 arg1
  let c4_i32_0 : BitVec 32 := 4#32
  let v3 : BitVec 32 := Scalar.subi v2 c4_i32_0
  let c0_i32 : BitVec 32 := 0#32
  let v4 : BitVec 32 := Scalar.addi v3 c0_i32
  let c0_i32_1 : BitVec 32 := 0#32
  let c0_i32_2 : BitVec 32 := 0#32
  ![v4.toNat, c0_i32_1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== CombineReferenceIdeal.lean ====
abbrev S16x4096 : Shape := ⟨2, ![16, 4096]⟩
abbrev S16x512x1024 : Shape := ⟨3, ![16, 512, 1024]⟩
abbrev S8192x1024 : Shape := ⟨2, ![8192, 1024]⟩
abbrev S4x8x6x1024 : Shape := ⟨4, ![4, 8, 6, 1024]⟩
abbrev S4x1024 : Shape := ⟨2, ![4, 1024]⟩
abbrev S4096x1024 : Shape := ⟨2, ![4096, 1024]⟩
abbrev S1x4x1x1024 : Shape := ⟨4, ![1, 4, 1, 1024]⟩
abbrev S4x1x1024 : Shape := ⟨3, ![4, 1, 1024]⟩
abbrev S16x4x1024x1 : Shape := ⟨4, ![16, 4, 1024, 1]⟩
abbrev S16x4x128x1024 : Shape := ⟨4, ![16, 4, 128, 1024]⟩
abbrev S128 : Shape := ⟨1, ![128]⟩
abbrev S_ : Shape := ⟨0, ![]⟩
abbrev S1x1x1x128 : Shape := ⟨4, ![1, 1, 1, 128]⟩
abbrev S16x4x1024x128 : Shape := ⟨4, ![16, 4, 1024, 128]⟩
abbrev S16x4x1024x1024 : Shape := ⟨4, ![16, 4, 1024, 1024]⟩
abbrev S4x1024x1024 : Shape := ⟨3, ![4, 1024, 1024]⟩
abbrev S1x1024 : Shape := ⟨2, ![1, 1024]⟩
abbrev S1024 : Shape := ⟨1, ![1024]⟩
abbrev S4x1024x1 : Shape := ⟨3, ![4, 1024, 1]⟩
abbrev S1x1x1024 : Shape := ⟨3, ![1, 1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S16x4096, .f32⟩
  | .hbm, ⟨2, _⟩ => ⟨S16x512x1024, .bf16⟩
  | .hbm, ⟨3, _⟩ => ⟨S8192x1024, .f32⟩
  | .hbm, ⟨4, _⟩ => ⟨S4x8x6x1024, .f32⟩
  | .hbm, ⟨5, _⟩ => ⟨S4x1024, .f32⟩
  | .hbm, ⟨6, _⟩ => ⟨S4x1024, .f32⟩
  | .hbm, ⟨7, _⟩ => ⟨S4096x1024, .f32⟩
  | .hbm, ⟨8, _⟩ => ⟨S1x4x1x1024, .f32⟩
  | .hbm, ⟨9, _⟩ => ⟨S4x1024, .f32⟩
  | .hbm, ⟨10, _⟩ => ⟨S4x1x1024, .f32⟩
  | .hbm, ⟨11, _⟩ => ⟨S16x4x1024x1, .f32⟩
  | .hbm, ⟨12, _⟩ => ⟨S16x4x1024x1, .f32⟩
  | .hbm, ⟨13, _⟩ => ⟨S16x512x1024, .f32⟩
  | .hbm, ⟨14, _⟩ => ⟨S16x4x128x1024, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S1x1x1x128, .f32⟩
  | .hbm, ⟨20, _⟩ => ⟨S16x4x1024x128, .f32⟩
  | .hbm, ⟨21, _⟩ => ⟨S16x4x1024x128, .f32⟩
  | .hbm, ⟨22, _⟩ => ⟨S16x4x1024x128, .i1⟩
  | .hbm, ⟨23, _⟩ => ⟨S_, .i32⟩
  | .hbm, ⟨24, _⟩ => ⟨S_, .f32⟩
  | .hbm, ⟨25, _⟩ => ⟨S16x4x1024x128, .f32⟩
  | .hbm, ⟨26, _⟩ => ⟨S16x4x1024x128, .f32⟩
  | .hbm, ⟨27, _⟩ => ⟨S16x4x1024x128, .f32⟩
  | .hbm, ⟨28, _⟩ => ⟨S16x4x1024x1024, .f32⟩
  | .hbm, ⟨29, _⟩ => ⟨S_, .f32⟩
  | .hbm, ⟨30, _⟩ => ⟨S4x1024x1024, .f32⟩
  | .hbm, ⟨31, _⟩ => ⟨S4x1024x1024, .f32⟩
  | .hbm, ⟨32, _⟩ => ⟨S_, .f32⟩
  | .hbm, ⟨33, _⟩ => ⟨S4x1024x1024, .f32⟩
  | .hbm, ⟨34, _⟩ => ⟨S4x1024x1024, .f32⟩
  | .hbm, ⟨35, _⟩ => ⟨S4x1024x1024, .f32⟩
  | .hbm, ⟨36, _⟩ => ⟨S4x1024x1024, .f32⟩
  | .hbm, ⟨37, _⟩ => ⟨S4x1024x1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S1024, .f32⟩
  | .hbm, ⟨42, _⟩ => ⟨S_, .f32⟩
  | .hbm, ⟨43, _⟩ => ⟨S4x1024, .f32⟩
  | .hbm, ⟨44, _⟩ => ⟨S4x1024x1, .f32⟩
  | .hbm, ⟨45, _⟩ => ⟨S_, .f32⟩
  | .hbm, ⟨46, _⟩ => ⟨S4x1024x1, .f32⟩
  | .hbm, ⟨47, _⟩ => ⟨S4x1024x1, .f32⟩
  | .hbm, ⟨48, _⟩ => ⟨S4x1024x1024, .f32⟩
  | .hbm, ⟨49, _⟩ => ⟨S4x1024x1024, .f32⟩
  | .hbm, ⟨50, _⟩ => ⟨S4x1024x1024, .f32⟩
  | .hbm, ⟨51, _⟩ => ⟨S_, .f32⟩
  | .hbm, ⟨52, _⟩ => ⟨S4x1024, .f32⟩
  | .hbm, ⟨53, _⟩ => ⟨S4x1024x1, .f32⟩
  | .hbm, ⟨54, _⟩ => ⟨S_, .f32⟩
  | .hbm, ⟨55, _⟩ => ⟨S4x1024x1, .f32⟩
  | .hbm, ⟨56, _⟩ => ⟨S4x1024x1, .f32⟩
  | .hbm, ⟨57, _⟩ => ⟨S4x1024x1024, .f32⟩
  | .hbm, ⟨58, _⟩ => ⟨S4x1024x1024, .f32⟩
  | .hbm, ⟨59, _⟩ => ⟨S_, .f32⟩
  | .hbm, ⟨60, _⟩ => ⟨S4x1024x1, .f32⟩
  | .hbm, ⟨61, _⟩ => ⟨S4x1024x1, .f32⟩
  | .hbm, ⟨62, _⟩ => ⟨S4x1024x1, .f32⟩
  | .hbm, ⟨63, _⟩ => ⟨S4x1024x1024, .f32⟩
  | .hbm, ⟨64, _⟩ => ⟨S4x1024x1024, .f32⟩
  | .hbm, ⟨65, _⟩ => ⟨S1x1x1024, .f32⟩
  | .hbm, ⟨66, _⟩ => ⟨S4x1024x1024, .f32⟩
  | .hbm, ⟨67, _⟩ => ⟨S4x1024x1024, .f32⟩
  | .hbm, ⟨68, _⟩ => ⟨S1x1x1024, .f32⟩
  | .hbm, ⟨69, _⟩ => ⟨S4x1024x1024, .f32⟩
  | .hbm, ⟨70, _⟩ => ⟨S4x1024x1024, .f32⟩
  | .hbm, ⟨71, _⟩ => ⟨S4096x1024, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Merge.lean ====
abbrev S16x4096 : Shape := ⟨2, ![16, 4096]⟩
abbrev S16x512x1024 : Shape := ⟨3, ![16, 512, 1024]⟩
abbrev S8192x1024 : Shape := ⟨2, ![8192, 1024]⟩
abbrev S4x8x6x1024 : Shape := ⟨4, ![4, 8, 6, 1024]⟩
abbrev S4x1024 : Shape := ⟨2, ![4, 1024]⟩
abbrev S4x1x1024 : Shape := ⟨3, ![4, 1, 1024]⟩
abbrev S4096x1024 : Shape := ⟨2, ![4096, 1024]⟩
abbrev S16x1024 : Shape := ⟨2, ![16, 1024]⟩
abbrev S16x128x1024 : Shape := ⟨3, ![16, 128, 1024]⟩
abbrev S1024x1024 : Shape := ⟨2, ![1024, 1024]⟩
abbrev S1x1x6x1024 : Shape := ⟨4, ![1, 1, 6, 1024]⟩
abbrev S1x1x1024 : Shape := ⟨3, ![1, 1, 1024]⟩
abbrev S32x256 : Shape := ⟨2, ![32, 256]⟩
abbrev S6x1024 : Shape := ⟨2, ![6, 1024]⟩
abbrev S16x256 : Shape := ⟨2, ![16, 256]⟩
abbrev S1x256 : Shape := ⟨2, ![1, 256]⟩
abbrev S512x256 : Shape := ⟨2, ![512, 256]⟩
abbrev S16x32x1024 : Shape := ⟨3, ![16, 32, 1024]⟩
abbrev S512x1024 : Shape := ⟨2, ![512, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 10
  | .vmem => 14
  | .smem => 0
  | _ => 0

abbrev bufTy : (tb : Table) → Fin (tcTables nBuf tb) → BufTy
  | .hbm, ⟨0, _⟩ => ⟨S16x4096, .f32⟩
  | .hbm, ⟨1, _⟩ => ⟨S16x4096, .f32⟩
  | .hbm, ⟨2, _⟩ => ⟨S16x512x1024, .bf16⟩
  | .hbm, ⟨3, _⟩ => ⟨S8192x1024, .f32⟩
  | .hbm, ⟨4, _⟩ => ⟨S4x8x6x1024, .f32⟩
  | .hbm, ⟨5, _⟩ => ⟨S4x1024, .f32⟩
  | .hbm, ⟨6, _⟩ => ⟨S4x1024, .f32⟩
  | .hbm, ⟨7, _⟩ => ⟨S4x1x1024, .f32⟩
  | .hbm, ⟨8, _⟩ => ⟨S4x1x1024, .f32⟩
  | .hbm, ⟨9, _⟩ => ⟨S4096x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x128x1024, .bf16⟩
  | .local _ .vmem, ⟨5, _⟩ => ⟨S16x128x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1x6x1024, .f32⟩
  | .local _ .vmem, ⟨9, _⟩ => ⟨S1x1x6x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .f32⟩
  | .local _ .vmem, ⟨13, _⟩ => ⟨S1024x1024, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c1024_i32 : BitVec 32 := 1024#32
  let v3 : BitVec 32 := Scalar.muli v2 c1024_i32
  let c4096_i32 : BitVec 32 := 4096#32
  let v4 : BitVec 1 := Scalar.cmpi .slt v3 c4096_i32
  let c4096_i32_0 : BitVec 32 := 4096#32
  let v5 : BitVec 32 := Scalar.subi v3 c4096_i32_0
  let c1024_i32_1 : BitVec 32 := 1024#32
  let v6 : BitVec 32 := Scalar.divsi v5 c1024_i32_1
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c0_i32_4 : BitVec 32 := 0#32
  let v12 : BitVec 1 := Scalar.cmpi .sgt c1024_i32_1 c0_i32_4
  let v13 : BitVec 32 := Scalar.extui v12
  let c0_i32_5 : BitVec 32 := 0#32
  let v14 : BitVec 1 := Scalar.cmpi .slt c1024_i32_1 c0_i32_5
  let v15 : BitVec 32 := Scalar.extui v14
  let v16 : BitVec 32 := Scalar.subi v13 v15
  let v17 : BitVec 1 := Scalar.cmpi .ne v11 v16
  let v18 : BitVec 32 := Scalar.remsi v5 c1024_i32_1
  let c0_i32_6 : BitVec 32 := 0#32
  let v19 : BitVec 1 := Scalar.cmpi .ne v18 c0_i32_6
  let v20 : BitVec 1 := Scalar.andi v17 v19
  let c1_i32_7 : BitVec 32 := 1#32
  let v21 : BitVec 32 := Scalar.subi v6 c1_i32_7
  let v22 : BitVec 32 := Scalar.select v20 v21 v6
  let c1_i32_8 : BitVec 32 := 1#32
  let v23 : BitVec 32 := Scalar.addi c1_i32_8 v22
  let c0_i32_9 : BitVec 32 := 0#32
  let v24 : BitVec 32 := Scalar.select v4 c0_i32_9 v23
  let c3_i32 : BitVec 32 := 3#32
  let c0_i32_10 : BitVec 32 := 0#32
  let c0_i32_11 : BitVec 32 := 0#32
  let c0_i32_12 : BitVec 32 := 0#32
  ![c3_i32.toNat, v24.toNat, c0_i32_10.toNat, c0_i32_11.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let v3 : BitVec 32 := Scalar.subi v2 c0_i32_0
  let c0_i32_1 : BitVec 32 := 0#32
  let v4 : BitVec 32 := Scalar.addi v3 c0_i32_1
  let c0_i32_2 : BitVec 32 := 0#32
  let c0_i32_3 : BitVec 32 := 0#32
  ![v4.toNat, c0_i32_2.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeReferenceIdeal.lean ====
abbrev S16x4096 : Shape := ⟨2, ![16, 4096]⟩
abbrev S16x512x1024 : Shape := ⟨3, ![16, 512, 1024]⟩
abbrev S8192x1024 : Shape := ⟨2, ![8192, 1024]⟩
abbrev S4x8x6x1024 : Shape := ⟨4, ![4, 8, 6, 1024]⟩
abbrev S4x1024 : Shape := ⟨2, ![4, 1024]⟩
abbrev S4096x1024 : Shape := ⟨2, ![4096, 1024]⟩
abbrev S1x1x1x1024 : Shape := ⟨4, ![1, 1, 1, 1024]⟩
abbrev S1024 : Shape := ⟨1, ![1024]⟩
abbrev S16x16x256x1 : Shape := ⟨4, ![16, 16, 256, 1]⟩
abbrev S16x16x32x1024 : Shape := ⟨4, ![16, 16, 32, 1024]⟩
abbrev S32 : Shape := ⟨1, ![32]⟩
abbrev S_ : Shape := ⟨0, ![]⟩
abbrev S1x1x1x32 : Shape := ⟨4, ![1, 1, 1, 32]⟩
abbrev S16x16x256x32 : Shape := ⟨4, ![16, 16, 256, 32]⟩
abbrev S16x16x256x1024 : Shape := ⟨4, ![16, 16, 256, 1024]⟩
abbrev S16x256x1024 : Shape := ⟨3, ![16, 256, 1024]⟩
abbrev S1x1x1024 : Shape := ⟨3, ![1, 1, 1024]⟩
abbrev S1x1024 : Shape := ⟨2, ![1, 1024]⟩
abbrev S16x256 : Shape := ⟨2, ![16, 256]⟩
abbrev S16x256x1 : Shape := ⟨3, ![16, 256, 1]⟩

abbrev nBuf : Space → Nat
  | .hbm => 72
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S16x4096, .f32⟩
  | .hbm, ⟨2, _⟩ => ⟨S16x512x1024, .bf16⟩
  | .hbm, ⟨3, _⟩ => ⟨S8192x1024, .f32⟩
  | .hbm, ⟨4, _⟩ => ⟨S4x8x6x1024, .f32⟩
  | .hbm, ⟨5, _⟩ => ⟨S4x1024, .f32⟩
  | .hbm, ⟨6, _⟩ => ⟨S4x1024, .f32⟩
  | .hbm, ⟨7, _⟩ => ⟨S4096x1024, .f32⟩
  | .hbm, ⟨8, _⟩ => ⟨S1x1x1x1024, .f32⟩
  | .hbm, ⟨9, _⟩ => ⟨S1024, .f32⟩
  | .hbm, ⟨10, _⟩ => ⟨S16x16x256x1, .f32⟩
  | .hbm, ⟨11, _⟩ => ⟨S16x16x256x1, .f32⟩
  | .hbm, ⟨12, _⟩ => ⟨S16x512x1024, .f32⟩
  | .hbm, ⟨13, _⟩ => ⟨S16x16x32x1024, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S1x1x1x32, .f32⟩
  | .hbm, ⟨19, _⟩ => ⟨S16x16x256x32, .f32⟩
  | .hbm, ⟨20, _⟩ => ⟨S16x16x256x32, .f32⟩
  | .hbm, ⟨21, _⟩ => ⟨S16x16x256x32, .i1⟩
  | .hbm, ⟨22, _⟩ => ⟨S_, .i32⟩
  | .hbm, ⟨23, _⟩ => ⟨S_, .f32⟩
  | .hbm, ⟨24, _⟩ => ⟨S16x16x256x32, .f32⟩
  | .hbm, ⟨25, _⟩ => ⟨S16x16x256x32, .f32⟩
  | .hbm, ⟨26, _⟩ => ⟨S16x16x256x32, .f32⟩
  | .hbm, ⟨27, _⟩ => ⟨S16x16x256x1024, .f32⟩
  | .hbm, ⟨28, _⟩ => ⟨S_, .f32⟩
  | .hbm, ⟨29, _⟩ => ⟨S16x256x1024, .f32⟩
  | .hbm, ⟨30, _⟩ => ⟨S16x256x1024, .f32⟩
  | .hbm, ⟨31, _⟩ => ⟨S_, .f32⟩
  | .hbm, ⟨32, _⟩ => ⟨S16x256x1024, .f32⟩
  | .hbm, ⟨33, _⟩ => ⟨S16x256x1024, .f32⟩
  | .hbm, ⟨34, _⟩ => ⟨S1x1x1024, .f32⟩
  | .hbm, ⟨35, _⟩ => ⟨S16x256x1024, .f32⟩
  | .hbm, ⟨36, _⟩ => ⟨S16x256x1024, .f32⟩
  | .hbm, ⟨37, _⟩ => ⟨S16x256x1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S1024, .f32⟩
  | .hbm, ⟨42, _⟩ => ⟨S_, .f32⟩
  | .hbm, ⟨43, _⟩ => ⟨S16x256, .f32⟩
  | .hbm, ⟨44, _⟩ => ⟨S16x256x1, .f32⟩
  | .hbm, ⟨45, _⟩ => ⟨S_, .f32⟩
  | .hbm, ⟨46, _⟩ => ⟨S16x256x1, .f32⟩
  | .hbm, ⟨47, _⟩ => ⟨S16x256x1, .f32⟩
  | .hbm, ⟨48, _⟩ => ⟨S16x256x1024, .f32⟩
  | .hbm, ⟨49, _⟩ => ⟨S16x256x1024, .f32⟩
  | .hbm, ⟨50, _⟩ => ⟨S16x256x1024, .f32⟩
  | .hbm, ⟨51, _⟩ => ⟨S_, .f32⟩
  | .hbm, ⟨52, _⟩ => ⟨S16x256, .f32⟩
  | .hbm, ⟨53, _⟩ => ⟨S16x256x1, .f32⟩
  | .hbm, ⟨54, _⟩ => ⟨S_, .f32⟩
  | .hbm, ⟨55, _⟩ => ⟨S16x256x1, .f32⟩
  | .hbm, ⟨56, _⟩ => ⟨S16x256x1, .f32⟩
  | .hbm, ⟨57, _⟩ => ⟨S16x256x1024, .f32⟩
  | .hbm, ⟨58, _⟩ => ⟨S16x256x1024, .f32⟩
  | .hbm, ⟨59, _⟩ => ⟨S_, .f32⟩
  | .hbm, ⟨60, _⟩ => ⟨S16x256x1, .f32⟩
  | .hbm, ⟨61, _⟩ => ⟨S16x256x1, .f32⟩
  | .hbm, ⟨62, _⟩ => ⟨S16x256x1, .f32⟩
  | .hbm, ⟨63, _⟩ => ⟨S16x256x1024, .f32⟩
  | .hbm, ⟨64, _⟩ => ⟨S16x256x1024, .f32⟩
  | .hbm, ⟨65, _⟩ => ⟨S1x1x1024, .f32⟩
  | .hbm, ⟨66, _⟩ => ⟨S16x256x1024, .f32⟩
  | .hbm, ⟨67, _⟩ => ⟨S16x256x1024, .f32⟩
  | .hbm, ⟨68, _⟩ => ⟨S1x1x1024, .f32⟩
  | .hbm, ⟨69, _⟩ => ⟨S16x256x1024, .f32⟩
  | .hbm, ⟨70, _⟩ => ⟨S16x256x1024, .f32⟩
  | .hbm, ⟨71, _⟩ => ⟨S4096x1024, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== AttnCtx.lean ====
abbrev S8192x512 : Shape := ⟨2, ![8192, 512]⟩
abbrev S8192x128 : Shape := ⟨2, ![8192, 128]⟩
abbrev S4x8 : Shape := ⟨2, ![4, 8]⟩
abbrev S4x8x1 : Shape := ⟨3, ![4, 8, 1]⟩
abbrev S4x8x128 : Shape := ⟨3, ![4, 8, 128]⟩
abbrev S1x8x128 : Shape := ⟨3, ![1, 8, 128]⟩
abbrev S8x128 : Shape := ⟨2, ![8, 128]⟩
abbrev S256x512 : Shape := ⟨2, ![256, 512]⟩
abbrev S256x128 : Shape := ⟨2, ![256, 128]⟩
abbrev S256x64 : Shape := ⟨2, ![256, 64]⟩
abbrev S1024x64 : Shape := ⟨2, ![1024, 64]⟩
abbrev S256x1024 : Shape := ⟨2, ![256, 1024]⟩
abbrev S1x1 : Shape := ⟨2, ![1, 1]⟩
abbrev S1x256 : Shape := ⟨2, ![1, 256]⟩
abbrev S1x1024 : Shape := ⟨2, ![1, 1024]⟩
abbrev S1024 : Shape := ⟨1, ![1024]⟩
abbrev S16x1 : Shape := ⟨2, ![16, 1]⟩
abbrev S16x1024 : Shape := ⟨2, ![16, 1024]⟩
abbrev S256x256 : Shape := ⟨2, ![256, 256]⟩
abbrev S16x256 : Shape := ⟨2, ![16, 256]⟩
abbrev S272x1024 : Shape := ⟨2, ![272, 1024]⟩
abbrev S272x256 : Shape := ⟨2, ![272, 256]⟩
abbrev S1024x256 : Shape := ⟨2, ![1024, 256]⟩
abbrev S1024x128 : Shape := ⟨2, ![1024, 128]⟩

abbrev nBuf : Space → Nat
  | .hbm => 9
  | .vmem => 9
  | .smem => 0
  | _ => 0

abbrev bufTy : (tb : Table) → Fin (tcTables nBuf tb) → BufTy
  | .hbm, ⟨0, _⟩ => ⟨S8192x512, .bf16⟩
  | .hbm, ⟨1, _⟩ => ⟨S8192x128, .bf16⟩
  | .hbm, ⟨2, _⟩ => ⟨S8192x128, .bf16⟩
  | .hbm, ⟨3, _⟩ => ⟨S4x8, .f32⟩
  | .hbm, ⟨4, _⟩ => ⟨S4x8x1, .f32⟩
  | .hbm, ⟨5, _⟩ => ⟨S4x8x128, .f32⟩
  | .hbm, ⟨6, _⟩ => ⟨S1x8x128, .f32⟩
  | .hbm, ⟨7, _⟩ => ⟨S8x128, .f32⟩
  | .hbm, ⟨8, _⟩ => ⟨S8192x512, .bf16⟩
  | .local _ .vmem, ⟨0, _⟩ => ⟨S256x512, .bf16⟩
  | .local _ .vmem, ⟨1, _⟩ => ⟨S256x512, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S8x128, .f32⟩
  | .local _ .vmem, ⟨7, _⟩ => ⟨S256x512, .bf16⟩
  | .local _ .vmem, ⟨8, _⟩ => ⟨S256x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnCtxIdeal.lean ====
variable {F : FTy → Type} [FloatOps F] [Named F]
def κ : String → Option EReal := fun
  | "log2e" => some (((Real.log 2)⁻¹ : ℝ) : EReal)
  | _ => none
-- ==== AttnCtxReferenceIdeal.lean ====
abbrev S8192x512 : Shape := ⟨2, ![8192, 512]⟩
abbrev S8192x128 : Shape := ⟨2, ![8192, 128]⟩
abbrev S4x8 : Shape := ⟨2, ![4, 8]⟩
abbrev S4096x512 : Shape := ⟨2, ![4096, 512]⟩
abbrev S_ : Shape := ⟨0, ![]⟩
abbrev S16x256x2x4x64 : Shape := ⟨5, ![16, 256, 2, 4, 64]⟩
abbrev S4096x128 : Shape := ⟨2, ![4096, 128]⟩
abbrev S16x256x2x64 : Shape := ⟨4, ![16, 256, 2, 64]⟩
abbrev S16x2x256x256x4 : Shape := ⟨5, ![16, 2, 256, 256, 4]⟩
abbrev S16x2x4x256x256 : Shape := ⟨5, ![16, 2, 4, 256, 256]⟩
abbrev S1x8 : Shape := ⟨2, ![1, 8]⟩
abbrev S8 : Shape := ⟨1, ![8]⟩
abbrev S1x2x4x1x1 : Shape := ⟨5, ![1, 2, 4, 1, 1]⟩
abbrev S16x2x4x256x1 : Shape := ⟨5, ![16, 2, 4, 256, 1]⟩
abbrev S16x2x4x256x257 : Shape := ⟨5, ![16, 2, 4, 256, 257]⟩
abbrev S16x2x4x256 : Shape := ⟨4, ![16, 2, 4, 256]⟩
abbrev S16x2x64x4x256 : Shape := ⟨5, ![16, 2, 64, 4, 256]⟩

abbrev nBuf : Space → Nat
  | .hbm => 51
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x128, .bf16⟩
  | .hbm, ⟨2, _⟩ => ⟨S8192x128, .bf16⟩
  | .hbm, ⟨3, _⟩ => ⟨S4x8, .f32⟩
  | .hbm, ⟨4, _⟩ => ⟨S8192x512, .f32⟩
  | .hbm, ⟨5, _⟩ => ⟨S4096x512, .f32⟩
  | .hbm, ⟨6, _⟩ => ⟨S_, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S16x256x2x4x64, .f32⟩
  | .hbm, ⟨14, _⟩ => ⟨S8192x128, .f32⟩
  | .hbm, ⟨15, _⟩ => ⟨S4096x128, .f32⟩
  | .hbm, ⟨16, _⟩ => ⟨S16x256x2x64, .f32⟩
  | .hbm, ⟨17, _⟩ => ⟨S8192x128, .f32⟩
  | .hbm, ⟨18, _⟩ => ⟨S4096x128, .f32⟩
  | .hbm, ⟨19, _⟩ => ⟨S16x256x2x64, .f32⟩
  | .hbm, ⟨20, _⟩ => ⟨S16x2x256x256x4, .f32⟩
  | .hbm, ⟨21, _⟩ => ⟨S16x2x4x256x256, .f32⟩
  | .hbm, ⟨22, _⟩ => ⟨S_, .f32⟩
  | .hbm, ⟨23, _⟩ => ⟨S16x2x4x256x256, .f32⟩
  | .hbm, ⟨24, _⟩ => ⟨S16x2x4x256x256, .f32⟩
  | .hbm, ⟨25, _⟩ => ⟨S1x8, .f32⟩
  | .hbm, ⟨26, _⟩ => ⟨S8, .f32⟩
  | .hbm, ⟨27, _⟩ => ⟨S1x2x4x1x1, .f32⟩
  | .hbm, ⟨28, _⟩ => ⟨S16x2x4x256x1, .f32⟩
  | .hbm, ⟨29, _⟩ => ⟨S16x2x4x256x257, .f32⟩
  | .hbm, ⟨30, _⟩ => ⟨S_, .f32⟩
  | .hbm, ⟨31, _⟩ => ⟨S16x2x4x256, .f32⟩
  | .hbm, ⟨32, _⟩ => ⟨S_, .f32⟩
  | .hbm, ⟨33, _⟩ => ⟨S16x2x4x256, .f32⟩
  | .hbm, ⟨34, _⟩ => ⟨S16x2x4x256, .f32⟩
  | .hbm, ⟨35, _⟩ => ⟨S16x2x4x256x1, .f32⟩
  | .hbm, ⟨36, _⟩ => ⟨S16x2x4x256x257, .f32⟩
  | .hbm, ⟨37, _⟩ => ⟨S16x2x4x256x257, .f32⟩
  | .hbm, ⟨38, _⟩ => ⟨S16x2x4x256x257, .f32⟩
  | .hbm, ⟨39, _⟩ => ⟨S_, .f32⟩
  | .hbm, ⟨40, _⟩ => ⟨S16x2x4x256, .f32⟩
  | .hbm, ⟨41, _⟩ => ⟨S16x2x4x256x1, .f32⟩
  | .hbm, ⟨42, _⟩ => ⟨S16x2x4x256x257, .f32⟩
  | .hbm, ⟨43, _⟩ => ⟨S16x2x4x256x257, .f32⟩
  | .hbm, ⟨44, _⟩ => ⟨S16x2x4x256x256, .f32⟩
  | .hbm, ⟨45, _⟩ => ⟨S16x2x64x4x256, .f32⟩
  | .hbm, ⟨46, _⟩ => ⟨S16x256x2x4x64, .f32⟩
  | .hbm, ⟨47, _⟩ => ⟨S4096x512, .f32⟩
  | .hbm, ⟨48, _⟩ => ⟨S4096x512, .bf16⟩
  | .hbm, ⟨49, _⟩ => ⟨S4096x512, .bf16⟩
  | .hbm, ⟨50, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Ada.lean ====
abbrev S4x1024 : Shape := ⟨2, ![4, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S4x1x6144, .f32⟩
  | .hbm, ⟨9, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaReferenceIdeal.lean ====
abbrev S4x1024 : Shape := ⟨2, ![4, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S4x6144x8, .f32⟩
  | .hbm, ⟨18, _⟩ => ⟨S4x8x6144, .f32⟩
  | .hbm, ⟨19, _⟩ => ⟨S4x1x6144, .f32⟩
  | .hbm, ⟨20, _⟩ => ⟨S4x8x6144, .f32⟩
  | .hbm, ⟨21, _⟩ => ⟨S4x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Gather.lean ====
abbrev S16x4096 : Shape := ⟨2, ![16, 4096]⟩
abbrev S8192x1024 : Shape := ⟨2, ![8192, 1024]⟩
abbrev S16x512x1024 : Shape := ⟨3, ![16, 512, 1024]⟩
abbrev S16x1024 : Shape := ⟨2, ![16, 1024]⟩
abbrev S1024x1024 : Shape := ⟨2, ![1024, 1024]⟩
abbrev S16x128x1024 : Shape := ⟨3, ![16, 128, 1024]⟩
abbrev S128x1024 : Shape := ⟨2, ![128, 1024]⟩
abbrev S1x1024 : Shape := ⟨2, ![1, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16x4096, .f32⟩
  | .hbm, ⟨1, _⟩ => ⟨S8192x1024, .bf16⟩
  | .hbm, ⟨2, _⟩ => ⟨S16x512x1024, .bf16⟩
  | .local _ .vmem, ⟨0, _⟩ => ⟨S16x1024, .f32⟩
  | .local _ .vmem, ⟨1, _⟩ => ⟨S16x1024, .f32⟩
  | .local _ .vmem, ⟨2, _⟩ => ⟨S1024x1024, .bf16⟩
  | .local _ .vmem, ⟨3, _⟩ => ⟨S1024x1024, .bf16⟩
  | .local _ .vmem, ⟨4, _⟩ => ⟨S16x128x1024, .bf16⟩
  | .local _ .vmem, ⟨5, _⟩ => ⟨S16x128x1024, .bf16⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GatherReferenceIdeal.lean ====
abbrev S16x4096 : Shape := ⟨2, ![16, 4096]⟩
abbrev S8192x1024 : Shape := ⟨2, ![8192, 1024]⟩
abbrev S16x4x1x1024 : Shape := ⟨4, ![16, 4, 1, 1024]⟩
abbrev S128 : Shape := ⟨1, ![128]⟩
abbrev S_ : Shape := ⟨0, ![]⟩
abbrev S128x1 : Shape := ⟨2, ![128, 1]⟩
abbrev S1x1x128x1 : Shape := ⟨4, ![1, 1, 128, 1]⟩
abbrev S16x4x128x1024 : Shape := ⟨4, ![16, 4, 128, 1024]⟩
abbrev S4096x1024 : Shape := ⟨2, ![4096, 1024]⟩
abbrev S1x4x1x1024x1024 : Shape := ⟨5, ![1, 4, 1, 1024, 1024]⟩
abbrev S16x4x128x1024x1 : Shape := ⟨5, ![16, 4, 128, 1024, 1]⟩
abbrev S16x4x128x1024x1024 : Shape := ⟨5, ![16, 4, 128, 1024, 1024]⟩
abbrev S16x512x1024 : Shape := ⟨3, ![16, 512, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S8192x1024, .bf16⟩
  | .hbm, ⟨2, _⟩ => ⟨S16x4x1x1024, .f32⟩
  | .hbm, ⟨3, _⟩ => ⟨S128, .i32⟩
  | .hbm, ⟨4, _⟩ => ⟨S_, .i32⟩
  | .hbm, ⟨5, _⟩ => ⟨S128, .i32⟩
  | .hbm, ⟨6, _⟩ => ⟨S128, .i32⟩
  | .hbm, ⟨7, _⟩ => ⟨S128, .f32⟩
  | .hbm, ⟨8, _⟩ => ⟨S128x1, .f32⟩
  | .hbm, ⟨9, _⟩ => ⟨S1x1x128x1, .f32⟩
  | .hbm, ⟨10, _⟩ => ⟨S16x4x128x1024, .f32⟩
  | .hbm, ⟨11, _⟩ => ⟨S16x4x128x1024, .f32⟩
  | .hbm, ⟨12, _⟩ => ⟨S16x4x128x1024, .i1⟩
  | .hbm, ⟨13, _⟩ => ⟨S8192x1024, .f32⟩
  | .hbm, ⟨14, _⟩ => ⟨S4096x1024, .f32⟩
  | .hbm, ⟨15, _⟩ => ⟨S1x4x1x1024x1024, .f32⟩
  | .hbm, ⟨16, _⟩ => ⟨S16x4x128x1024x1, .i1⟩
  | .hbm, ⟨17, _⟩ => ⟨S_, .f32⟩
  | .hbm, ⟨18, _⟩ => ⟨S_, .f32⟩
  | .hbm, ⟨19, _⟩ => ⟨S16x4x128x1024x1024, .i1⟩
  | .hbm, ⟨20, _⟩ => ⟨S16x4x128x1024x1024, .f32⟩
  | .hbm, ⟨21, _⟩ => ⟨S16x4x128x1024x1024, .f32⟩
  | .hbm, ⟨22, _⟩ => ⟨S16x4x128x1024x1024, .f32⟩
  | .hbm, ⟨23, _⟩ => ⟨S_, .f32⟩
  | .hbm, ⟨24, _⟩ => ⟨S16x4x128x1024, .f32⟩
  | .hbm, ⟨25, _⟩ => ⟨S16x512x1024, .f32⟩
  | .hbm, ⟨26, _⟩ => ⟨S16x512x1024, .bf16⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Proof.FfnExpert.lean ====
module

public import proofs.«01_k».proof.Proof.Gen.FfnIdeal.Value
public import proofs.«01_k».proof.Proof.Gen.FfnReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

variable (m : (ℓ : Loc nD τ sig) → Buf (Elt Ideal) ℓ)

/-- The layer's part of a stack of weights, as the reference cuts it out. -/
abbrev layerOf (w : FVec Ideal S4x16x1024x1024 .f32) :
    FVec Ideal Cert.FfnReferenceIdeal.S16x1024x1024 .f32 :=
  shapeCast _ (extractStridedSlice Cert.FfnReferenceIdeal.S1x16x1024x1024 ![1, 0, 0, 0] w
    Cert.FfnReferenceIdeal.Gen.slices_S4x16x1024x1024_S1x16x1024x1024_1_0_0_0)
    Cert.FfnReferenceIdeal.Gen.shapeCasts_S1x16x1024x1024_S16x1024x1024

/-- A product of tokens and weights, expert by expert. -/
abbrev perExpert (x : FVec Ideal S16x512x1024 .f32)
    (w : FVec Ideal S4x16x1024x1024 .f32) : FVec Ideal S16x512x1024 .f32 :=
  Host.dotGeneral
    Cert.FfnReferenceIdeal.dot_S16x512x1024_S16x1024x1024_S16x512x1024_2_1_1_2_0_0 none x
    (layerOf w)

/-- The array that holds one everywhere. -/
abbrev ones : FVec Ideal S16x512x1024 .f32 :=
  broadcastInDim Cert.FfnReferenceIdeal.S16x512x1024 ![]
    Cert.FfnReferenceIdeal.Gen.bcast_S_S16x512x1024
    (constant Cert.FfnReferenceIdeal.S_ .f32 0x3F800000#32)

/-- What the reference computes for one stream of tokens: every expert's gated unit. -/
abbrev gatedUnit (x : FVec Ideal S16x512x1024 .bf16)
    (wg wu wd : FVec Ideal S4x16x1024x1024 .f32) : FVec Ideal S16x512x1024 .bf16 :=
  truncf .bf16
    (perExpert
      (mulf
        (mulf (perExpert (extf .f32 x Cert.FfnReferenceIdeal.Gen.bitsLt_bf16_f32) wg)
          (Host.divf ones
            (addf ones (Host.exp (Host.negf
              (perExpert (extf .f32 x Cert.FfnReferenceIdeal.Gen.bitsLt_bf16_f32) wg))))))
        (perExpert (extf .f32 x Cert.FfnReferenceIdeal.Gen.bitsLt_bf16_f32) wu))
      wd)
    Cert.FfnReferenceIdeal.Gen.bitsLt_bf16_f32

/-- Grid point `t` works on expert `t`: where each window's block sits. -/
theorem placed : ∀ t : Fin cfg0.N,
    win0_0.index t = ![t.val, 0, 0] ∧ win0_1.index t = ![t.val, 0, 0]
    ∧ win0_2.index t = ![1, t.val, 0, 0] ∧ win0_3.index t = ![1, t.val, 0, 0]
    ∧ win0_4.index t = ![1, t.val, 0, 0]
    ∧ win0_5.index t = ![t.val, 0, 0] ∧ win0_6.index t = ![t.val, 0, 0] :=
  (by decide +kernel : ∀ t : Fin grid0.N, _)

/-- The first stream's array after the run is the reference's. -/
theorem first_stream (c : Dev nD) : (dats m 0 c).arrAt 5 (cfgs 0).N
    = gatedUnit (m ((c : Thread nD τ).loc main_arg0)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  unfold outsAt0
  frame_out
  pointwise [k0_pay1, k0_pay6, k0_pay3, k0_pay4, k0_pay5, gatedUnit, perExpert, layerOf, ones,
    Ideal.logistic]
  blk_point [iblk, V, placed t]

/-- The second stream's array after the run is the reference's. -/
theorem second_stream (c : Dev nD) : (dats m 0 c).arrAt 6 (cfgs 0).N
    = gatedUnit (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  unfold outsAt0
  frame_out
  pointwise [k0_pay2, k0_pay3, k0_pay4, k0_pay5, gatedUnit, perExpert, layerOf, ones,
    Ideal.logistic]
  blk_point [iblk, V, placed t]

end Cert.FfnIdeal.Value

end
-- ==== Proof.FfnClaim.lean ====
module

public import proofs.«01_k».proof.Defs
public import proofs.«01_k».proof.Proof.FfnExpert
public import Idealize.ShloMosaic.Lib.Claim

@[expose] public section

set_option maxRecDepth 16384

noncomputable section

open Idealize.ShloMosaic Idealize.SL.Sem

namespace Cert.FfnIdeal.Value

/-- The expert call and its reference end with the same two arrays. -/
theorem ffn_algebraic : Cert.algebraic_FfnIdeal_FfnReferenceIdeal := by
  pair_intro
  · run_from Cert.FfnIdeal.Gen.run_main m g
  · run_from Cert.FfnReferenceIdeal.Value.run m' g'
    · exact (first_stream m c).symm
    · exact (second_stream m c).symm

end Cert.FfnIdeal.Value

end
-- ==== Proof.Softmax.lean ====
module

public import Idealize.ShloMosaic.Lib.Pipeline.ValueKit

@[expose] public section

noncomputable section

open Idealize.ShloMosaic

/-! # A softmax does not depend on the maximum that is taken off its scores

Scores are extended reals that are not `⊤`; a masked score is `⊥` and weighs nothing. -/

namespace Attention

/-- Taking a real number off a score scales its power of two. -/
theorem exp2_sub {y : EReal} (hy : y ≠ ⊤) (a : ℝ) :
    Ideal.exp2 (y - (a : EReal)) = (((2 : ℝ) ^ (-a) : ℝ) : EReal) * Ideal.exp2 y := by
  induction y with
  | bot =>
    rw [EReal.bot_sub]
    show (0 : EReal) = _ * (0 : EReal)
    rw [mul_zero]
  | top => exact absurd rfl hy
  | coe r =>
    rw [← EReal.coe_sub]
    show ((Real.rpow 2 (r - a) : ℝ) : EReal) = _ * ((Real.rpow 2 r : ℝ) : EReal)
    rw [← EReal.coe_mul]
    congr 1
    show (2 : ℝ) ^ (r - a) = 2 ^ (-a) * 2 ^ r
    rw [← Real.rpow_add (by norm_num)]
    congr 1
    ring

/-- The natural exponential of a score times the logarithm of two is its power of two, scaled. -/
theorem exp_sub {y : EReal} (hy : y ≠ ⊤) (a : ℝ) :
    Ideal.exp (((Real.log 2 : ℝ) : EReal) * y - (a : EReal))
      = ((Real.exp (-a) : ℝ) : EReal) * Ideal.exp2 y := by
  have hlog : 0 < Real.log 2 := Real.log_pos (by norm_num)
  induction y with
  | bot =>
    rw [EReal.coe_mul_bot_of_pos hlog, EReal.bot_sub]
    show (0 : EReal) = _ * (0 : EReal)
    rw [mul_zero]
  | top => exact absurd rfl hy
  | coe r =>
    rw [← EReal.coe_mul, ← EReal.coe_sub]
    show ((Real.exp (Real.log 2 * r - a) : ℝ) : EReal) = _ * ((Real.rpow 2 r : ℝ) : EReal)
    rw [← EReal.coe_mul]
    congr 1
    show Real.exp (Real.log 2 * r - a) = Real.exp (-a) * (2 : ℝ) ^ r
    rw [Real.rpow_def_of_pos (by norm_num), ← Real.exp_add]
    congr 1
    ring

/-- The power of two of a score is a real number that is not negative. -/
theorem exp2_real {y : EReal} (hy : y ≠ ⊤) : ∃ r : ℝ, 0 ≤ r ∧ Ideal.exp2 y = (r : EReal) := by
  induction y with
  | bot => exact ⟨0, le_rfl, rfl⟩
  | top => exact absurd rfl hy
  | coe r => exact ⟨(2 : ℝ) ^ r, by positivity, rfl⟩

/-- The power of two of a real number is positive. -/
theorem exp2_pos (z : ℝ) : ∃ r : ℝ, 0 < r ∧ Ideal.exp2 (z : EReal) = (r : EReal) :=
  ⟨(2 : ℝ) ^ z, by positivity, rfl⟩

/-- A positive real factor comes out of a sum of extended reals. -/
theorem sum_factor {ι : Type} (s : Finset ι) {a : ℝ} (ha : 0 ≤ a) (f : ι → EReal) :
    ∑ i ∈ s, (a : EReal) * f i = (a : EReal) * ∑ i ∈ s, f i := by
  classical
  induction s using Finset.induction_on with
  | empty => simp
  | insert i s hi ih =>
    rw [Finset.sum_insert hi, Finset.sum_insert hi, ih,
      EReal.left_distrib_of_nonneg_of_ne_top (EReal.coe_nonneg.2 ha) (EReal.coe_ne_top a)]

/-- A positive real factor comes out of a sum of two. -/
theorem add_factor {a : ℝ} (ha : 0 ≤ a) (x y : EReal) :
    (a : EReal) * x + (a : EReal) * y = (a : EReal) * (x + y) :=
  (EReal.left_distrib_of_nonneg_of_ne_top (EReal.coe_nonneg.2 ha) (EReal.coe_ne_top a) x y).symm

/-- A sum of powers of two of scores is a real number that is not negative. -/
theorem sum_exp2_real {ι : Type} [Fintype ι] (y : ι → EReal) (hy : ∀ i, y i ≠ ⊤) :
    ∃ r : ℝ, 0 ≤ r ∧ ∑ i, Ideal.exp2 (y i) = (r : EReal) := by
  choose f hf0 hf using fun i => exp2_real (hy i)
  refine ⟨∑ i, f i, Finset.sum_nonneg fun i _ => hf0 i, ?_⟩
  simp only [hf]
  classical
  induction (Finset.univ : Finset ι) using Finset.induction_on with
  | empty => simp
  | insert i s hi ih => rw [Finset.sum_insert hi, Finset.sum_insert hi, EReal.coe_add, ih]

/-- A quotient by a positive real number does not change when both sides are scaled. -/
theorem div_scaled {a d : ℝ} (ha : 0 < a) (hd : 0 < d) (x : EReal) :
    Ideal.div ((a : EReal) * x) ((a : EReal) * (d : EReal)) = Ideal.div x (d : EReal) := by
  rw [← EReal.coe_mul, Ideal.div_coe (mul_pos ha hd).ne', Ideal.div_coe hd.ne', mul_comm (a : EReal) x,
    mul_assoc, ← EReal.coe_mul]
  congr 2
  field_simp

/-- The weighted mean of values under powers of two of their scores, a sink weighing with them. -/
def mean {ι : Type} [Fintype ι] (y w : ι → EReal) (z : ℝ) : EReal :=
  Ideal.div (∑ i, Ideal.exp2 (y i) * w i) (∑ i, Ideal.exp2 (y i) + Ideal.exp2 (z : EReal))

variable {ι : Type} [Fintype ι]

/-- Weights by powers of two, the same number taken off every score. -/
theorem mean_exp2 (y w : ι → EReal) (hy : ∀ i, y i ≠ ⊤) (z a : ℝ) :
    Ideal.div (∑ i, Ideal.exp2 (y i - (a : EReal)) * w i)
      (∑ i, Ideal.exp2 (y i - (a : EReal)) + Ideal.exp2 ((z : EReal) - (a : EReal))) = mean y w z := by
  obtain ⟨s, hs0, hs⟩ := sum_exp2_real y hy
  obtain ⟨r, hr0, hr⟩ := exp2_pos z
  have ha : (0 : ℝ) < 2 ^ (-a) := by positivity
  simp only [exp2_sub (hy _), exp2_sub (EReal.coe_ne_top z), mul_assoc, sum_factor _ ha.le,
    add_factor ha.le]
  unfold mean
  rw [hs, hr, ← EReal.coe_add]
  exact div_scaled ha (by positivity) _

/-- Weights by the natural exponential, each divided by the sum before it is used. -/
theorem mean_exp (y w : ι → EReal) (hy : ∀ i, y i ≠ ⊤) (z a : ℝ) :
    ∑ i, Ideal.div (Ideal.exp (((Real.log 2 : ℝ) : EReal) * y i - (a : EReal)))
        (∑ j, Ideal.exp (((Real.log 2 : ℝ) : EReal) * y j - (a : EReal))
          + Ideal.exp (((Real.log 2 : ℝ) : EReal) * (z : EReal) - (a : EReal))) * w i = mean y w z := by
  obtain ⟨s, hs0, hs⟩ := sum_exp2_real y hy
  obtain ⟨r, hr0, hr⟩ := exp2_pos z
  have ha : (0 : ℝ) < Real.exp (-a) := Real.exp_pos _
  simp only [exp_sub (hy _), exp_sub (EReal.coe_ne_top z), sum_factor _ ha.le, add_factor ha.le]
  unfold mean
  rw [hs, hr, ← EReal.coe_add]
  have hd : 0 < s + r := by positivity
  simp only [div_scaled ha hd, Ideal.div_coe hd.ne']
  rw [mul_comm (∑ i, _) _, ← sum_factor _ (by positivity)]
  refine Finset.sum_congr rfl fun i _ => ?_
  rw [mul_comm (Ideal.exp2 _) _, mul_assoc]

/-- A maximum over finitely many scores and a floor that is not `⊤` is not `⊤`. -/
theorem fold_ne_top (b : EReal) (hb : b ≠ ⊤) (y : ι → EReal) (hy : ∀ i, y i ≠ ⊤) :
    Finset.univ.fold max b y ≠ ⊤ :=
  ((Finset.fold_max_lt ⊤).2 ⟨lt_top_iff_ne_top.2 hb, fun i _ => lt_top_iff_ne_top.2 (hy i)⟩).ne

end Attention

end
-- ==== Proof.AttnGroup.lean ====
module

public import proofs.«01_k».proof.Proof.Gen.KernelIdeal.Value
public import Idealize.ShloMosaic.Lib.Pipeline.ValueKit
public import proofs.«01_k».proof.Proof.Softmax

@[expose] public section

set_option maxRecDepth 16384

noncomputable section

open Idealize.ShloMosaic Idealize.ShloMosaic.TcCoe Idealize.SL.Sem
open Idealize.ShloMosaic.Pipeline (Dat)

/-! # One group of heads on one block of queries

The kernel stacks the four heads of a key-value head into one axis of 512 columns.  From the scores
of the three latent blocks and of the context, the sinks and the values, it computes the weighted
means of the values. -/

namespace Cert.KernelIdeal.Value

open Cert.KernelIdeal Cert.KernelIdeal.Gen Attention

/-- The stacked contraction of 912 rows, block by block. -/
theorem sum_rows (f : Fin 912 → EReal) : ∑ x, f x
    = ∑ c : Fin 128, f ⟨c.val, by omega⟩ + (∑ c : Fin 128, f ⟨128 + c.val, by omega⟩
      + (∑ c : Fin 128, f ⟨128 + (128 + c.val), by omega⟩
        + (∑ c : Fin 512, f ⟨128 + (128 + (128 + c.val)), by omega⟩
          + ∑ c : Fin 16, f ⟨128 + (128 + (128 + (512 + c.val))), by omega⟩))) := by
  refine (Fin.sum_univ_add (a := 128) (b := 784) f).trans (congrArg₂ _ rfl ?_)
  refine (Fin.sum_univ_add (a := 128) (b := 656) _).trans (congrArg₂ _ rfl ?_)
  refine (Fin.sum_univ_add (a := 128) (b := 528) _).trans (congrArg₂ _ rfl ?_)
  exact Fin.sum_univ_add (a := 512) (b := 16) _

/-- Of the sixteen sink rows only the first one counts. -/
theorem sum_first (f : Fin 16 → EReal) :
    ∑ e : Fin 16, f e * Scalar.select (IntOp.cmpi CmpIPredicate.eq (BitVec.ofNat 32 e.val) 0#32) 1 0 = f 0 := by
  rw [Finset.sum_eq_single 0]
  · exact mul_one _
  · intro e _ he
    have : ∀ e : Fin 16, e ≠ 0 → IntOp.cmpi CmpIPredicate.eq (BitVec.ofNat 32 e.val) 0#32 = 0#1 := by decide
    rw [this e he]
    exact mul_zero _
  · simp

/-- In the first sink row a lane of the denominator holds one, every other row holds zero. -/
theorem ones_row (e : Fin 16) (l : ℕ) (hl : l < 128) :
    Scalar.select (IntOp.andi (IntOp.cmpi CmpIPredicate.eq (BitVec.ofNat 32 e.val) 0#32)
      (IntOp.cmpi CmpIPredicate.sge (BitVec.ofNat 32 (128 + l)) 128#32)) (1 : EReal) 0
      = Scalar.select (IntOp.cmpi CmpIPredicate.eq (BitVec.ofNat 32 e.val) 0#32) 1 0 := by
  have h : ∀ l : Fin 128, IntOp.cmpi CmpIPredicate.sge (BitVec.ofNat 32 (128 + l.val)) 128#32 = 1#1 := by decide
  have h' : ∀ x : BitVec 1, IntOp.andi x 1#1 = x := by decide
  rw [h ⟨l, hl⟩, h']

/-- A lane of the numerator holds zero in every sink row. -/
theorem zeros_row (e : Fin 16) (l : ℕ) (hl : l < 128) :
    Scalar.select (IntOp.andi (IntOp.cmpi CmpIPredicate.eq (BitVec.ofNat 32 e.val) 0#32)
      (IntOp.cmpi CmpIPredicate.sge (BitVec.ofNat 32 l) 128#32)) (1 : EReal) 0 = 0 := by
  have h : ∀ l : Fin 128, IntOp.cmpi CmpIPredicate.sge (BitVec.ofNat 32 l.val) 128#32 = 0#1 := by decide
  have h' : ∀ x : BitVec 1, IntOp.andi x 0#1 = 0#1 := by decide
  rw [h ⟨l, hl⟩, h']
  rfl

variable (s0 s1 s2 : FVec Ideal S128x512 .f32) (s3 : FVec Ideal S512x512 .f32)
  (a0 a1 a2 a3 : FVec Ideal S1x1 .f32) (v0 v1 v2 : FVec Ideal S128x64 .bf16) (v3 : FVec Ideal S512x64 .bf16)

/-- The group's result, as the first group's operations compute it. -/
abbrev group : FVec Ideal S512x128 .f32 :=
  k0_pay32 v2 v3
    (k0_pay24 s0 s1 s2 s3 (k0_pay18 a0) (k0_pay19 a1) (k0_pay20 a2) (k0_pay21 a3))
    (k0_pay25 s0 s1 s2 s3 (k0_pay18 a0) (k0_pay19 a1) (k0_pay20 a2) (k0_pay21 a3))
    (k0_pay26 s0 s1 s2 s3 (k0_pay18 a0) (k0_pay19 a1) (k0_pay20 a2) (k0_pay21 a3))
    (k0_pay27 s0 s1 s2 s3 (k0_pay18 a0) (k0_pay19 a1) (k0_pay20 a2) (k0_pay21 a3))
    (k0_pay28 s0 s1 s2 s3 (k0_pay18 a0) (k0_pay19 a1) (k0_pay20 a2) (k0_pay21 a3))
    (k0_pay29 v0) (k0_pay30 v1) k0_pay31

/-- The second group's operations compute the same. -/
theorem second_group :
    k0_pay51 (F := Ideal) s2 s3 v0 v1 v2 v3 (k0_pay45 a0 a1 a2 a3) (k0_pay46 s0 s1 s2 s3 a0 a1 a2 a3) k0_pay47
      (k0_pay48 s0 s1 s2 s3 a0 a1 a2 a3) (k0_pay49 s0 s1 s2 s3 a0 a1 a2 a3)
      (k0_pay50 s0 s1 s2 s3 a0 a1 a2 a3)
      = group s0 s1 s2 s3 a0 a1 a2 a3 v0 v1 v2 v3 := rfl

/-- The number taken off every score of a column: the sink's logit or the largest score. -/
abbrev top (r : Fin 512) : EReal :=
  k0_pay23 (F := Ideal) s0 s1 s2 s3 (k0_pay18 a0) (k0_pay19 a1) (k0_pay20 a2) (k0_pay21 a3) (ix2 0 r)

set_option maxHeartbeats 1000000 in
/-- The product with the values, then the quotient, read at an entry. -/
theorem quotient_at (p0 p1 p2 : FVec Ideal S128x512 .bf16) (p3 : FVec Ideal S512x512 .bf16)
    (p4 : FVec Ideal S16x512 .bf16) (r : Fin 512) (l : Fin 128) (d : Fin 64) (hl : l.val % 64 = d.val) :
    k0_pay32 (F := Ideal) v2 v3 p0 p1 p2 p3 p4 (k0_pay29 v0) (k0_pay30 v1) k0_pay31 (ix2 r l)
      = Ideal.div
          (∑ c, p0 (ix2 c r) * v0 (ix2 c d) + (∑ c, p1 (ix2 c r) * v1 (ix2 c d)
            + (∑ c, p2 (ix2 c r) * v2 (ix2 c d) + ∑ c, p3 (ix2 c r) * v3 (ix2 c d))))
          (∑ c, p0 (ix2 c r) + (∑ c, p1 (ix2 c r) + (∑ c, p2 (ix2 c r) + (∑ c, p3 (ix2 c r) + p4 (ix2 0 r))))) := by
  have hl' : l = ⟨d.val, Nat.lt_trans d.isLt (by decide)⟩
      ∨ l = ⟨64 + d.val, Nat.add_lt_add_left d.isLt 64⟩ := by
    rcases Nat.lt_or_ge l.val 64 with h | h
    · exact .inl (Fin.ext (by simp only; omega))
    · exact .inr (Fin.ext (by simp only; omega))
  have hd := d.isLt
  rcases hl' with rfl | rfl
  · pointwise [k0_pay32, k0_pay29, k0_pay30, k0_pay31]
    rw [sum_rows, sum_rows]
    have h1 : ¬ 128 + d.val < 64 := by omega
    have h3 : d.val < 128 := by omega
    have h2 : ¬ 128 + d.val - 64 < 64 := by omega
    simp [h1, h2, ones_row _ _ h3, zeros_row _ _ h3, sum_first]
  · pointwise [k0_pay32, k0_pay29, k0_pay30, k0_pay31]
    rw [sum_rows, sum_rows]
    have h1 : ¬ 128 + (64 + d.val) < 64 := by omega
    have h3 : 64 + d.val < 128 := by omega
    have h2 : ¬ 128 + (64 + d.val) - 64 < 64 := by omega
    simp [h1, h2, ones_row _ _ h3, zeros_row _ _ h3, sum_first]

/-- The base-two logarithm's factor on a sink's logit. -/
abbrev log2e : ℝ := (Real.log 2)⁻¹

/-- The sinks' row at a column of head `g`. -/
theorem sink_at (z : Fin 4 → ℝ) (h0 : a0 (ix2 0 0) = (z 0 : EReal)) (h1 : a1 (ix2 0 0) = (z 1 : EReal))
    (h2 : a2 (ix2 0 0) = (z 2 : EReal)) (h3 : a3 (ix2 0 0) = (z 3 : EReal)) (g : Fin 4) (q : Fin 128) :
    k0_pay22 (F := Ideal) (k0_pay18 a0) (k0_pay19 a1) (k0_pay20 a2) (k0_pay21 a3)
      (ix2 0 ⟨128 * g.val + q.val, by omega⟩) = ((log2e * z g : ℝ) : EReal) := by
  have hn : (Named.named κ "log2e" 0x3FB8AA3B#32 : Ideal .f32) = ((log2e : ℝ) : EReal) :=
    IdealRules.named_const.ideal_named_scalar _ _ _ _ rfl
  have hq := q.isLt
  fin_cases g <;>
    · pointwise [k0_pay22, k0_pay18, k0_pay19, k0_pay20, k0_pay21]
      rw [hn]
      simp [h0, h1, h2, h3, EReal.coe_mul]
      try split_ifs <;> first | rfl | omega

/-- The number taken off a column's scores is real. -/
theorem top_real (z : Fin 4 → ℝ) (h0 : a0 (ix2 0 0) = (z 0 : EReal)) (h1 : a1 (ix2 0 0) = (z 1 : EReal))
    (h2 : a2 (ix2 0 0) = (z 2 : EReal)) (h3 : a3 (ix2 0 0) = (z 3 : EReal)) (g : Fin 4) (q : Fin 128)
    (hs0 : ∀ i, s0 i ≠ ⊤) (hs1 : ∀ i, s1 i ≠ ⊤) (hs2 : ∀ i, s2 i ≠ ⊤) (hs3 : ∀ i, s3 i ≠ ⊤) :
    ∃ t : ℝ, top s0 s1 s2 s3 a0 a1 a2 a3 ⟨128 * g.val + q.val, by omega⟩ = (t : EReal) := by
  have hbot : Ideal.ofBits .f32 0xFF800000#32 ≠ ⊤ := by
    rw [show Ideal.ofBits .f32 0xFF800000#32 = ⊥ from by simp [Ideal.ofBits, Ideal.ieee]]
    exact bot_ne_top
  unfold top
  pointwise [k0_pay23]
  rw [sink_at a0 a1 a2 a3 z h0 h1 h2 h3]
  refine ⟨_, (EReal.coe_toReal ?_ ?_).symm⟩
  · simp only [ne_eq, max_eq_top, not_or]
    exact ⟨⟨⟨⟨EReal.coe_ne_top _, fold_ne_top _ hbot _ fun i => hs0 _⟩, fold_ne_top _ hbot _ fun i => hs1 _⟩,
      fold_ne_top _ hbot _ fun i => hs2 _⟩, fold_ne_top _ hbot _ fun i => hs3 _⟩
  · simp only [ne_eq, max_eq_bot, not_and_or]
    exact .inl (.inl (.inl (.inl (EReal.coe_ne_bot _))))

/-- The scores of a column, block by block. -/
abbrev scores (r : Fin 512) : Fin 128 ⊕ (Fin 128 ⊕ (Fin 128 ⊕ Fin 512)) → EReal :=
  Sum.elim (fun c => s0 (ix2 c r)) (Sum.elim (fun c => s1 (ix2 c r))
    (Sum.elim (fun c => s2 (ix2 c r)) fun c => s3 (ix2 c r)))

/-- The values at a feature, block by block. -/
abbrev values (d : Fin 64) : Fin 128 ⊕ (Fin 128 ⊕ (Fin 128 ⊕ Fin 512)) → EReal :=
  Sum.elim (fun c => v0 (ix2 c d)) (Sum.elim (fun c => v1 (ix2 c d))
    (Sum.elim (fun c => v2 (ix2 c d)) fun c => v3 (ix2 c d)))

/-- The group's result is the weighted mean of the values. -/
theorem group_at (z : Fin 4 → ℝ) (h0 : a0 (ix2 0 0) = (z 0 : EReal)) (h1 : a1 (ix2 0 0) = (z 1 : EReal))
    (h2 : a2 (ix2 0 0) = (z 2 : EReal)) (h3 : a3 (ix2 0 0) = (z 3 : EReal)) (g : Fin 4) (q : Fin 128)
    (hs0 : ∀ i, s0 i ≠ ⊤) (hs1 : ∀ i, s1 i ≠ ⊤) (hs2 : ∀ i, s2 i ≠ ⊤) (hs3 : ∀ i, s3 i ≠ ⊤)
    (l : Fin 128) (d : Fin 64) (hl : l.val % 64 = d.val) :
    group s0 s1 s2 s3 a0 a1 a2 a3 v0 v1 v2 v3 (ix2 ⟨128 * g.val + q.val, by omega⟩ l)
      = mean (scores s0 s1 s2 s3 ⟨128 * g.val + q.val, by omega⟩) (values v0 v1 v2 v3 d) (log2e * z g) := by
  obtain ⟨t, ht⟩ := top_real s0 s1 s2 s3 a0 a1 a2 a3 z h0 h1 h2 h3 g q hs0 hs1 hs2 hs3
  unfold top at ht
  refine (quotient_at v0 v1 v2 v3 _ _ _ _ _ _ l d hl).trans ?_
  pointwise [k0_pay24, k0_pay25, k0_pay26, k0_pay27, k0_pay28, ht, sink_at a0 a1 a2 a3 z h0 h1 h2 h3 g q]
  refine Eq.trans ?_ (mean_exp2 _ _ ?_ _ t)
  · simp only [Fintype.sum_sum_type, add_assoc]
    rfl
  · rintro (c | c | c | c)
    exacts [hs0 _, hs1 _, hs2 _, hs3 _]

end Cert.KernelIdeal.Value

end
-- ==== Proof.AttnMath.lean ====
module

public import Idealize.ShloMosaic.Lib.Pipeline.ValueKit
public import proofs.«01_k».proof.Proof.Softmax

@[expose] public section

noncomputable section

open Idealize.ShloMosaic

/-! # The latent attention, entry by entry

A query of batch `b` at time `t` sees the latent keys at most 128 steps away and all 512 cached
context keys.  Query head `g` of key-value head `h` reads columns `256 * h + 64 * g` onwards. -/

namespace Attention

/-- The rows of the queries (and of the results). -/
abbrev Rows : Type := FVec Ideal ⟨2, ![8192, 512]⟩ .bf16
/-- The rows of the keys or of the values. -/
abbrev KeyRows : Type := FVec Ideal ⟨2, ![8192, 128]⟩ .bf16
/-- The cached context keys or values of every layer. -/
abbrev Cache : Type := FVec Ideal ⟨5, ![4, 4, 512, 2, 64]⟩ .f32
/-- The sinks' logits of every layer. -/
abbrev Sinks : Type := FVec Ideal ⟨2, ![4, 8]⟩ .f32

/-- A latent key (or value) of batch `b`. -/
abbrev latent (k : KeyRows) (b : Fin 4) (h : Fin 2) (d : Fin 64) (s : Fin 1024) : EReal :=
  k (ix2 ⟨4096 + (b.val * 1024 + s.val), by omega⟩ ⟨h.val * 64 + d.val, by omega⟩)

/-- A context key (or value) of batch `b`. -/
abbrev context (ck : Cache) (b : Fin 4) (h : Fin 2) (d : Fin 64) (s : Fin 512) : EReal :=
  ck (ix5 b 1 s h d)

/-- A query of batch `b`. -/
abbrev query (q : Rows) (b : Fin 4) (h : Fin 2) (g : Fin 4) (t : Fin 1024) (d : Fin 64) : EReal :=
  q (ix2 ⟨4096 + (b.val * 1024 + t.val), by omega⟩ ⟨h.val * 256 + g.val * 64 + d.val, by omega⟩)

/-- Latent keys at most 128 steps away are seen. -/
abbrev near (t s : ℕ) : Prop := s ≤ t + 128 ∧ t ≤ s + 128

/-- The score of a latent key: `⊥` outside the window. -/
def latentScore (q : Rows) (k : KeyRows) (b : Fin 4) (h : Fin 2) (g : Fin 4) (t s : Fin 1024) : EReal :=
  if near t.val s.val then ∑ d : Fin 64, latent k b h d s * query q b h g t d else ⊥

/-- The score of a context key. -/
def contextScore (q : Rows) (ck : Cache) (b : Fin 4) (h : Fin 2) (g : Fin 4) (t : Fin 1024) (s : Fin 512) :
    EReal :=
  ∑ d : Fin 64, context ck b h d s * query q b h g t d

/-- The attention's result: the mean of the values the query sees. -/
def attend (q : Rows) (k v : KeyRows) (ck cv : Cache) (z : Fin 8 → ℝ)
    (b : Fin 4) (h : Fin 2) (g : Fin 4) (t : Fin 1024) (d : Fin 64) : EReal :=
  mean (Sum.elim (latentScore q k b h g t) (contextScore q ck b h g t))
    (Sum.elim (latent v b h d) (context cv b h d)) ((Real.log 2)⁻¹ * z ⟨h.val * 4 + g.val, by omega⟩)

/-- A sum of products of real numbers is real. -/
theorem dot_real {ι : Type} [Fintype ι] (x y : ι → EReal) (hx : ∀ i, ∃ r : ℝ, x i = (r : EReal))
    (hy : ∀ i, ∃ r : ℝ, y i = (r : EReal)) : ∃ r : ℝ, ∑ i, x i * y i = (r : EReal) := by
  choose a ha using hx
  choose c hc using hy
  refine ⟨∑ i, a i * c i, ?_⟩
  simp only [ha, hc, ← EReal.coe_mul]
  classical
  induction (Finset.univ : Finset ι) using Finset.induction_on with
  | empty => simp
  | insert i s hi ih => rw [Finset.sum_insert hi, Finset.sum_insert hi, EReal.coe_add, ih]

variable (q : Rows) (k : KeyRows) (ck : Cache) (hq : ∀ i, ∃ r : ℝ, q i = (r : EReal))

include hq in
/-- A latent score is never `⊤`. -/
theorem latentScore_ne_top (hk : ∀ i, ∃ r : ℝ, k i = (r : EReal)) (b : Fin 4) (h : Fin 2) (g : Fin 4)
    (t s : Fin 1024) : latentScore q k b h g t s ≠ ⊤ := by
  unfold latentScore
  split_ifs
  · obtain ⟨r, hr⟩ := dot_real (fun d => latent k b h d s) (fun d => query q b h g t d) (fun d => hk _)
      fun d => hq _
    rw [hr]
    exact EReal.coe_ne_top r
  · exact bot_ne_top

include hq in
/-- A context score is never `⊤`. -/
theorem contextScore_ne_top (hk : ∀ i, ∃ r : ℝ, ck i = (r : EReal)) (b : Fin 4) (h : Fin 2) (g : Fin 4)
    (t : Fin 1024) (s : Fin 512) : contextScore q ck b h g t s ≠ ⊤ := by
  unfold contextScore
  obtain ⟨r, hr⟩ := dot_real (fun d => context ck b h d s) (fun d => query q b h g t d) (fun d => hk _)
    fun d => hq _
  rw [hr]
  exact EReal.coe_ne_top r

end Attention

end
-- ==== Proof.AttnTile.lean ====
module

public import proofs.«01_k».proof.Proof.AttnGroup
public import proofs.«01_k».proof.Proof.AttnMath
public import Idealize.ShloMosaic.Lib.WordCmp

@[expose] public section

set_option maxRecDepth 16384

noncomputable section

open Idealize.ShloMosaic Idealize.ShloMosaic.TcCoe Idealize.SL.Sem
open Idealize.ShloMosaic.Pipeline (Dat)

/-! # One block of queries: the scores, and the block of results -/

namespace Cert.KernelIdeal.Value

open Cert.KernelIdeal Cert.KernelIdeal.Gen Attention

/-- The key positions of a block, along the first axis. -/
abbrev keyPos : IVec S128x512 32 := iota Kind.tc S128x512 32 [0] iota_S128x512_d0_w32

/-- The row of a stacked query inside its head. -/
theorem row_bits (g : Fin 4) (r : Fin 128) :
    IntOp.andi (BitVec.ofNat 32 (128 * g.val + r.val)) 127#32 = BitVec.ofNat 32 r.val := by
  revert g r; decide +kernel

theorem at_least (c r : Fin 128) :
    IntOp.cmpi .sge (BitVec.ofNat 32 c.val) (IntOp.addi (BitVec.ofNat 32 r.val) 0#32)
      = BitVec.ofBool (decide (r.val ≤ c.val)) := by
  revert c r; decide +kernel

theorem too_far (c r : Fin 128) :
    IntOp.cmpi .sge (BitVec.ofNat 32 c.val) (IntOp.addi (BitVec.ofNat 32 r.val) 256#32) = 0#1 := by
  revert c r; decide +kernel

theorem no_more (c r : Fin 128) :
    IntOp.cmpi .sle (IntOp.addi (BitVec.ofNat 32 c.val) 0#32) (BitVec.ofNat 32 r.val)
      = BitVec.ofBool (decide (c.val ≤ r.val)) := by
  revert c r; decide +kernel

theorem beyond (c r : Fin 128) :
    IntOp.cmpi .sle (IntOp.addi (BitVec.ofNat 32 c.val) 256#32) (BitVec.ofNat 32 r.val) = 0#1 := by
  revert c r; decide +kernel

theorem has_previous (i : Fin 8) :
    Scalar.select (Scalar.cmpi .sgt (BitVec.ofNat 32 i.val) 0#32) 0#32 256#32
      = if 0 < i.val then 0#32 else 256#32 := by
  revert i; decide +kernel

theorem has_next (i : Fin 8) :
    Scalar.select (Scalar.cmpi .slt (BitVec.ofNat 32 i.val) 7#32) 0#32 256#32
      = if i.val < 7 then 0#32 else 256#32 := by
  revert i; decide +kernel

/-- A key of the previous block is seen when there is one and the key is not before the window. -/
theorem before (i : Fin 8) (c : Fin 128) (g : Fin 4) (r : Fin 128) :
    k0_pay6 keyPos k0_pay5 (Scalar.cmpi .sgt (BitVec.ofNat 32 i.val) 0#32) (ix2 c ⟨128 * g.val + r.val, by omega⟩)
      = BitVec.ofBool (decide (0 < i.val ∧ r.val ≤ c.val)) := by
  pointwise [k0_pay6, k0_pay5]
  rw [row_bits, has_previous]
  split
  · rename_i h
    rw [at_least]; simp [h]
  · rename_i h
    rw [too_far]; simp [h]

/-- A key of the next block is seen when there is one and the key is not after the window. -/
theorem after (i : Fin 8) (c : Fin 128) (g : Fin 4) (r : Fin 128) :
    k0_pay7 (BitVec.ofNat 32 i.val) keyPos k0_pay5 (ix2 c ⟨128 * g.val + r.val, by omega⟩)
      = BitVec.ofBool (decide (i.val < 7 ∧ c.val ≤ r.val)) := by
  pointwise [k0_pay7, k0_pay5]
  rw [row_bits, has_next]
  split
  · rename_i h
    rw [no_more]; simp [h]
  · rename_i h
    rw [beyond]; simp [h]

/-- What a masked score is. -/
theorem mask_bits : (Named.named κ "mask" 0xF149F2CA#32 : Ideal .f32) = ⊥ :=
  IdealRules.named_const.ideal_named_scalar _ _ _ _ rfl

/-- The queries of the first four heads, one head after the other. -/
theorem stacked (q : FVec Ideal S128x512 .bf16) (g : Fin 4) (r : Fin 128) (d : Fin 64) :
    k0_pay8 (F := Ideal) q (ix2 ⟨128 * g.val + r.val, by omega⟩ d) = q (ix2 r ⟨g.val * 64 + d.val, by omega⟩) := by
  have hg : g.val = 0 ∨ g.val = 1 ∨ g.val = 2 ∨ g.val = 3 := by omega
  pointwise [k0_pay8]
  split
  · congr 2 <;> apply Fin.ext <;> simp only [] <;> omega
  · split
    · congr 2 <;> apply Fin.ext <;> simp only [] <;> omega
    · split <;> congr 2 <;> apply Fin.ext <;> simp only [] <;> omega

/-- The queries of the last four heads, one head after the other. -/
theorem stacked' (q : FVec Ideal S128x512 .bf16) (g : Fin 4) (r : Fin 128) (d : Fin 64) :
    k0_pay35 (F := Ideal) q (ix2 ⟨128 * g.val + r.val, by omega⟩ d)
      = q (ix2 r ⟨256 + g.val * 64 + d.val, by omega⟩) := by
  have hg : g.val = 0 ∨ g.val = 1 ∨ g.val = 2 ∨ g.val = 3 := by omega
  pointwise [k0_pay35]
  split
  · congr 2 <;> apply Fin.ext <;> simp only [] <;> omega
  · split
    · congr 2 <;> apply Fin.ext <;> simp only [] <;> omega
    · split <;> congr 2 <;> apply Fin.ext <;> simp only [] <;> omega

/-- The product of a query of head `g` of group `h` with a key. -/
def dotAt (q : FVec Ideal S128x512 .bf16) (h : Fin 2) (g : Fin 4) (r : Fin 128) (key : Fin 128 → EReal) : EReal :=
  ∑ d : Fin 64, key ⟨h.val * 64 + d.val, by omega⟩ * q (ix2 r ⟨h.val * 256 + g.val * 64 + d.val, by omega⟩)

/-- The next block's keys are the last 128 of the three blocks. -/
theorem third (k1 k2 k3 : FVec Ideal S128x128 .bf16) (c e : Fin 128) :
    k0_pay4 (F := Ideal) k1 k2 k3 (ix2 ⟨256 + c.val, by omega⟩ e) = k3 (ix2 c e) := by
  have hc := c.isLt
  pointwise [k0_pay4]
  rw [dif_neg (show ¬ 256 + c.val < 128 by omega), dif_neg (show ¬ 256 + c.val - 128 < 128 by omega)]
  congr 2
  apply Fin.ext
  simp only []
  omega

variable (q : FVec Ideal S128x512 .bf16) (k1 k2 k3 : FVec Ideal S128x128 .bf16) (kc : FVec Ideal S512x128 .bf16)
  (i : Fin 8) (g : Fin 4) (r : Fin 128)

theorem score10 (c : Fin 128) :
    k0_pay10 (F := Ideal) q (k0_pay4 k1 k2 k3) keyPos k0_pay5 (Scalar.cmpi .sgt (BitVec.ofNat 32 i.val) 0#32)
        (ix2 c ⟨128 * g.val + r.val, by omega⟩)
      = if 0 < i.val ∧ r.val ≤ c.val then dotAt q 0 g r fun e => k1 (ix2 c e) else ⊥ := by
  pointwise [k0_pay10, k0_pay9, k0_pay4, before i c g r, mask_bits, dotAt, stacked q g r]

theorem score11 (c : Fin 128) :
    k0_pay11 (F := Ideal) q (k0_pay4 k1 k2 k3) (ix2 c ⟨128 * g.val + r.val, by omega⟩)
      = dotAt q 0 g r fun e => k2 (ix2 c e) := by
  pointwise [k0_pay11, k0_pay9, k0_pay4, dotAt, stacked q g r]

theorem score12 (c : Fin 128) :
    k0_pay12 (F := Ideal) (BitVec.ofNat 32 i.val) q (k0_pay4 k1 k2 k3) keyPos k0_pay5
        (ix2 c ⟨128 * g.val + r.val, by omega⟩)
      = if i.val < 7 ∧ c.val ≤ r.val then dotAt q 0 g r fun e => k3 (ix2 c e) else ⊥ := by
  pointwise [k0_pay12, k0_pay9, third k1 k2 k3 c, after i c g r, mask_bits, dotAt, stacked q g r]

theorem score13 (c : Fin 512) :
    k0_pay13 (F := Ideal) q kc (ix2 c ⟨128 * g.val + r.val, by omega⟩)
      = dotAt q 0 g r fun e => kc (ix2 c e) := by
  pointwise [k0_pay13, dotAt, stacked q g r]

theorem score37 (c : Fin 128) :
    k0_pay37 (F := Ideal) q (k0_pay4 k1 k2 k3)
        (k0_pay6 keyPos k0_pay5 (Scalar.cmpi .sgt (BitVec.ofNat 32 i.val) 0#32))
        (ix2 c ⟨128 * g.val + r.val, by omega⟩)
      = if 0 < i.val ∧ r.val ≤ c.val then dotAt q 1 g r fun e => k1 (ix2 c e) else ⊥ := by
  pointwise [k0_pay37, k0_pay36, k0_pay4, before i c g r, mask_bits, dotAt, stacked' q g r]

theorem score38 (c : Fin 128) :
    k0_pay38 (F := Ideal) q (k0_pay4 k1 k2 k3) (ix2 c ⟨128 * g.val + r.val, by omega⟩)
      = dotAt q 1 g r fun e => k2 (ix2 c e) := by
  pointwise [k0_pay38, k0_pay36, k0_pay4, dotAt, stacked' q g r]

theorem score39 (c : Fin 128) :
    k0_pay39 (F := Ideal) q (k0_pay4 k1 k2 k3) (k0_pay7 (BitVec.ofNat 32 i.val) keyPos k0_pay5)
        (ix2 c ⟨128 * g.val + r.val, by omega⟩)
      = if i.val < 7 ∧ c.val ≤ r.val then dotAt q 1 g r fun e => k3 (ix2 c e) else ⊥ := by
  pointwise [k0_pay39, k0_pay36, third k1 k2 k3 c, after i c g r, mask_bits, dotAt, stacked' q g r]

theorem score40 (c : Fin 512) :
    k0_pay40 (F := Ideal) q kc (ix2 c ⟨128 * g.val + r.val, by omega⟩)
      = dotAt q 1 g r fun e => kc (ix2 c e) := by
  pointwise [k0_pay40, dotAt, stacked' q g r]

/-- The scores of a query: the previous block, its own block, the next block, the context. -/
def windowScores (h : Fin 2) : Fin 128 ⊕ (Fin 128 ⊕ (Fin 128 ⊕ Fin 512)) → EReal :=
  Sum.elim (fun c => if 0 < i.val ∧ r.val ≤ c.val then dotAt q h g r fun e => k1 (ix2 c e) else ⊥)
    (Sum.elim (fun c => dotAt q h g r fun e => k2 (ix2 c e))
      (Sum.elim (fun c => if i.val < 7 ∧ c.val ≤ r.val then dotAt q h g r fun e => k3 (ix2 c e) else ⊥)
        fun c => dotAt q h g r fun e => kc (ix2 c e)))

/-- The values beside them. -/
def windowValues (v1 v2 v3 : FVec Ideal S128x128 .bf16) (vc : FVec Ideal S512x128 .bf16) (h : Fin 2) (d : Fin 64) :
    Fin 128 ⊕ (Fin 128 ⊕ (Fin 128 ⊕ Fin 512)) → EReal :=
  Sum.elim (fun c => v1 (ix2 c ⟨h.val * 64 + d.val, by omega⟩))
    (Sum.elim (fun c => v2 (ix2 c ⟨h.val * 64 + d.val, by omega⟩))
      (Sum.elim (fun c => v3 (ix2 c ⟨h.val * 64 + d.val, by omega⟩))
        fun c => vc (ix2 c ⟨h.val * 64 + d.val, by omega⟩)))

variable (hq : ∀ i, ∃ x : ℝ, q i = (x : EReal)) (hk1 : ∀ i, ∃ x : ℝ, k1 i = (x : EReal))
  (hk2 : ∀ i, ∃ x : ℝ, k2 i = (x : EReal)) (hk3 : ∀ i, ∃ x : ℝ, k3 i = (x : EReal))
  (hkc : ∀ i, ∃ x : ℝ, kc i = (x : EReal))

include hq in
theorem dotAt_ne_top (h : Fin 2) (key : Fin 128 → EReal) (hkey : ∀ e, ∃ x : ℝ, key e = (x : EReal)) :
    dotAt q h g r key ≠ ⊤ := by
  obtain ⟨x, hx⟩ := dot_real (fun d : Fin 64 => key ⟨h.val * 64 + d.val, by omega⟩)
    (fun d => q (ix2 r ⟨h.val * 256 + g.val * 64 + d.val, by omega⟩)) (fun _ => hkey _) (fun _ => hq _)
  rw [dotAt, hx]
  exact EReal.coe_ne_top x

/-- A statement about every entry of a block of stacked queries, from every head and row. -/
theorem every {n : ℕ} {P : Shape.Idx ⟨2, ![n, 512]⟩ → Prop}
    (h : ∀ (c : Fin n) (g : Fin 4) (r : Fin 128), P (ix2 c ⟨128 * g.val + r.val, by omega⟩)) (i) : P i := by
  have hi : (i 1).val < 512 := (i 1).isLt
  have e : i = ix2 (i 0) ⟨128 * (⟨(i 1).val / 128, by omega⟩ : Fin 4).val
      + (⟨(i 1).val % 128, Nat.mod_lt _ (by decide)⟩ : Fin 128).val, by simp only; omega⟩ := by
    funext j
    match j with
    | 0 => rfl
    | 1 => exact Fin.ext (by show (i 1).val = 128 * ((i 1).val / 128) + (i 1).val % 128; omega)
  rw [e]
  exact h _ _ _

abbrev previous0 : FVec Ideal S128x512 .f32 := k0_pay10 (F := Ideal) q (k0_pay4 k1 k2 k3) keyPos k0_pay5 (Scalar.cmpi .sgt (BitVec.ofNat 32 i.val) 0#32)
abbrev own0 : FVec Ideal S128x512 .f32 := k0_pay11 (F := Ideal) q (k0_pay4 k1 k2 k3)
abbrev next0 : FVec Ideal S128x512 .f32 := k0_pay12 (F := Ideal) (BitVec.ofNat 32 i.val) q (k0_pay4 k1 k2 k3) keyPos k0_pay5
abbrev cached0 : FVec Ideal S512x512 .f32 := k0_pay13 (F := Ideal) q kc
abbrev previous1 : FVec Ideal S128x512 .f32 := k0_pay37 (F := Ideal) q (k0_pay4 k1 k2 k3) (k0_pay6 keyPos k0_pay5 (Scalar.cmpi .sgt (BitVec.ofNat 32 i.val) 0#32))
abbrev own1 : FVec Ideal S128x512 .f32 := k0_pay38 (F := Ideal) q (k0_pay4 k1 k2 k3)
abbrev next1 : FVec Ideal S128x512 .f32 := k0_pay39 (F := Ideal) q (k0_pay4 k1 k2 k3) (k0_pay7 (BitVec.ofNat 32 i.val) keyPos k0_pay5)
abbrev cached1 : FVec Ideal S512x512 .f32 := k0_pay40 (F := Ideal) q kc

variable (v1 v2 v3 : FVec Ideal S128x128 .bf16) (vc : FVec Ideal S512x128 .bf16)
  (a0 a1 a2 a3 a4 a5 a6 a7 : FVec Ideal S1x1 .f32)

/-- The first four heads' results. -/
def upper : FVec Ideal S512x128 .f32 :=
  group (previous0 q k1 k2 k3 i) (own0 q k1 k2 k3) (next0 q k1 k2 k3 i) (cached0 q kc) a0 a1 a2 a3
    (k0_pay14 v1) (k0_pay15 v2) (k0_pay16 v3) (k0_pay17 vc)

/-- The last four heads' results. -/
def lower : FVec Ideal S512x128 .f32 :=
  group (previous1 q k1 k2 k3 i) (own1 q k1 k2 k3) (next1 q k1 k2 k3 i) (cached1 q kc) a4 a5 a6 a7
    (k0_pay41 v1) (k0_pay42 v2) (k0_pay43 v3) (k0_pay44 vc)

include hq hk1 hk2 hk3 hkc in
theorem upper_at (z : Fin 4 → ℝ) (h0 : a0 (ix2 0 0) = (z 0 : EReal)) (h1 : a1 (ix2 0 0) = (z 1 : EReal))
    (h2 : a2 (ix2 0 0) = (z 2 : EReal)) (h3 : a3 (ix2 0 0) = (z 3 : EReal))
    (l : Fin 128) (d : Fin 64) (hl : l.val % 64 = d.val) :
    upper q k1 k2 k3 kc i v1 v2 v3 vc a0 a1 a2 a3 (ix2 ⟨128 * g.val + r.val, by omega⟩ l)
      = mean (windowScores q k1 k2 k3 kc i g r 0) (windowValues v1 v2 v3 vc 0 d) (log2e * z g) := by
  unfold upper
  rw [group_at _ _ _ _ _ _ _ _ _ _ _ _ z h0 h1 h2 h3 g r ?_ ?_ ?_ ?_ l d hl]
  · congr 1
    · unfold scores windowScores
      congr 1
      · funext c; exact score10 q k1 k2 k3 i g r c
      · congr 1
        · funext c; exact score11 q k1 k2 k3 g r c
        · congr 1
          · funext c; exact score12 q k1 k2 k3 i g r c
          · funext c; exact score13 q kc g r c
    · unfold values windowValues
      congr 1
      · funext c; pointwise [k0_pay14]
      · congr 1
        · funext c; pointwise [k0_pay15]
        · congr 1
          · funext c; pointwise [k0_pay16]
          · funext c; pointwise [k0_pay17]
  · refine every fun c g r => ?_
    refine (score10 q k1 k2 k3 i g r c).trans_ne ?_
    split_ifs
    · exact dotAt_ne_top q g r hq _ _ fun _ => hk1 _
    · exact bot_ne_top
  · refine every fun c g r => ?_
    refine (score11 q k1 k2 k3 g r c).trans_ne ?_
    exact dotAt_ne_top q g r hq _ _ fun _ => hk2 _
  · refine every fun c g r => ?_
    refine (score12 q k1 k2 k3 i g r c).trans_ne ?_
    split_ifs
    · exact dotAt_ne_top q g r hq _ _ fun _ => hk3 _
    · exact bot_ne_top
  · refine every fun c g r => ?_
    refine (score13 q kc g r c).trans_ne ?_
    exact dotAt_ne_top q g r hq _ _ fun _ => hkc _

include hq hk1 hk2 hk3 hkc in
theorem lower_at (z : Fin 4 → ℝ) (h0 : a4 (ix2 0 0) = (z 0 : EReal)) (h1 : a5 (ix2 0 0) = (z 1 : EReal))
    (h2 : a6 (ix2 0 0) = (z 2 : EReal)) (h3 : a7 (ix2 0 0) = (z 3 : EReal))
    (l : Fin 128) (d : Fin 64) (hl : l.val % 64 = d.val) :
    lower q k1 k2 k3 kc i v1 v2 v3 vc a4 a5 a6 a7 (ix2 ⟨128 * g.val + r.val, by omega⟩ l)
      = mean (windowScores q k1 k2 k3 kc i g r 1) (windowValues v1 v2 v3 vc 1 d) (log2e * z g) := by
  unfold lower
  rw [group_at _ _ _ _ _ _ _ _ _ _ _ _ z h0 h1 h2 h3 g r ?_ ?_ ?_ ?_ l d hl]
  · congr 1
    · unfold scores windowScores
      congr 1
      · funext c; exact score37 q k1 k2 k3 i g r c
      · congr 1
        · funext c; exact score38 q k1 k2 k3 g r c
        · congr 1
          · funext c; exact score39 q k1 k2 k3 i g r c
          · funext c; exact score40 q kc g r c
    · unfold values windowValues
      congr 1
      · funext c; pointwise [k0_pay41]
      · congr 1
        · funext c; pointwise [k0_pay42]
        · congr 1
          · funext c; pointwise [k0_pay43]
          · funext c; pointwise [k0_pay44]
  · refine every fun c g r => ?_
    refine (score37 q k1 k2 k3 i g r c).trans_ne ?_
    split_ifs
    · exact dotAt_ne_top q g r hq _ _ fun _ => hk1 _
    · exact bot_ne_top
  · refine every fun c g r => ?_
    refine (score38 q k1 k2 k3 g r c).trans_ne ?_
    exact dotAt_ne_top q g r hq _ _ fun _ => hk2 _
  · refine every fun c g r => ?_
    refine (score39 q k1 k2 k3 i g r c).trans_ne ?_
    split_ifs
    · exact dotAt_ne_top q g r hq _ _ fun _ => hk3 _
    · exact bot_ne_top
  · refine every fun c g r => ?_
    refine (score40 q kc g r c).trans_ne ?_
    exact dotAt_ne_top q g r hq _ _ fun _ => hkc _

/-- What the body writes to the block of results. -/
abbrev tile : FVec Ideal S128x512 .bf16 :=
  k0_pay1
    (k0_pay33 (k0_pay16 v3) (k0_pay17 vc)
      (k0_pay24 (previous0 q k1 k2 k3 i) (own0 q k1 k2 k3) (next0 q k1 k2 k3 i) (cached0 q kc) (k0_pay18 a0) (k0_pay19 a1) (k0_pay20 a2) (k0_pay21 a3))
      (k0_pay25 (previous0 q k1 k2 k3 i) (own0 q k1 k2 k3) (next0 q k1 k2 k3 i) (cached0 q kc) (k0_pay18 a0) (k0_pay19 a1) (k0_pay20 a2) (k0_pay21 a3))
      (k0_pay26 (previous0 q k1 k2 k3 i) (own0 q k1 k2 k3) (next0 q k1 k2 k3 i) (cached0 q kc) (k0_pay18 a0) (k0_pay19 a1) (k0_pay20 a2) (k0_pay21 a3))
      (k0_pay27 (previous0 q k1 k2 k3 i) (own0 q k1 k2 k3) (next0 q k1 k2 k3 i) (cached0 q kc) (k0_pay18 a0) (k0_pay19 a1) (k0_pay20 a2) (k0_pay21 a3))
      (k0_pay28 (previous0 q k1 k2 k3 i) (own0 q k1 k2 k3) (next0 q k1 k2 k3 i) (cached0 q kc) (k0_pay18 a0) (k0_pay19 a1) (k0_pay20 a2) (k0_pay21 a3))
      (k0_pay29 (k0_pay14 v1)) (k0_pay30 (k0_pay15 v2)) k0_pay31)
    (k0_pay34 (k0_pay16 v3) (k0_pay17 vc)
      (k0_pay24 (previous0 q k1 k2 k3 i) (own0 q k1 k2 k3) (next0 q k1 k2 k3 i) (cached0 q kc) (k0_pay18 a0) (k0_pay19 a1) (k0_pay20 a2) (k0_pay21 a3))
      (k0_pay25 (previous0 q k1 k2 k3 i) (own0 q k1 k2 k3) (next0 q k1 k2 k3 i) (cached0 q kc) (k0_pay18 a0) (k0_pay19 a1) (k0_pay20 a2) (k0_pay21 a3))
      (k0_pay26 (previous0 q k1 k2 k3 i) (own0 q k1 k2 k3) (next0 q k1 k2 k3 i) (cached0 q kc) (k0_pay18 a0) (k0_pay19 a1) (k0_pay20 a2) (k0_pay21 a3))
      (k0_pay27 (previous0 q k1 k2 k3 i) (own0 q k1 k2 k3) (next0 q k1 k2 k3 i) (cached0 q kc) (k0_pay18 a0) (k0_pay19 a1) (k0_pay20 a2) (k0_pay21 a3))
      (k0_pay28 (previous0 q k1 k2 k3 i) (own0 q k1 k2 k3) (next0 q k1 k2 k3 i) (cached0 q kc) (k0_pay18 a0) (k0_pay19 a1) (k0_pay20 a2) (k0_pay21 a3))
      (k0_pay29 (k0_pay14 v1)) (k0_pay30 (k0_pay15 v2)) k0_pay31)
    (k0_pay51 (next1 q k1 k2 k3 i) (cached1 q kc) (k0_pay41 v1) (k0_pay42 v2) (k0_pay43 v3) (k0_pay44 vc)
      (k0_pay45 a4 a5 a6 a7)
      (k0_pay46 (previous1 q k1 k2 k3 i) (own1 q k1 k2 k3) (next1 q k1 k2 k3 i) (cached1 q kc) a4 a5 a6 a7)
      k0_pay47
      (k0_pay48 (previous1 q k1 k2 k3 i) (own1 q k1 k2 k3) (next1 q k1 k2 k3 i) (cached1 q kc) a4 a5 a6 a7)
      (k0_pay49 (previous1 q k1 k2 k3 i) (own1 q k1 k2 k3) (next1 q k1 k2 k3 i) (cached1 q kc) a4 a5 a6 a7)
      (k0_pay50 (previous1 q k1 k2 k3 i) (own1 q k1 k2 k3) (next1 q k1 k2 k3 i) (cached1 q kc) a4 a5 a6 a7))
    (iota Kind.tc S128x128 32 [1] iota_S128x128_d1_w32)
    (k0_pay52 (next1 q k1 k2 k3 i) (cached1 q kc) (k0_pay41 v1) (k0_pay42 v2) (k0_pay43 v3) (k0_pay44 vc)
      (k0_pay45 a4 a5 a6 a7)
      (k0_pay46 (previous1 q k1 k2 k3 i) (own1 q k1 k2 k3) (next1 q k1 k2 k3 i) (cached1 q kc) a4 a5 a6 a7)
      k0_pay47
      (k0_pay48 (previous1 q k1 k2 k3 i) (own1 q k1 k2 k3) (next1 q k1 k2 k3 i) (cached1 q kc) a4 a5 a6 a7)
      (k0_pay49 (previous1 q k1 k2 k3 i) (own1 q k1 k2 k3) (next1 q k1 k2 k3 i) (cached1 q kc) a4 a5 a6 a7)
      (k0_pay50 (previous1 q k1 k2 k3 i) (own1 q k1 k2 k3) (next1 q k1 k2 k3 i) (cached1 q kc) a4 a5 a6 a7))
    k0_pay53

/-- The first 64 lanes take the first value. -/
theorem pick (a b : Ideal .f32) (n : ℕ) (hn : n < 128) :
    Scalar.select (IntOp.cmpi .slt (BitVec.ofNat 32 n) 64#32) a b = if n < 64 then a else b := by
  have e : ∀ n : Fin 128, IntOp.cmpi .slt (BitVec.ofNat 32 n.val) 64#32 = BitVec.ofBool (decide (n.val < 64)) := by
    decide +kernel
  rw [e ⟨n, hn⟩]
  by_cases h : n < 64 <;> simp [h, Scalar.select]

/-- Where the heads' results go: head `g` of group `h` fills 64 columns from `256 * h + 64 * g`. -/
theorem place_at (x61 : FVec Ideal S128x64 .bf16) (x62 : FVec Ideal S512x64 .bf16) (x100 : FVec Ideal S128x512 .bf16)
    (x104 : FVec Ideal S128x512 .bf16) (x108 : FVec Ideal S128x512 .bf16) (x112 : FVec Ideal S512x512 .bf16)
    (x121 : FVec Ideal S16x512 .bf16) (x123 : FVec Ideal S128x256 .bf16) (x125 : FVec Ideal S128x256 .bf16)
    (x126 : FVec Ideal S128x64 .bf16) (y171 : FVec Ideal S128x512 .f32) (y173 : FVec Ideal S512x512 .f32)
    (y174 : FVec Ideal S128x64 .bf16) (y175 : FVec Ideal S128x64 .bf16) (y176 : FVec Ideal S128x64 .bf16)
    (y177 : FVec Ideal S512x64 .bf16) (y196 : FVec Ideal S1x512 .f32) (y208 : FVec Ideal S1x512 .f32)
    (y211 : IVec S16x1 1) (y215 : FVec Ideal S128x512 .bf16) (y219 : FVec Ideal S128x512 .bf16)
    (y220 : FVec Ideal S128x512 .f32) (h : Fin 2) (g : Fin 4) (d : Fin 64) :
    k0_pay1 (k0_pay33 x61 x62 x100 x104 x108 x112 x121 x123 x125 x126)
        (k0_pay34 x61 x62 x100 x104 x108 x112 x121 x123 x125 x126)
        (k0_pay51 y171 y173 y174 y175 y176 y177 y196 y208 y211 y215 y219 y220)
        (iota Kind.tc S128x128 32 [1] iota_S128x128_d1_w32)
        (k0_pay52 y171 y173 y174 y175 y176 y177 y196 y208 y211 y215 y219 y220) k0_pay53
        (ix2 r ⟨h.val * 256 + g.val * 64 + d.val, by omega⟩)
      = if h.val = 0 then k0_pay32 x61 x62 x100 x104 x108 x112 x121 x123 x125 x126
            (ix2 ⟨128 * g.val + r.val, by omega⟩ ⟨(g.val * 64 + d.val) % 128, Nat.mod_lt _ (by decide)⟩)
        else k0_pay51 y171 y173 y174 y175 y176 y177 y196 y208 y211 y215 y219 y220
            (ix2 ⟨128 * g.val + r.val, by omega⟩ ⟨(g.val * 64 + d.val) % 128, Nat.mod_lt _ (by decide)⟩) := by
  pointwise [k0_pay1, k0_pay33, k0_pay34, k0_pay52, k0_pay53]
  have hh := h.isLt
  have hg := g.isLt
  have hd := d.isLt
  split
  · rw [if_pos (show h.val = 0 by omega)]
    refine (pick _ _ _ ?_).trans ?_
    · omega
    · split <;> congr 2 <;> apply Fin.ext <;> simp only [] <;> omega
  · split
    · rw [if_pos (show h.val = 0 by omega)]
      refine (pick _ _ _ ?_).trans ?_
      · omega
      · split <;> congr 2 <;> apply Fin.ext <;> simp only [] <;> omega
    · split
      · rw [if_neg (show ¬ h.val = 0 by omega)]
        refine (pick _ _ _ ?_).trans ?_
        · omega
        · split <;> congr 2 <;> apply Fin.ext <;> simp only [] <;> omega
      · rw [if_neg (show ¬ h.val = 0 by omega)]
        refine (pick _ _ _ ?_).trans ?_
        · omega
        · split <;> congr 2 <;> apply Fin.ext <;> simp only [] <;> omega

include hq hk1 hk2 hk3 hkc in
/-- The block's entries are the weighted means of the values the queries see. -/
theorem tile_at (z : Fin 8 → ℝ) (h0 : a0 (ix2 0 0) = (z 0 : EReal)) (h1 : a1 (ix2 0 0) = (z 1 : EReal))
    (h2 : a2 (ix2 0 0) = (z 2 : EReal)) (h3 : a3 (ix2 0 0) = (z 3 : EReal)) (h4 : a4 (ix2 0 0) = (z 4 : EReal))
    (h5 : a5 (ix2 0 0) = (z 5 : EReal)) (h6 : a6 (ix2 0 0) = (z 6 : EReal)) (h7 : a7 (ix2 0 0) = (z 7 : EReal))
    (h : Fin 2) (d : Fin 64) :
    tile q k1 k2 k3 kc i v1 v2 v3 vc a0 a1 a2 a3 a4 a5 a6 a7 (ix2 r ⟨h.val * 256 + g.val * 64 + d.val, by omega⟩)
      = mean (windowScores q k1 k2 k3 kc i g r h) (windowValues v1 v2 v3 vc h d)
          (log2e * z ⟨h.val * 4 + g.val, by omega⟩) := by
  have hg := g.isLt
  refine (place_at r _ _ _ _ _ _ _ _ _ _ _ _ _ _ _ _ _ _ _ _ _ _ h g d).trans ?_
  have hh : h = 0 ∨ h = 1 := by omega
  rcases hh with rfl | rfl
  · refine (if_pos (show (0 : Fin 2).val = 0 from rfl)).trans ?_
    refine (upper_at q k1 k2 k3 kc i g r hq hk1 hk2 hk3 hkc v1 v2 v3 vc a0 a1 a2 a3 (fun g => z ⟨g.val, by omega⟩)
      h0 h1 h2 h3 _ d (by simp only; omega)).trans ?_
    congr 3
    exact Fin.ext (show g.val = 0 * 4 + g.val by omega)
  · refine (if_neg (show ¬ (1 : Fin 2).val = 0 by decide)).trans ?_
    rw [second_group]
    refine (lower_at q k1 k2 k3 kc i g r hq hk1 hk2 hk3 hkc v1 v2 v3 vc a4 a5 a6 a7 (fun g => z ⟨4 + g.val, by omega⟩)
      h4 h5 h6 h7 _ d (by simp only; omega)).trans ?_
    congr 3

end Cert.KernelIdeal.Value

end
-- ==== Proof.AttnWindow.lean ====
module

public import proofs.«01_k».proof.Proof.AttnTile

@[expose] public section

set_option maxRecDepth 16384

noncomputable section

open Idealize.ShloMosaic Idealize.ShloMosaic.TcCoe Idealize.SL.Sem

/-! # Three blocks hold everything a query sees

A query in block `i` of its batch sees keys of the blocks `i - 1`, `i` and `i + 1` only, so that the
sums over the kernel's three blocks are the sums over all 1024 positions. -/

namespace Attention

open Cert.KernelIdeal Cert.KernelIdeal.Value

/-- The sum of one block of 128 positions. -/
def blockSum (f : Fin 1024 → EReal) (j : Fin 8) : EReal := ∑ c : Fin 128, f ⟨j.val * 128 + c.val, by omega⟩

/-- A sum whose terms vanish outside the window is a sum over three blocks. -/
theorem window_sum (i : Fin 8) (r : Fin 128) (f : Fin 1024 → EReal)
    (hf : ∀ s : Fin 1024, ¬ near (i.val * 128 + r.val) s.val → f s = 0) :
    ∑ s, f s
      = ∑ c : Fin 128, (if 0 < i.val ∧ r.val ≤ c.val then f ⟨(i.val - 1) * 128 + c.val, by omega⟩ else 0)
        + (∑ c : Fin 128, f ⟨i.val * 128 + c.val, by omega⟩
          + ∑ c : Fin 128, (if i.val < 7 ∧ c.val ≤ r.val then f ⟨min (i.val + 1) 7 * 128 + c.val, by omega⟩ else 0)) := by
  have hr := r.isLt
  have out : ∀ j : Fin 8, ¬ (j.val + 1 = i.val ∨ j = i ∨ j.val = i.val + 1) → blockSum f j = 0 := fun j hj =>
    Finset.sum_eq_zero fun c _ => hf _ (by have := c.isLt; simp only; omega)
  have before : ∑ c : Fin 128, (if 0 < i.val ∧ r.val ≤ c.val then f ⟨(i.val - 1) * 128 + c.val, by omega⟩ else 0)
      = if 0 < i.val then blockSum f ⟨i.val - 1, by omega⟩ else 0 := by
    split_ifs with h
    · refine Finset.sum_congr rfl fun c _ => ?_
      split_ifs with hc
      · rfl
      · exact (hf _ (by have := c.isLt; simp only; omega)).symm
    · exact Finset.sum_eq_zero fun c _ => if_neg fun hc => h hc.1
  have after : ∑ c : Fin 128, (if i.val < 7 ∧ c.val ≤ r.val then f ⟨min (i.val + 1) 7 * 128 + c.val, by omega⟩ else 0)
      = if i.val < 7 then blockSum f ⟨min (i.val + 1) 7, by omega⟩ else 0 := by
    split_ifs with h
    · refine Finset.sum_congr rfl fun c _ => ?_
      split_ifs with hc
      · rfl
      · exact (hf _ (by have := c.isLt; simp only; omega)).symm
    · exact Finset.sum_eq_zero fun c _ => if_neg fun hc => h hc.1
  rw [before, after, show ∑ c : Fin 128, f ⟨i.val * 128 + c.val, by omega⟩ = blockSum f i from rfl,
    Fin.sum_univ_tiles 8 128 rfl f]
  change ∑ j : Fin 8, blockSum f j = _
  generalize blockSum f = T at out ⊢
  clear before after hf
  rw [Fin.sum_univ_eight]
  match i with
  | 0 => rw [out 2 (by decide), out 3 (by decide), out 4 (by decide), out 5 (by decide), out 6 (by decide), out 7 (by decide)]; simp
  | 1 => rw [out 3 (by decide), out 4 (by decide), out 5 (by decide), out 6 (by decide), out 7 (by decide)]; simp [add_assoc]
  | 2 => rw [out 0 (by decide), out 4 (by decide), out 5 (by decide), out 6 (by decide), out 7 (by decide)]; simp [add_assoc]
  | 3 => rw [out 0 (by decide), out 1 (by decide), out 5 (by decide), out 6 (by decide), out 7 (by decide)]; simp [add_assoc]
  | 4 => rw [out 0 (by decide), out 1 (by decide), out 2 (by decide), out 6 (by decide), out 7 (by decide)]; simp [add_assoc]
  | 5 => rw [out 0 (by decide), out 1 (by decide), out 2 (by decide), out 3 (by decide), out 7 (by decide)]; simp [add_assoc]
  | 6 => rw [out 0 (by decide), out 1 (by decide), out 2 (by decide), out 3 (by decide), out 4 (by decide)]; simp [add_assoc]
  | 7 => rw [out 0 (by decide), out 1 (by decide), out 2 (by decide), out 3 (by decide), out 4 (by decide), out 5 (by decide)]; simp

variable (Q : Rows) (K V : KeyRows) (ck cv : Cache) (b : Fin 4) (i : Fin 8)
  (q : FVec Ideal S128x512 .bf16) (k1 k2 k3 v1 v2 v3 : FVec Ideal S128x128 .bf16) (kc vc : FVec Ideal S512x128 .bf16)
  (hq : ∀ (r : Fin 128) (e : Fin 512), q (ix2 r e) = Q (ix2 ⟨4096 + (b.val * 1024 + (i.val * 128 + r.val)), by omega⟩ e))
  (hk1 : ∀ c e : Fin 128, k1 (ix2 c e) = K (ix2 ⟨4096 + (b.val * 1024 + ((i.val - 1) * 128 + c.val)), by omega⟩ e))
  (hk2 : ∀ c e : Fin 128, k2 (ix2 c e) = K (ix2 ⟨4096 + (b.val * 1024 + (i.val * 128 + c.val)), by omega⟩ e))
  (hk3 : ∀ c e : Fin 128, k3 (ix2 c e) = K (ix2 ⟨4096 + (b.val * 1024 + (min (i.val + 1) 7 * 128 + c.val)), by omega⟩ e))
  (hv1 : ∀ c e : Fin 128, v1 (ix2 c e) = V (ix2 ⟨4096 + (b.val * 1024 + ((i.val - 1) * 128 + c.val)), by omega⟩ e))
  (hv2 : ∀ c e : Fin 128, v2 (ix2 c e) = V (ix2 ⟨4096 + (b.val * 1024 + (i.val * 128 + c.val)), by omega⟩ e))
  (hv3 : ∀ c e : Fin 128, v3 (ix2 c e) = V (ix2 ⟨4096 + (b.val * 1024 + (min (i.val + 1) 7 * 128 + c.val)), by omega⟩ e))
  (hkc : ∀ (s : Fin 512) (h : Fin 2) (d : Fin 64), kc (ix2 s ⟨h.val * 64 + d.val, by omega⟩) = context ck b h d s)
  (hvc : ∀ (s : Fin 512) (h : Fin 2) (d : Fin 64), vc (ix2 s ⟨h.val * 64 + d.val, by omega⟩) = context cv b h d s)

/-- The power of two of a masked score. -/
theorem exp2_if (p : Prop) [Decidable p] (x : EReal) :
    Ideal.exp2 (if p then x else ⊥) = if p then Ideal.exp2 x else 0 := by
  split_ifs
  · rfl
  · rfl

include hq in
/-- A latent score, from a block that holds the key. -/
theorem score_block (h : Fin 2) (g : Fin 4) (r : Fin 128) (key : Fin 128 → EReal) (s : Fin 1024)
    (hs : near (i.val * 128 + r.val) s.val)
    (hkey : ∀ e, key e = K (ix2 ⟨4096 + (b.val * 1024 + s.val), by omega⟩ e)) :
    dotAt q h g r key = latentScore Q K b h g ⟨i.val * 128 + r.val, by omega⟩ s := by
  unfold latentScore
  rw [if_pos hs]
  exact Finset.sum_congr rfl fun d _ => by rw [hkey, hq]

include hq hkc in
theorem score_context (h : Fin 2) (g : Fin 4) (r : Fin 128) (s : Fin 512) :
    (dotAt q h g r fun e => kc (ix2 s e)) = contextScore Q ck b h g ⟨i.val * 128 + r.val, by omega⟩ s :=
  Finset.sum_congr rfl fun d _ => by beta_reduce; rw [hkc, hq]

include hq hk1 hk2 hk3 hkc in
/-- A sum over the kernel's keys, weighted by powers of two of the scores. -/
theorem weighted (h : Fin 2) (g : Fin 4) (r : Fin 128) (w : Fin 1024 → EReal) (wc : Fin 512 → EReal)
    (w1 w2 w3 : Fin 128 → EReal) (h1 : ∀ c, w1 c = w ⟨(i.val - 1) * 128 + c.val, by omega⟩)
    (h2 : ∀ c, w2 c = w ⟨i.val * 128 + c.val, by omega⟩)
    (h3 : ∀ c, w3 c = w ⟨min (i.val + 1) 7 * 128 + c.val, by omega⟩) :
    ∑ x, Ideal.exp2 (windowScores q k1 k2 k3 kc i g r h x) * (Sum.elim w1 (Sum.elim w2 (Sum.elim w3 wc))) x
      = ∑ x, Ideal.exp2 (Sum.elim (latentScore Q K b h g ⟨i.val * 128 + r.val, by omega⟩)
          (contextScore Q ck b h g ⟨i.val * 128 + r.val, by omega⟩) x) * Sum.elim w wc x := by
  have hr := r.isLt
  simp only [Fintype.sum_sum_type, windowScores, Sum.elim_inl, Sum.elim_inr]
  rw [window_sum i r (fun s => Ideal.exp2 (latentScore Q K b h g ⟨i.val * 128 + r.val, by omega⟩ s) * w s) ?_]
  · simp only [← add_assoc]
    congr 1
    · congr 1
      · congr 1
        · refine Finset.sum_congr rfl fun c _ => ?_
          rw [exp2_if]
          split_ifs with hc
          · rw [h1, score_block Q K b i q hq h g r _ ⟨(i.val - 1) * 128 + c.val, by omega⟩
              (by have := c.isLt; simp only [near]; omega) (hk1 c)]
          · rw [zero_mul]
        · refine Finset.sum_congr rfl fun c _ => ?_
          rw [h2, score_block Q K b i q hq h g r _ ⟨i.val * 128 + c.val, by omega⟩
            (by have := c.isLt; simp only [near]; omega) (hk2 c)]
      · refine Finset.sum_congr rfl fun c _ => ?_
        rw [exp2_if]
        split_ifs with hc
        · rw [h3, score_block Q K b i q hq h g r _ ⟨min (i.val + 1) 7 * 128 + c.val, by omega⟩
            (by have := c.isLt; simp only [near]; omega) (hk3 c)]
        · rw [zero_mul]
    · refine Finset.sum_congr rfl fun s _ => ?_
      rw [score_context Q ck b i q kc hq hkc]
  · intro s hs
    simp only [latentScore]
    rw [if_neg hs]
    exact zero_mul _

include hq hk1 hk2 hk3 hkc hv1 hv2 hv3 hvc in
/-- The mean over the kernel's keys is the attention's result. -/
theorem mean_window (z : Fin 8 → ℝ) (h : Fin 2) (g : Fin 4) (r : Fin 128) (d : Fin 64) :
    mean (windowScores q k1 k2 k3 kc i g r h) (windowValues v1 v2 v3 vc h d)
        (log2e * z ⟨h.val * 4 + g.val, by omega⟩)
      = attend Q K V ck cv z b h g ⟨i.val * 128 + r.val, by omega⟩ d := by
  unfold attend mean
  congr 1
  · refine Eq.trans ?_ (weighted Q K ck b i q k1 k2 k3 kc hq hk1 hk2 hk3 hkc h g r (latent V b h d) (context cv b h d)
      (fun c => v1 (ix2 c ⟨h.val * 64 + d.val, by omega⟩)) (fun c => v2 (ix2 c ⟨h.val * 64 + d.val, by omega⟩))
      (fun c => v3 (ix2 c ⟨h.val * 64 + d.val, by omega⟩)) (fun c => hv1 c _) (fun c => hv2 c _) fun c => hv3 c _)
    refine Finset.sum_congr rfl fun x _ => ?_
    congr 1
    rcases x with c | c | c | c
    · rfl
    · rfl
    · rfl
    · exact hvc c h d
  · congr 1
    have e := weighted Q K ck b i q k1 k2 k3 kc hq hk1 hk2 hk3 hkc h g r (fun _ => 1) (fun _ => 1)
      (fun _ => 1) (fun _ => 1) (fun _ => 1) (fun _ => rfl) (fun _ => rfl) fun _ => rfl
    have one : ∀ x : Fin 1024 ⊕ Fin 512, Sum.elim (fun _ => (1 : EReal)) (fun _ => 1) x = 1 := by rintro (_ | _) <;> rfl
    have one' : ∀ x : Fin 128 ⊕ (Fin 128 ⊕ (Fin 128 ⊕ Fin 512)),
        Sum.elim (fun _ => (1 : EReal)) (Sum.elim (fun _ => 1) (Sum.elim (fun _ => 1) fun _ => 1)) x = 1 := by
      rintro (_ | _ | _ | _) <;> rfl
    simpa only [one, one', mul_one] using e

/-- A column belongs to one key-value head and one lane of it. -/
theorem column {P : Fin 128 → Prop} (h : ∀ (h : Fin 2) (d : Fin 64), P ⟨h.val * 64 + d.val, by omega⟩) (e : Fin 128) : P e := by
  have := h ⟨e.val / 64, by omega⟩ ⟨e.val % 64, by omega⟩
  have e' : (⟨e.val / 64 * 64 + e.val % 64, by omega⟩ : Fin 128) = e := Fin.ext (by simp only; omega)
  exact e' ▸ this

/-- Every index of a matrix is a pair. -/
theorem pairs {n k : ℕ} {P : Shape.Idx ⟨2, ![n, k]⟩ → Prop} (h : ∀ (a : Fin n) (b : Fin k), P (ix2 a b)) (i) : P i := by
  have e : i = ix2 (i 0) (i 1) := by
    funext j
    match j with
    | 0 => rfl
    | 1 => rfl
  rw [e]
  exact h _ _

/-- The block of results, from the arrays its inputs are cut from. -/
theorem tile_attend (Q : Rows) (K V : KeyRows) (ck cv : Cache) (b : Fin 4) (i : Fin 8)
    (q : FVec Ideal S128x512 .bf16) (k1 k2 k3 v1 v2 v3 : FVec Ideal S128x128 .bf16)
    (kc vc : FVec Ideal S512x128 .bf16)
    (hq : ∀ (r : Fin 128) (e : Fin 512) (hs : 4096 + (b.val * 1024 + (i.val * 128 + r.val)) < 8192),
      q (ix2 r e) = Q (ix2 ⟨4096 + (b.val * 1024 + (i.val * 128 + r.val)), hs⟩ e))
    (hk1 : ∀ (c e : Fin 128) (hs : 4096 + (b.val * 1024 + ((i.val - 1) * 128 + c.val)) < 8192),
      k1 (ix2 c e) = K (ix2 ⟨4096 + (b.val * 1024 + ((i.val - 1) * 128 + c.val)), hs⟩ e))
    (hk2 : ∀ (c e : Fin 128) (hs : 4096 + (b.val * 1024 + (i.val * 128 + c.val)) < 8192),
      k2 (ix2 c e) = K (ix2 ⟨4096 + (b.val * 1024 + (i.val * 128 + c.val)), hs⟩ e))
    (hk3 : ∀ (c e : Fin 128) (hs : 4096 + (b.val * 1024 + (min (i.val + 1) 7 * 128 + c.val)) < 8192),
      k3 (ix2 c e) = K (ix2 ⟨4096 + (b.val * 1024 + (min (i.val + 1) 7 * 128 + c.val)), hs⟩ e))
    (hv1 : ∀ (c e : Fin 128) (hs : 4096 + (b.val * 1024 + ((i.val - 1) * 128 + c.val)) < 8192),
      v1 (ix2 c e) = V (ix2 ⟨4096 + (b.val * 1024 + ((i.val - 1) * 128 + c.val)), hs⟩ e))
    (hv2 : ∀ (c e : Fin 128) (hs : 4096 + (b.val * 1024 + (i.val * 128 + c.val)) < 8192),
      v2 (ix2 c e) = V (ix2 ⟨4096 + (b.val * 1024 + (i.val * 128 + c.val)), hs⟩ e))
    (hv3 : ∀ (c e : Fin 128) (hs : 4096 + (b.val * 1024 + (min (i.val + 1) 7 * 128 + c.val)) < 8192),
      v3 (ix2 c e) = V (ix2 ⟨4096 + (b.val * 1024 + (min (i.val + 1) 7 * 128 + c.val)), hs⟩ e))
    (hkc : ∀ (s : Fin 512) (h : Fin 2) (d : Fin 64) (hs : h.val * 64 + d.val < 128),
      kc (ix2 s ⟨h.val * 64 + d.val, hs⟩) = context ck b h d s)
    (hvc : ∀ (s : Fin 512) (h : Fin 2) (d : Fin 64) (hs : h.val * 64 + d.val < 128),
      vc (ix2 s ⟨h.val * 64 + d.val, hs⟩) = context cv b h d s)
    (z : Fin 8 → ℝ) (hQ : ∀ i, ∃ x : ℝ, Q i = (x : EReal)) (hK : ∀ i, ∃ x : ℝ, K i = (x : EReal))
    (hck : ∀ i, ∃ x : ℝ, ck i = (x : EReal)) (a0 a1 a2 a3 a4 a5 a6 a7 : FVec Ideal S1x1 .f32)
    (h0 : a0 (ix2 0 0) = (z 0 : EReal)) (h1 : a1 (ix2 0 0) = (z 1 : EReal))
    (h2 : a2 (ix2 0 0) = (z 2 : EReal)) (h3 : a3 (ix2 0 0) = (z 3 : EReal)) (h4 : a4 (ix2 0 0) = (z 4 : EReal))
    (h5 : a5 (ix2 0 0) = (z 5 : EReal)) (h6 : a6 (ix2 0 0) = (z 6 : EReal)) (h7 : a7 (ix2 0 0) = (z 7 : EReal))
    (h : Fin 2) (g : Fin 4) (r : Fin 128) (d : Fin 64) (hj : h.val * 256 + g.val * 64 + d.val < 512)
    (ht : i.val * 128 + r.val < 1024) :
    tile q k1 k2 k3 kc i v1 v2 v3 vc a0 a1 a2 a3 a4 a5 a6 a7 (ix2 r ⟨h.val * 256 + g.val * 64 + d.val, hj⟩)
      = attend Q K V ck cv z b h g ⟨i.val * 128 + r.val, ht⟩ d :=
  (tile_at q k1 k2 k3 kc i g r (pairs fun r e => hq r e (by omega) ▸ hQ _) (pairs fun c e => hk1 c e (by omega) ▸ hK _)
      (pairs fun c e => hk2 c e (by omega) ▸ hK _) (pairs fun c e => hk3 c e (by omega) ▸ hK _)
      (pairs fun s => column fun h d => hkc s h d (by omega) ▸ hck _)
      v1 v2 v3 vc a0 a1 a2 a3 a4 a5 a6 a7 z h0 h1 h2 h3 h4 h5 h6 h7 h d).trans
    (mean_window Q K V ck cv b i q k1 k2 k3 v1 v2 v3 kc vc (fun r e => hq r e _) (fun r e => hk1 r e _)
      (fun r e => hk2 r e _) (fun r e => hk3 r e _) (fun r e => hv1 r e _) (fun r e => hv2 r e _)
      (fun r e => hv3 r e _) (fun s h d => hkc s h d _) (fun s h d => hvc s h d _) z h g r d)

end Attention

end
-- ==== Proof.AttnArray.lean ====
module

public import proofs.«01_k».proof.Proof.AttnWindow
public import proofs.«01_k».proof.Proof.Gen.KernelIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The array of results after the run -/

namespace Cert.KernelIdeal.Value

open Cert.KernelIdeal Cert.KernelIdeal.Gen Attention

variable (m : (ℓ : Loc nD τ sig) → Buf (Elt Ideal) ℓ)

/-- Grid point `t` works on block `t % 8` of batch `t / 8`: where each window's block sits. -/
theorem placed : ∀ t : Fin cfg0.N,
    win0_0.index t = ![32 + t.val, 0] ∧ win0_1.index t = ![4 + t.val / 8, 0] ∧ win0_2.index t = ![4 + t.val / 8, 0]
    ∧ win0_3.index t = ![t.val / 8, 1, 0, 0] ∧ win0_4.index t = ![t.val / 8, 1, 0, 0]
    ∧ win0_5.index t = ![0, 0] ∧ win0_6.index t = ![32 + t.val, 0] :=
  (by decide +kernel : ∀ t : Fin grid0.N, _)

theorem step : ∀ t : Fin cfg0.N, (grid0.coords t 1).val = t.val % 8 :=
  (by decide +kernel : ∀ t : Fin grid0.N, _)

/-- Where the three blocks of keys begin. -/
theorem starts : ∀ t : Fin cfg0.N, k0_off1 (grid0.coords t) = ![(t.val % 8 - 1) * 128, 0]
    ∧ k0_off2 (grid0.coords t) = ![t.val % 8 * 128, 0] ∧ k0_off3 (grid0.coords t) = ![min (t.val % 8 + 1) 7 * 128, 0] :=
  (by decide +kernel : ∀ t : Fin grid0.N, _)

/-- The cached keys of the batch, transposed back. -/
theorem cached_keys (c : Dev nD) (t : Fin cfg0.N) (hb : t.val / 8 < 4) (s : Fin 512) (h : Fin 2) (d : Fin 64)
    (hs : h.val * 64 + d.val < 128) : k0_pay2 (iblk m c 3 t) (ix2 s ⟨h.val * 64 + d.val, hs⟩)
      = m ((c : Thread nD τ).loc main_arg3) (ix5 ⟨t.val / 8, hb⟩ 1 s h d) := by
  pointwise [k0_pay2]
  blk_point [iblk, V, placed t]

/-- The cached values of the batch, transposed back. -/
theorem cached_values (c : Dev nD) (t : Fin cfg0.N) (hb : t.val / 8 < 4) (s : Fin 512) (h : Fin 2) (d : Fin 64)
    (hs : h.val * 64 + d.val < 128) : k0_pay3 (iblk m c 4 t) (ix2 s ⟨h.val * 64 + d.val, hs⟩)
      = m ((c : Thread nD τ).loc main_arg4) (ix5 ⟨t.val / 8, hb⟩ 1 s h d) := by
  pointwise [k0_pay3]
  blk_point [iblk, V, placed t]

/-- The carried keys are the batch's cached keys, at every point. -/
theorem carried_keys (c : Dev nD) : ∀ (n : ℕ) (hn : n < cfg0.N) (hb : n / 8 < 4) (s : Fin 512) (h : Fin 2) (d : Fin 64)
    (hs : h.val * 64 + d.val < 128), (outsAt0 m c n hn).2.1 (ix2 s ⟨h.val * 64 + d.val, hs⟩)
      = m ((c : Thread nD τ).loc main_arg3) (ix5 ⟨n / 8, hb⟩ 1 s h d) := by
  intro n
  induction n with
  | zero =>
    intro hn hb s h d hs
    rw [outsAt0_A m c ⟨0, hn⟩ rfl]
    frame_out
    exact cached_keys m c ⟨0, hn⟩ hb s h d hs
  | succ n ih =>
    intro hn hb s h d hs
    by_cases h0 : (n + 1) % 8 = 0
    · rw [outsAt0_A m c ⟨n + 1, hn⟩ h0]
      frame_out
      exact cached_keys m c ⟨n + 1, hn⟩ hb s h d hs
    · rw [outsAt0_B m c ⟨n + 1, hn⟩ h0]
      frame_out
      refine (ih (Nat.lt_of_succ_lt hn) (by omega) s h d hs).trans ?_
      congr 2
      exact Fin.ext (by simp only; omega)

/-- The carried values are the batch's cached values, at every point. -/
theorem carried_values (c : Dev nD) : ∀ (n : ℕ) (hn : n < cfg0.N) (hb : n / 8 < 4) (s : Fin 512) (h : Fin 2) (d : Fin 64)
    (hs : h.val * 64 + d.val < 128), (outsAt0 m c n hn).2.2 (ix2 s ⟨h.val * 64 + d.val, hs⟩)
      = m ((c : Thread nD τ).loc main_arg4) (ix5 ⟨n / 8, hb⟩ 1 s h d) := by
  intro n
  induction n with
  | zero =>
    intro hn hb s h d hs
    rw [outsAt0_A m c ⟨0, hn⟩ rfl]
    frame_out
    exact cached_values m c ⟨0, hn⟩ hb s h d hs
  | succ n ih =>
    intro hn hb s h d hs
    by_cases h0 : (n + 1) % 8 = 0
    · rw [outsAt0_A m c ⟨n + 1, hn⟩ h0]
      frame_out
      exact cached_values m c ⟨n + 1, hn⟩ hb s h d hs
    · rw [outsAt0_B m c ⟨n + 1, hn⟩ h0]
      frame_out
      refine (ih (Nat.lt_of_succ_lt hn) (by omega) s h d hs).trans ?_
      congr 2
      exact Fin.ext (by simp only; omega)

/-- The sinks' logits of the layer. -/
theorem sink_logits (c : Dev nD) (t : Fin cfg0.N) (i : Fin 8) :
    iblk m c 5 t (ix2 i 0) = m ((c : Thread nD τ).loc main_arg5) (ix2 1 i) := by
  blk_point [iblk, V, placed t]

variable (z : Fin 8 → ℝ)

/-- What the run's arguments give the attention. -/
abbrev attended (c : Dev nD) : Fin 4 → Fin 2 → Fin 4 → Fin 1024 → Fin 64 → EReal :=
  attend (m ((c : Thread nD τ).loc main_arg0)) (m ((c : Thread nD τ).loc main_arg1))
    (m ((c : Thread nD τ).loc main_arg2)) (m ((c : Thread nD τ).loc main_arg3)) (m ((c : Thread nD τ).loc main_arg4)) z

variable (c : Dev nD) (hq : ∀ i, ∃ x : ℝ, m ((c : Thread nD τ).loc main_arg0) i = (x : EReal))
  (hk : ∀ i, ∃ x : ℝ, m ((c : Thread nD τ).loc main_arg1) i = (x : EReal))
  (hck : ∀ i, ∃ x : ℝ, m ((c : Thread nD τ).loc main_arg3) i = (x : EReal))
  (hz : ∀ i, m ((c : Thread nD τ).loc main_arg5) (ix2 1 i) = (z i : EReal))

set_option maxHeartbeats 1000000 in
include hq hk hck hz in
/-- What a batch's first point leaves in the block of results. -/
theorem first_point (t : Fin cfg0.N) (h0 : t.val % 8 = 0) (hb : t.val / 8 < 4) (h : Fin 2) (g : Fin 4) (r : Fin 128)
    (d : Fin 64) (hj : h.val * 256 + g.val * 64 + d.val < 512) (ht : t.val % 8 * 128 + r.val < 1024) :
    (outsAt0 m c t.val t.isLt).1 (ix2 r ⟨h.val * 256 + g.val * 64 + d.val, hj⟩)
      = attended m z c ⟨t.val / 8, hb⟩ h g ⟨t.val % 8 * 128 + r.val, ht⟩ d := by
  rw [outsAt0_A m c t h0]
  frame_out
  simp only [step t]
  refine tile_attend _ _ _ _ _ ⟨t.val / 8, hb⟩ ⟨t.val % 8, by omega⟩ _ _ _ _ _ _ _ _ _ ?_ ?_ ?_ ?_ ?_ ?_ ?_
    ?_ ?_ z hq hk hck _ _ _ _ _ _ _ _ ?_ ?_ ?_ ?_ ?_ ?_ ?_ ?_ h g r d _ _
  case refine_8 => exact cached_keys m c t hb
  case refine_9 => exact cached_values m c t hb
  case refine_1 => intro r e hs; blk_point [iblk, V, placed t]
  case refine_2 => intro r e hs; blk_point [iblk, V, placed t, starts t]
  case refine_3 => intro r e hs; blk_point [iblk, V, placed t, starts t]
  case refine_4 => intro r e hs; blk_point [iblk, V, placed t, starts t]
  case refine_5 => intro r e hs; blk_point [iblk, V, placed t, starts t]
  case refine_6 => intro r e hs; blk_point [iblk, V, placed t, starts t]
  case refine_7 => intro r e hs; blk_point [iblk, V, placed t, starts t]
  case refine_10 =>
    refine Eq.trans (b := iblk m c 5 t (ix2 (0 : Fin 8) (0 : Fin 128))) ?_ ((sink_logits m c t 0).trans (hz 0))
    generalize iblk m c 5 t = X
    pointwise
  case refine_11 =>
    refine Eq.trans (b := iblk m c 5 t (ix2 (1 : Fin 8) (0 : Fin 128))) ?_ ((sink_logits m c t 1).trans (hz 1))
    generalize iblk m c 5 t = X
    pointwise
  case refine_12 =>
    refine Eq.trans (b := iblk m c 5 t (ix2 (2 : Fin 8) (0 : Fin 128))) ?_ ((sink_logits m c t 2).trans (hz 2))
    generalize iblk m c 5 t = X
    pointwise
  case refine_13 =>
    refine Eq.trans (b := iblk m c 5 t (ix2 (3 : Fin 8) (0 : Fin 128))) ?_ ((sink_logits m c t 3).trans (hz 3))
    generalize iblk m c 5 t = X
    pointwise
  case refine_14 =>
    refine Eq.trans (b := iblk m c 5 t (ix2 (4 : Fin 8) (0 : Fin 128))) ?_ ((sink_logits m c t 4).trans (hz 4))
    generalize iblk m c 5 t = X
    pointwise
  case refine_15 =>
    refine Eq.trans (b := iblk m c 5 t (ix2 (5 : Fin 8) (0 : Fin 128))) ?_ ((sink_logits m c t 5).trans (hz 5))
    generalize iblk m c 5 t = X
    pointwise
  case refine_16 =>
    refine Eq.trans (b := iblk m c 5 t (ix2 (6 : Fin 8) (0 : Fin 128))) ?_ ((sink_logits m c t 6).trans (hz 6))
    generalize iblk m c 5 t = X
    pointwise
  case refine_17 =>
    refine Eq.trans (b := iblk m c 5 t (ix2 (7 : Fin 8) (0 : Fin 128))) ?_ ((sink_logits m c t 7).trans (hz 7))
    generalize iblk m c 5 t = X
    pointwise

set_option maxHeartbeats 1000000 in
include hq hk hck hz in
/-- What a later point leaves in it. -/
theorem later_point (t : Fin cfg0.N) (h0 : ¬ t.val % 8 = 0) (hb : t.val / 8 < 4) (h : Fin 2) (g : Fin 4) (r : Fin 128)
    (d : Fin 64) (hj : h.val * 256 + g.val * 64 + d.val < 512) (ht : t.val % 8 * 128 + r.val < 1024) :
    (outsAt0 m c t.val t.isLt).1 (ix2 r ⟨h.val * 256 + g.val * 64 + d.val, hj⟩)
      = attended m z c ⟨t.val / 8, hb⟩ h g ⟨t.val % 8 * 128 + r.val, ht⟩ d := by
  have hl := t.isLt
  have hp : t.val - 1 < cfg0.N := by omega
  have hd : (t.val - 1) / 8 = t.val / 8 := by omega
  rw [outsAt0_B m c t h0]
  frame_out
  simp only [step t]
  refine tile_attend _ _ _ _ _ ⟨t.val / 8, hb⟩ ⟨t.val % 8, by omega⟩ _ _ _ _ _ _ _ _ _ ?_ ?_ ?_ ?_ ?_ ?_ ?_
    ?_ ?_ z hq hk hck _ _ _ _ _ _ _ _ ?_ ?_ ?_ ?_ ?_ ?_ ?_ ?_ h g r d _ _
  case refine_8 =>
    intro s h d hs
    rw [(Memref.isWhole_whole _).read_unread]
    refine (carried_keys m c (t.val - 1) hp (hd ▸ hb) s h d hs).trans ?_
    simp only [hd]
  case refine_9 =>
    intro s h d hs
    rw [(Memref.isWhole_whole _).read_unread]
    refine (carried_values m c (t.val - 1) hp (hd ▸ hb) s h d hs).trans ?_
    simp only [hd]
  case refine_1 => intro r e hs; blk_point [iblk, V, placed t]
  case refine_2 => intro r e hs; blk_point [iblk, V, placed t, starts t]
  case refine_3 => intro r e hs; blk_point [iblk, V, placed t, starts t]
  case refine_4 => intro r e hs; blk_point [iblk, V, placed t, starts t]
  case refine_5 => intro r e hs; blk_point [iblk, V, placed t, starts t]
  case refine_6 => intro r e hs; blk_point [iblk, V, placed t, starts t]
  case refine_7 => intro r e hs; blk_point [iblk, V, placed t, starts t]
  case refine_10 =>
    refine Eq.trans (b := iblk m c 5 t (ix2 (0 : Fin 8) (0 : Fin 128))) ?_ ((sink_logits m c t 0).trans (hz 0))
    generalize iblk m c 5 t = X
    pointwise
  case refine_11 =>
    refine Eq.trans (b := iblk m c 5 t (ix2 (1 : Fin 8) (0 : Fin 128))) ?_ ((sink_logits m c t 1).trans (hz 1))
    generalize iblk m c 5 t = X
    pointwise
  case refine_12 =>
    refine Eq.trans (b := iblk m c 5 t (ix2 (2 : Fin 8) (0 : Fin 128))) ?_ ((sink_logits m c t 2).trans (hz 2))
    generalize iblk m c 5 t = X
    pointwise
  case refine_13 =>
    refine Eq.trans (b := iblk m c 5 t (ix2 (3 : Fin 8) (0 : Fin 128))) ?_ ((sink_logits m c t 3).trans (hz 3))
    generalize iblk m c 5 t = X
    pointwise
  case refine_14 =>
    refine Eq.trans (b := iblk m c 5 t (ix2 (4 : Fin 8) (0 : Fin 128))) ?_ ((sink_logits m c t 4).trans (hz 4))
    generalize iblk m c 5 t = X
    pointwise
  case refine_15 =>
    refine Eq.trans (b := iblk m c 5 t (ix2 (5 : Fin 8) (0 : Fin 128))) ?_ ((sink_logits m c t 5).trans (hz 5))
    generalize iblk m c 5 t = X
    pointwise
  case refine_16 =>
    refine Eq.trans (b := iblk m c 5 t (ix2 (6 : Fin 8) (0 : Fin 128))) ?_ ((sink_logits m c t 6).trans (hz 6))
    generalize iblk m c 5 t = X
    pointwise
  case refine_17 =>
    refine Eq.trans (b := iblk m c 5 t (ix2 (7 : Fin 8) (0 : Fin 128))) ?_ ((sink_logits m c t 7).trans (hz 7))
    generalize iblk m c 5 t = X
    pointwise

/-- The array after the run: the first rows as launched, the other rows attended. -/
def finalOut (c : Dev nD) : FVec Ideal S8192x512 .bf16 := fun j =>
  if h : (j 0).val < 4096 then m ((c : Thread nD τ).loc main_arg0) j
  else
    have h0 : (j 0).val < 8192 := (j 0).isLt
    have h1 : (j 1).val < 512 := (j 1).isLt
    attended m z c ⟨((j 0).val - 4096) / 1024, by omega⟩ ⟨(j 1).val / 256, by omega⟩ ⟨(j 1).val / 64 % 4, by omega⟩
      ⟨((j 0).val - 4096) % 1024, by omega⟩ ⟨(j 1).val % 64, by omega⟩

theorem finalOut_at (c : Dev nD) (j : S8192x512.Idx) (b : Fin 4) (h : Fin 2) (g : Fin 4) (s : Fin 1024) (d : Fin 64)
    (e0 : (j 0).val = 4096 + (b.val * 1024 + s.val)) (e1 : (j 1).val = h.val * 256 + g.val * 64 + d.val) :
    finalOut m z c j = attended m z c b h g s d := by
  have hs := s.isLt
  have hg := g.isLt
  have hd := d.isLt
  unfold finalOut
  rw [dif_neg (by rw [e0]; exact Nat.not_lt.mpr (Nat.le_add_right _ _))]
  have hb' : (⟨((j 0).val - 4096) / 1024, by omega⟩ : Fin 4) = b := Fin.ext (by simp only; omega)
  have hs' : (⟨((j 0).val - 4096) % 1024, by omega⟩ : Fin 1024) = s := Fin.ext (by simp only; omega)
  have hh' : (⟨(j 1).val / 256, by omega⟩ : Fin 2) = h := Fin.ext (by simp only; omega)
  have hg' : (⟨(j 1).val / 64 % 4, by omega⟩ : Fin 4) = g := Fin.ext (by simp only; omega)
  have hd' : (⟨(j 1).val % 64, by omega⟩ : Fin 64) = d := Fin.ext (by simp only; omega)
  simp only [hb', hs', hh', hg', hd']

/-- A statement about every entry of a block of results, head by head. -/
theorem blocks {P : S128x512.Idx → Prop} (hP : ∀ (r : Fin 128) (h : Fin 2) (g : Fin 4) (d : Fin 64)
    (hj : h.val * 256 + g.val * 64 + d.val < 512), P (ix2 r ⟨h.val * 256 + g.val * 64 + d.val, hj⟩)) (y) : P y := by
  have hy : (y 1).val < 512 := (y 1).isLt
  have e : y = ix2 (y 0) ⟨(⟨(y 1).val / 256, by omega⟩ : Fin 2).val * 256 + (⟨(y 1).val / 64 % 4, by omega⟩ : Fin 4).val * 64
      + (⟨(y 1).val % 64, by omega⟩ : Fin 64).val, by simp only; omega⟩ := by
    funext j
    match j with
    | 0 => rfl
    | 1 => exact Fin.ext (by show (y 1).val = (y 1).val / 256 * 256 + (y 1).val / 64 % 4 * 64 + (y 1).val % 64; omega)
  rw [e]
  exact hP _ _ _ _ _

include hq hk hck hz in
theorem final : (dats m 0 c).arrAt 6 (cfgs 0).N
    = fun i => if 32 * 128 ≤ (i 0 : ℕ) then finalOut m z c i else V m c main_v8 i := by
  refine (dats m 0 c).arrAt_eq_of_coversWhere 6 _ (fun β => 32 ≤ β 0) (by decide +kernel) (fun t hf y => ?_)
    (fun j => by blk_simp [Pipeline.Window.cell_apply]; omega)
  blk_simp
  rw [after0_6]
  have hN := lt_of_lt_of_eq t.isLt (show cfg0.N = 32 from N_0)
  revert y
  refine blocks fun r h g d hj => ?_
  refine Eq.trans ((em (t.val % 8 = 0)).elim
    (fun h0 => first_point m z c hq hk hck hz t h0 (by omega) h g r d hj (by omega))
    fun h0 => later_point m z c hq hk hck hz t h0 (by omega) h g r d hj (by omega)) ?_
  have hr := r.isLt
  have hg := g.isLt
  have hd := d.isLt
  have e0 : (((win0_6.blk t).view.emb (ix2 r ⟨h.val * 256 + g.val * 64 + d.val, hj⟩)) 0).val = (32 + t.val) * 128 + r.val := by
    blk_simp [placed t]
  have e1 : (((win0_6.blk t).view.emb (ix2 r ⟨h.val * 256 + g.val * 64 + d.val, hj⟩)) 1).val = h.val * 256 + g.val * 64 + d.val := by
    blk_simp [placed t]
  exact (finalOut_at m z c _ _ _ _ _ _ (e0.trans (by simp only; omega)) e1).symm

/-- The array starts as a copy of the queries. -/
theorem entry_out : V m c main_v8 = m ((c : Thread nD τ).loc main_arg0) := by
  entry_read
  rfl

end Cert.KernelIdeal.Value

end
-- ==== Proof.AttnRef.lean ====
module

public import proofs.«01_k».proof.Proof.Gen.ReferenceIdeal.Run
public import Idealize.ShloMosaic.Lib.Pipeline.ValueKit
public import proofs.«01_k».proof.Proof.AttnMath

@[expose] public section

set_option maxRecDepth 16384

noncomputable section

open Idealize.ShloMosaic Idealize.ShloMosaic.TcCoe Idealize.SL.Sem

/-! # What the reference computes -/

namespace Cert.ReferenceIdeal.Value

open Cert.ReferenceIdeal Cert.ReferenceIdeal.Gen Attention

/-- The latent keys (or values) of a batch followed by its cached ones. -/
def joined (k : FVec Ideal S8192x128 .bf16) (ck : FVec Ideal S4x4x512x2x64 .f32) : FVec Ideal S4x1536x2x64 .f32 :=
  concatenate S4x1536x2x64 1
    [⟨S4x1024x2x64, shapeCast _ (extractStridedSlice S4096x128 ![4096, 0] (extf .f32 k bitsLt_bf16_f32)
        slices_S8192x128_S4096x128_4096_0) shapeCasts_S4096x128_S4x1024x2x64⟩,
      ⟨S4x512x2x64, shapeCast _ (extractStridedSlice S4x1x512x2x64 ![0, 1, 0, 0, 0] ck
        slices_S4x4x512x2x64_S4x1x512x2x64_0_1_0_0_0) shapeCasts_S4x1x512x2x64_S4x512x2x64⟩]
    concatenates_S4x1024x2x64_S4x512x2x64_S4x1536x2x64_d1

/-- The queries with the kernel's scale taken off. -/
def queries (q : FVec Ideal S8192x512 .bf16) : FVec Ideal S4x1024x2x4x64 .f32 :=
  shapeCast _ (mulf (Host.divf (extractStridedSlice S4096x512 ![4096, 0] (extf .f32 q bitsLt_bf16_f32)
      slices_S8192x512_S4096x512_4096_0)
      (broadcastInDim S4096x512 ![] bcast_S_S4096x512 (constant S_ .f32 0x3E000000#32)))
    (broadcastInDim S4096x512 ![] bcast_S_S4096x512 (Host.log (constant S_ .f32 0x40000000#32))))
    shapeCasts_S4096x512_S4x1024x2x4x64

/-- Which key positions a query position sees. -/
def seen : IVec S1024x1536 1 :=
  concatenate S1024x1536 1
    [⟨S1024x1024, cmpi .sle (absi (subi
        (broadcastInDim S1024x1024 ![0, 1] bcast_S1x1024_S1024x1024_0_1
          (broadcastInDim S1x1024 ![1] bcast_S1024_S1x1024_1 (iotaInDim S1024 32 0)))
        (broadcastInDim S1024x1024 ![0, 1] bcast_S1024x1_S1024x1024_0_1
          (broadcastInDim S1024x1 ![0] bcast_S1024_S1024x1_0 (iotaInDim S1024 32 0)))))
        (broadcastInDim S1024x1024 ![] bcast_S_S1024x1024 (constantI S_ 32 128#32))⟩,
      ⟨S1024x512, broadcastInDim S1024x512 ![] bcast_S_S1024x512 (constantI S_ 1 1#1)⟩]
    concatenates_S1024x1024_S1024x512_S1024x1536_d1

/-- The masked logits. -/
def logits (K : FVec Ideal S4x1536x2x64 .f32) (Q : FVec Ideal S4x1024x2x4x64 .f32) : FVec Ideal S4x2x4x1024x1536 .f32 :=
  select (broadcastInDim S4x2x4x1024x1536 ![3, 4] bcast_S1024x1536_S4x2x4x1024x1536_3_4 seen)
    (mulf (transpose S4x2x4x1024x1536 [0, 1, 4, 3, 2]
        (Host.dotGeneral dot_S4x1536x2x64_S4x1024x2x4x64_S4x2x1536x1024x4_3_4_1_13_02_02 none K Q)
        transposes_S4x2x1536x1024x4_S4x2x4x1024x1536_0_1_4_3_2)
      (broadcastInDim S4x2x4x1024x1536 ![] bcast_S_S4x2x4x1024x1536 (constant S_ .f32 0x3E000000#32)))
    (broadcastInDim S4x2x4x1024x1536 ![] bcast_S_S4x2x4x1024x1536 (id (constant S_ .f32 0xFF800000#32)))

/-- The logits with the sink's beside them. -/
def withSink (x : FVec Ideal S4x2x4x1024x1536 .f32) (s : FVec Ideal S4x8 .f32) : FVec Ideal S4x2x4x1024x1537 .f32 :=
  concatenate S4x2x4x1024x1537 4
    [⟨S4x2x4x1024x1536, x⟩,
      ⟨S4x2x4x1024x1, broadcastInDim S4x2x4x1024x1 ![0, 1, 2, 3, 4] bcast_S1x2x4x1x1_S4x2x4x1024x1_0_1_2_3_4
        (shapeCast _ (shapeCast _ (extractStridedSlice S1x8 ![1, 0] s slices_S4x8_S1x8_1_0) shapeCasts_S1x8_S8)
          shapeCasts_S8_S1x2x4x1x1)⟩]
    concatenates_S4x2x4x1024x1536_S4x2x4x1024x1_S4x2x4x1024x1537_d4

/-- Each row's largest logit. -/
def largest (x : FVec Ideal S4x2x4x1024x1537 .f32) : FVec Ideal S4x2x4x1024 .f32 :=
  maximumf (broadcastInDim S4x2x4x1024 ![] bcast_S_S4x2x4x1024 (constant S_ .f32 0xFF800000#32))
    (Host.reduce FloatOps.maximumf x (constant S_ .f32 0xFF800000#32) reducesTo_S4x2x4x1024x1537_S4x2x4x1024_d4 h_S_)

/-- The exponentials of the logits, a number taken off each row. -/
def exponentials (x : FVec Ideal S4x2x4x1024x1537 .f32) (M : FVec Ideal S4x2x4x1024 .f32) :
    FVec Ideal S4x2x4x1024x1537 .f32 :=
  Host.exp (subf x (broadcastInDim S4x2x4x1024x1537 ![0, 1, 2, 3, 4] bcast_S4x2x4x1024x1_S4x2x4x1024x1537_0_1_2_3_4
    (broadcastInDim S4x2x4x1024x1 ![0, 1, 2, 3] bcast_S4x2x4x1024_S4x2x4x1024x1_0_1_2_3 M)))

/-- Each row divided by its sum, the sink's entry dropped. -/
def weights (e : FVec Ideal S4x2x4x1024x1537 .f32) : FVec Ideal S4x2x4x1024x1536 .f32 :=
  extractStridedSlice S4x2x4x1024x1536 ![0, 0, 0, 0, 0]
    (Host.divf e (broadcastInDim S4x2x4x1024x1537 ![0, 1, 2, 3, 4] bcast_S4x2x4x1024x1_S4x2x4x1024x1537_0_1_2_3_4
      (broadcastInDim S4x2x4x1024x1 ![0, 1, 2, 3] bcast_S4x2x4x1024_S4x2x4x1024x1_0_1_2_3
        (Host.reduceAdd e (constant S_ .f32 0x00000000#32) reducesTo_S4x2x4x1024x1537_S4x2x4x1024_d4 h_S_))))
    slices_S4x2x4x1024x1537_S4x2x4x1024x1536_0_0_0_0_0

/-- The weighted values, as rows. -/
def latentRows (V : FVec Ideal S4x1536x2x64 .f32) (W : FVec Ideal S4x2x4x1024x1536 .f32) :
    FVec Ideal S4096x512 .bf16 :=
  truncf .bf16 (shapeCast _ (transpose S4x1024x2x4x64 [0, 4, 1, 3, 2]
    (Host.dotGeneral dot_S4x1536x2x64_S4x2x4x1024x1536_S4x2x64x4x1024_1_4_3_23_02_01 none V W)
    transposes_S4x2x64x4x1024_S4x1024x2x4x64_0_4_1_3_2) shapeCasts_S4x1024x2x4x64_S4096x512) bitsLt_bf16_f32

/-- The result: the context rows as they came, the latent rows from the weighted values. -/
def result (q : FVec Ideal S8192x512 .bf16) (V : FVec Ideal S4x1536x2x64 .f32) (W : FVec Ideal S4x2x4x1024x1536 .f32) :
    FVec Ideal S8192x512 .bf16 :=
  concatenate S8192x512 0
    [⟨S4096x512, extractStridedSlice S4096x512 ![0, 0] q slices_S8192x512_S4096x512_0_0⟩,
      ⟨S4096x512, latentRows V W⟩]
    concatenates_S4096x512_S4096x512_S8192x512_d0

/-- The reference as a whole. -/
def refOut (q : FVec Ideal S8192x512 .bf16) (k v : FVec Ideal S8192x128 .bf16)
    (ck cv : FVec Ideal S4x4x512x2x64 .f32) (s : FVec Ideal S4x8 .f32) : FVec Ideal S8192x512 .bf16 :=
  result q (joined v cv)
    (weights (exponentials (withSink (logits (joined k ck) (queries q)) s)
      (largest (withSink (logits (joined k ck) (queries q)) s))))

/-- The reference's run ends with this result. -/
theorem out_eq (m : (ℓ : Loc nD τ sig) → Buf (Elt Ideal) ℓ) (c : Dev nD) :
    res_out0 m c = refOut (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

theorem bot_bits : Ideal.ofBits .f32 0xFF800000#32 = ⊥ := by simp [Ideal.ofBits, Ideal.ieee]

theorem reduces : S4x2x4x1024x1537.Reduces [4] S4x2x4x1024 := by decide

theorem lift_at (b : Fin 4) (h : Fin 2) (g : Fin 4) (t : Fin 1024) (i : Fin 1537) :
    reduces.lift (ix4 b h g t) i = ix5 b h g t i := by
  funext c
  fin_cases c <;> rfl

/-- A row's maximum, as a fold over the row. -/
theorem row_max (x : FVec Ideal S4x2x4x1024x1537 .f32) (init : FVec Ideal S_ .f32) (j : S4x2x4x1024.Idx) :
    Host.reduce FloatOps.maximumf x init reducesTo_S4x2x4x1024x1537_S4x2x4x1024_d4 h_S_ j
      = Finset.univ.fold max (init (Shape.Idx.first h_S_)) (x ∘ reduces.lift j) :=
  Host.reduce_eq_fold_single FloatOps.maximumf x init _ reduces _ _

/-- The maximum of two arrays, at an entry. -/
theorem max_at {s : Shape} (x y : FVec Ideal s .f32) (j : s.Idx) : maximumf x y j = max (x j) (y j) := rfl

/-- A row's largest logit is real when none is `⊤` and one is not `⊥`. -/
theorem largest_real (x : FVec Ideal S4x2x4x1024x1537 .f32) (b : Fin 4) (h : Fin 2) (g : Fin 4)
    (t : Fin 1024) (hx : ∀ s : Fin 1537, x (ix5 b h g t s) ≠ ⊤)
    (i : Fin 1537) (hi : x (ix5 b h g t i) ≠ ⊥) : ∃ r : ℝ, largest x (ix4 b h g t) = (r : EReal) := by
  have e : x ∘ reduces.lift (ix4 b h g t) = fun s : Fin 1537 => x (ix5 b h g t s) := by
    funext s
    exact congrArg x (lift_at b h g t s)
  unfold largest
  rw [max_at, row_max, e]
  have hinit : (constant S_ .f32 0xFF800000#32 : FVec Ideal S_ .f32) (Shape.Idx.first h_S_) = ⊥ := bot_bits
  have hb : (broadcastInDim S4x2x4x1024 ![] bcast_S_S4x2x4x1024
      (constant S_ .f32 0xFF800000#32 : FVec Ideal S_ .f32)) (ix4 b h g t) = ⊥ := bot_bits
  rw [hinit, hb]
  refine ⟨_, (EReal.coe_toReal ?_ ?_).symm⟩
  · simp only [ne_eq, max_eq_top, not_or]
    exact ⟨bot_ne_top, fold_ne_top _ bot_ne_top _ hx⟩
  · exact (lt_max_of_lt_right ((Finset.lt_fold_max _).2 (.inr ⟨i, Finset.mem_univ _, bot_lt_iff_ne_bot.2 hi⟩))).ne'

end Cert.ReferenceIdeal.Value

end
-- ==== Proof.AttnRefValue.lean ====
module

public import proofs.«01_k».proof.Proof.Gen.ReferenceIdeal.Run
public import Idealize.ShloMosaic.Lib.Pipeline.ValueKit
public import Idealize.ShloMosaic.Lib.WordCmp
public import proofs.«01_k».proof.Proof.AttnRef

@[expose] public section

set_option maxRecDepth 16384

noncomputable section

open Idealize.ShloMosaic Idealize.ShloMosaic.TcCoe Idealize.SL.Sem

/-! # The reference, entry by entry -/

namespace Cert.ReferenceIdeal.Value

open Cert.ReferenceIdeal Cert.ReferenceIdeal.Gen Attention

theorem joined_at (k : FVec Ideal S8192x128 .bf16) (ck : FVec Ideal S4x4x512x2x64 .f32)
    (b : Fin 4) (s : Fin 1536) (h : Fin 2) (d : Fin 64) : joined k ck (ix4 b s h d)
      = if hs : s.val < 1024 then latent k b h d ⟨s.val, hs⟩ else context ck b h d ⟨s.val - 1024, by omega⟩ := by
  pointwise [joined]

theorem eighth : Ideal.ofBits .f32 0x3E000000#32 = ((1 / 8 : ℝ) : EReal) := by
  simp [Ideal.ofBits, Ideal.ieee, -EReal.coe_mul]; norm_num

theorem log_two : Ideal.log (Ideal.ofBits .f32 0x40000000#32) = ((Real.log 2 : ℝ) : EReal) := by
  rw [show Ideal.ofBits .f32 0x40000000#32 = ((2 : ℝ) : EReal) from by
    simp [Ideal.ofBits, Ideal.ieee, -EReal.coe_mul]; norm_num]
  show (if (2 : ℝ) ≤ 0 then ⊥ else ((Real.log 2 : ℝ) : EReal)) = _
  rw [if_neg (by norm_num)]

theorem queries_at (q : FVec Ideal S8192x512 .bf16)
    (b : Fin 4) (t : Fin 1024) (h : Fin 2) (g : Fin 4) (d : Fin 64) : queries q (ix5 b t h g d)
      = Ideal.div (query q b h g t d) ((1 / 8 : ℝ) : EReal) * ((Real.log 2 : ℝ) : EReal) := by
  rw [← eighth, ← log_two]
  pointwise [queries]

/-- The comparison of a distance with the window's width. -/
theorem at_most : ∀ n : Fin 1024, IntOp.cmpi CmpIPredicate.sle (BitVec.ofNat 32 n.val) 128#32
    = BitVec.ofBool (decide (n.val ≤ 128)) := by decide +kernel

theorem at_most' (n : ℕ) (hn : n < 1024) : IntOp.cmpi CmpIPredicate.sle (BitVec.ofNat 32 n) 128#32
    = BitVec.ofBool (decide (n ≤ 128)) := at_most ⟨n, hn⟩

theorem near_mask (t s : Fin 1024) :
    IntOp.cmpi CmpIPredicate.sle (IntOp.absi (IntOp.subi (BitVec.ofNat 32 s.val) (BitVec.ofNat 32 t.val))) 128#32
      = BitVec.ofBool (decide (near t.val s.val)) := by
  have ht := t.isLt
  have hs := s.isLt
  unfold near
  rcases Nat.le_total t.val s.val with h | h
  · have e : IntOp.subi (BitVec.ofNat 32 s.val) (BitVec.ofNat 32 t.val) = BitVec.ofNat 32 (s.val - t.val) := by
      apply BitVec.eq_of_toNat_eq
      simp only [IntOp.subi, BitVec.toNat_sub, BitVec.toNat_ofNat]
      omega
    have e' : IntOp.absi (BitVec.ofNat 32 (s.val - t.val)) = BitVec.ofNat 32 (s.val - t.val) := by
      unfold IntOp.absi
      rw [if_neg]
      simp only [BitVec.msb_eq_decide, BitVec.toNat_ofNat, decide_eq_true_eq]
      omega
    rw [e, e']
    rw [at_most' (s.val - t.val) (by omega)]
    exact congrArg BitVec.ofBool (decide_eq_decide.2 (by constructor <;> intro h' <;> omega))
  · have e : IntOp.absi (IntOp.subi (BitVec.ofNat 32 s.val) (BitVec.ofNat 32 t.val)) = BitVec.ofNat 32 (t.val - s.val) := by
      rcases Nat.eq_or_lt_of_le h with h | h
      · rw [← h]
        simp [IntOp.subi, IntOp.absi]
      · unfold IntOp.absi
        rw [if_pos]
        · apply BitVec.eq_of_toNat_eq
          simp only [IntOp.subi, BitVec.toNat_neg, BitVec.toNat_sub, BitVec.toNat_ofNat]
          omega
        · simp only [IntOp.subi, BitVec.msb_eq_decide, BitVec.toNat_sub, BitVec.toNat_ofNat, decide_eq_true_eq]
          omega
    rw [e]
    rw [at_most' (t.val - s.val) (by omega)]
    exact congrArg BitVec.ofBool (decide_eq_decide.2 (by constructor <;> intro h' <;> omega))

theorem logits_at (K : FVec Ideal S4x1536x2x64 .f32) (Q : FVec Ideal S4x1024x2x4x64 .f32)
    (b : Fin 4) (t : Fin 1024) (h : Fin 2) (g : Fin 4) (s : Fin 1536) : logits K Q (ix5 b h g t s)
      = if s.val < 1024 → near t.val s.val then
          (∑ d, K (ix4 b s h d) * Q (ix5 b t h g d)) * ((1 / 8 : ℝ) : EReal) else ⊥ := by
  rw [← eighth, ← bot_bits]
  pointwise [logits, seen]
  by_cases hs : s.val < 1024
  · rw [dif_pos hs, near_mask t ⟨s.val, hs⟩]
    by_cases hn : near t.val s.val
    · rw [if_pos fun _ => hn, decide_eq_true hn]
      rfl
    · rw [if_neg fun e => hn (e hs), decide_eq_false hn]
      rfl
  · rw [dif_neg hs, if_pos fun e => absurd e hs]
    rfl

theorem weights_at (x : FVec Ideal S4x2x4x1024x1537 .f32) (M : FVec Ideal S4x2x4x1024 .f32)
    (b : Fin 4) (t : Fin 1024) (h : Fin 2) (g : Fin 4) (s : Fin 1536) :
    weights (exponentials x M) (ix5 b h g t s)
      = Ideal.div (Ideal.exp (x (ix5 b h g t ⟨s.val, by omega⟩) - M (ix4 b h g t)))
          (∑ j, Ideal.exp (x (ix5 b h g t j) - M (ix4 b h g t))) := by
  pointwise [weights, exponentials]

theorem withSink_at (x : FVec Ideal S4x2x4x1024x1536 .f32) (S : FVec Ideal S4x8 .f32)
    (b : Fin 4) (t : Fin 1024) (h : Fin 2) (g : Fin 4) (s : Fin 1537) : withSink x S (ix5 b h g t s)
      = if hs : s.val < 1536 then x (ix5 b h g t ⟨s.val, hs⟩) else S (ix2 1 ⟨h.val * 4 + g.val, by omega⟩) := by
  pointwise [withSink]

theorem latentRows_at (V : FVec Ideal S4x1536x2x64 .f32) (W : FVec Ideal S4x2x4x1024x1536 .f32)
    (r : Fin 4096) (c : Fin 512) : latentRows V W (ix2 r c)
      = ∑ s, V (ix4 ⟨r.val / 1024, by omega⟩ s ⟨c.val / 256, by omega⟩ ⟨c.val % 64, by omega⟩)
          * W (ix5 ⟨r.val / 1024, by omega⟩ ⟨c.val / 256, by omega⟩ ⟨c.val / 64 % 4, by omega⟩
            ⟨r.val % 1024, by omega⟩ s) := by
  pointwise [latentRows]

theorem result_at (q : FVec Ideal S8192x512 .bf16) (V : FVec Ideal S4x1536x2x64 .f32)
    (W : FVec Ideal S4x2x4x1024x1536 .f32) (r : Fin 8192) (c : Fin 512) : result q V W (ix2 r c)
      = if h : r.val < 4096 then q (ix2 r c) else latentRows V W (ix2 ⟨r.val - 4096, by omega⟩ c) := by
  pointwise [result]

/-- The scales of the queries and of the logits leave the logarithm of two on a product of real numbers. -/
theorem scaled_dot (x y : Fin 64 → EReal) (hx : ∀ d, ∃ r : ℝ, x d = (r : EReal)) (hy : ∀ d, ∃ r : ℝ, y d = (r : EReal)) :
    (∑ d, x d * (Ideal.div (y d) ((1 / 8 : ℝ) : EReal) * ((Real.log 2 : ℝ) : EReal))) * ((1 / 8 : ℝ) : EReal)
      = ((Real.log 2 : ℝ) : EReal) * ∑ d, x d * y d := by
  have hlog : 0 ≤ Real.log 2 := Real.log_nonneg (by norm_num)
  rw [mul_comm, ← sum_factor _ (by norm_num), ← sum_factor _ hlog]
  refine Finset.sum_congr rfl fun d _ => ?_
  obtain ⟨a, ha⟩ := hx d
  obtain ⟨c, hc⟩ := hy d
  rw [ha, hc, Ideal.div_coe (by norm_num)]
  simp only [← EReal.coe_mul]
  congr 1
  ring

section

variable (q : FVec Ideal S8192x512 .bf16) (k : FVec Ideal S8192x128 .bf16) (ck : FVec Ideal S4x4x512x2x64 .f32)
  (S : FVec Ideal S4x8 .f32) (hq : ∀ i, ∃ r : ℝ, q i = (r : EReal)) (b : Fin 4) (h : Fin 2) (g : Fin 4) (t : Fin 1024)

/-- The logits of a row, the sink's among them. -/
abbrev row : FVec Ideal S4x2x4x1024x1537 .f32 := withSink (logits (joined k ck) (queries q)) S

include hq in
theorem row_latent (hk : ∀ i, ∃ r : ℝ, k i = (r : EReal)) (s : Fin 1024) :
    row q k ck S (ix5 b h g t ⟨s.val, by omega⟩) = ((Real.log 2 : ℝ) : EReal) * latentScore q k b h g t s := by
  have hlog : 0 < Real.log 2 := Real.log_pos (by norm_num)
  unfold row
  rw [withSink_at, dif_pos (by simp only; omega), logits_at]
  unfold latentScore
  by_cases hn : near t.val s.val
  · rw [if_pos fun _ => hn, if_pos hn]
    refine Eq.trans ?_ (scaled_dot (fun d => latent k b h d s) (fun d => query q b h g t d) (fun d => hk _) fun d => hq _)
    refine congrArg (· * _) (Finset.sum_congr rfl fun d _ => ?_)
    rw [joined_at, queries_at, dif_pos s.isLt]
  · rw [if_neg fun e => hn (e s.isLt), if_neg hn, EReal.coe_mul_bot_of_pos hlog]

include hq in
theorem row_context (hk : ∀ i, ∃ r : ℝ, ck i = (r : EReal)) (s : Fin 512) :
    row q k ck S (ix5 b h g t ⟨1024 + s.val, by omega⟩) = ((Real.log 2 : ℝ) : EReal) * contextScore q ck b h g t s := by
  unfold row
  rw [withSink_at, dif_pos (by simp only; omega), logits_at, if_pos fun e => absurd e (by simp only; omega)]
  unfold contextScore
  refine Eq.trans ?_ (scaled_dot (fun d => context ck b h d s) (fun d => query q b h g t d) (fun d => hk _) fun d => hq _)
  refine congrArg (· * _) (Finset.sum_congr rfl fun d _ => ?_)
  rw [joined_at, queries_at, dif_neg (by simp only; omega)]
  simp only [Nat.add_sub_cancel_left]

theorem row_sink (z : Fin 8 → ℝ) (hz : ∀ i, S (ix2 1 i) = (z i : EReal)) :
    row q k ck S (ix5 b h g t ⟨1536, by decide⟩) = ((Real.log 2 : ℝ) : EReal)
      * (((Real.log 2)⁻¹ * z ⟨h.val * 4 + g.val, by omega⟩ : ℝ) : EReal) := by
  have hlog : 0 < Real.log 2 := Real.log_pos (by norm_num)
  unfold row
  rw [withSink_at, dif_neg (by simp only; omega), hz, ← EReal.coe_mul, mul_inv_cancel_left₀ hlog.ne']

/-- A sum over a row's logits: the latent ones, the context's, the sink's. -/
theorem sum_row (f : Fin 1537 → EReal) : ∑ s, f s
    = (∑ s : Fin 1024, f ⟨s.val, by omega⟩ + ∑ s : Fin 512, f ⟨1024 + s.val, by omega⟩) + f ⟨1536, by decide⟩ := by
  refine (Fin.sum_univ_castSucc (n := 1536) f).trans (congrArg₂ _ ?_ rfl)
  exact Fin.sum_univ_add (a := 1024) (b := 512) _

theorem sum_keys (f : Fin 1536 → EReal) : ∑ s, f s
    = ∑ s : Fin 1024, f ⟨s.val, by omega⟩ + ∑ s : Fin 512, f ⟨1024 + s.val, by omega⟩ :=
  Fin.sum_univ_add (a := 1024) (b := 512) f

end

/-- A score times the logarithm of two is not `⊤`. -/
theorem scaled_ne_top {y : EReal} (hy : y ≠ ⊤) : ((Real.log 2 : ℝ) : EReal) * y ≠ ⊤ := by
  have hlog : 0 < Real.log 2 := Real.log_pos (by norm_num)
  induction y with
  | bot => rw [EReal.coe_mul_bot_of_pos hlog]; exact bot_ne_top
  | top => exact absurd rfl hy
  | coe r => rw [← EReal.coe_mul]; exact EReal.coe_ne_top _

/-- The weighted values at a row and a feature are the attention's result. -/
theorem attend_at (q : FVec Ideal S8192x512 .bf16) (k v : FVec Ideal S8192x128 .bf16)
    (ck cv : FVec Ideal S4x4x512x2x64 .f32) (S : FVec Ideal S4x8 .f32) (z : Fin 8 → ℝ)
    (hq : ∀ i, ∃ r : ℝ, q i = (r : EReal)) (hk : ∀ i, ∃ r : ℝ, k i = (r : EReal))
    (hck : ∀ i, ∃ r : ℝ, ck i = (r : EReal)) (hz : ∀ i, S (ix2 1 i) = (z i : EReal))
    (b : Fin 4) (h : Fin 2) (g : Fin 4) (t : Fin 1024) (d : Fin 64) :
    ∑ s, joined v cv (ix4 b s h d)
      * weights (exponentials (row q k ck S) (largest (row q k ck S))) (ix5 b h g t s)
      = attend q k v ck cv z b h g t d := by
  have hlog : 0 < Real.log 2 := Real.log_pos (by norm_num)
  have hL := row_latent q k ck S hq b h g t hk
  have hC := row_context q k ck S hq b h g t hck
  have hS := row_sink q k ck S b h g t z hz
  have htop : ∀ s : Fin 1537, row q k ck S (ix5 b h g t s) ≠ ⊤ := by
    intro s
    rcases Nat.lt_or_ge s.val 1024 with h1 | h1
    · rw [show s = ⟨(⟨s.val, h1⟩ : Fin 1024).val, s.isLt⟩ from rfl, hL]
      exact scaled_ne_top (latentScore_ne_top q k hq hk b h g t _)
    · rcases Nat.lt_or_ge s.val 1536 with h2 | h2
      · rw [show s = ⟨1024 + (⟨s.val - 1024, by omega⟩ : Fin 512).val, by omega⟩ from
          Fin.ext (by show s.val = 1024 + (s.val - 1024); omega), hC]
        exact scaled_ne_top (contextScore_ne_top q ck hq hck b h g t _)
      · rw [show s = ⟨1536, by decide⟩ from Fin.ext (by show s.val = 1536; omega), hS]
        exact scaled_ne_top (EReal.coe_ne_top _)
  obtain ⟨M, hM⟩ := largest_real (row q k ck S) b h g t htop ⟨1536, by decide⟩ (by
    rw [hS, ← EReal.coe_mul]; exact EReal.coe_ne_bot _)
  simp only [weights_at, hM]
  rw [sum_row]
  simp only [hS, hL, hC]
  rw [sum_keys]
  simp only [hL, hC, joined_at]
  unfold attend
  refine Eq.trans ?_ (mean_exp _ _ ?_ _ M)
  · simp only [Fintype.sum_sum_type, Sum.elim_inl, Sum.elim_inr]
    refine congrArg₂ (· + ·) (Finset.sum_congr rfl fun s _ => ?_) (Finset.sum_congr rfl fun s _ => ?_)
    · rw [dif_pos s.isLt, mul_comm]
    · rw [dif_neg (show ¬ 1024 + s.val < 1024 by omega), mul_comm]
      simp only [Nat.add_sub_cancel_left]
  · rintro (s | s)
    exacts [latentScore_ne_top q k hq hk b h g t s, contextScore_ne_top q ck hq hck b h g t s]

/-- The reference, entry by entry: the context rows as they came, the latent rows the attention's result. -/
theorem refOut_at (q : FVec Ideal S8192x512 .bf16) (k v : FVec Ideal S8192x128 .bf16)
    (ck cv : FVec Ideal S4x4x512x2x64 .f32) (S : FVec Ideal S4x8 .f32) (z : Fin 8 → ℝ)
    (hq : ∀ i, ∃ r : ℝ, q i = (r : EReal)) (hk : ∀ i, ∃ r : ℝ, k i = (r : EReal))
    (hck : ∀ i, ∃ r : ℝ, ck i = (r : EReal)) (hz : ∀ i, S (ix2 1 i) = (z i : EReal))
    (r : Fin 8192) (c : Fin 512) :
    refOut q k v ck cv S (ix2 r c)
      = if h : r.val < 4096 then q (ix2 r c) else
          attend q k v ck cv z ⟨(r.val - 4096) / 1024, by omega⟩ ⟨c.val / 256, by omega⟩
            ⟨c.val / 64 % 4, by omega⟩ ⟨(r.val - 4096) % 1024, by omega⟩ ⟨c.val % 64, by omega⟩ := by
  unfold refOut
  rw [result_at]
  by_cases h : r.val < 4096
  · rw [dif_pos h, dif_pos h]
  · rw [dif_neg h, dif_neg h, latentRows_at]
    exact attend_at q k v ck cv S z hq hk hck hz _ _ _ _ _

end Cert.ReferenceIdeal.Value

end
-- ==== Proof.AttnClaim.lean ====
module

public import proofs.«01_k».proof.Defs
public import proofs.«01_k».proof.Proof.AttnArray
public import proofs.«01_k».proof.Proof.AttnRefValue
public import Idealize.ShloMosaic.Lib.Claim

@[expose] public section

set_option maxRecDepth 16384

noncomputable section

open Idealize.ShloMosaic Idealize.SL.Sem

/-! # The attention call and its reference end with the same array -/

namespace Cert.KernelIdeal.Value

open Cert.KernelIdeal Cert.KernelIdeal.Gen Attention

/-- The shape relations the precondition's operations take. -/
theorem finite_facts : Cert.Pre_finite.Facts where
  bitsLt_bf16_f32 := by decide
  bcast_S_S8192x512 := by decide
  bcast_S_S8192x128 := by decide
  bcast_S_S4x4x512x2x64 := by decide
  bcast_S_S4x8 := by decide

/-- The word that stands for infinity. -/
theorem top_bits : Ideal.ofBits .f32 2139095040#32 = (⊤ : EReal) := by
  simp [Ideal.ofBits, Ideal.ieee]

/-- An extended real whose absolute value is below infinity is a real number. -/
theorem real_of_finite (x : EReal) (h : BitVec.ofBool (decide (FloatOps.absf (F := Ideal) (φ := .f32) x
    < Ideal.ofBits .f32 2139095040#32)) = 1#1) : ∃ r : ℝ, x = (r : EReal) := by
  rw [top_bits] at h
  induction x with
  | bot => exact absurd h (by simp [FloatOps.absf])
  | coe r => exact ⟨r, rfl⟩
  | top => exact absurd h (by simp [FloatOps.absf])

variable (m : (ℓ : Loc nD τ sig) → Buf (Elt Ideal) ℓ)
attribute [local instance] finite_facts

theorem queries_real (h : Cert.Pre_KernelIdeal_finite m) (c : Dev nD) (i) :
    ∃ r : ℝ, m ((c.tc : Thread nD τ).loc main_arg0) i = (r : EReal) := by
  have e := congrFun (h c).1 i
  refine real_of_finite _ (Eq.trans ?_ e)
  idx_vars i
  pointwise [Cert.Pre_finite.fn]

theorem keys_real (h : Cert.Pre_KernelIdeal_finite m) (c : Dev nD) (i) :
    ∃ r : ℝ, m ((c.tc : Thread nD τ).loc main_arg1) i = (r : EReal) := by
  have e := congrFun (h c).2.1 i
  refine real_of_finite _ (Eq.trans ?_ e)
  idx_vars i
  pointwise [Cert.Pre_finite.fn]

theorem cached_real (h : Cert.Pre_KernelIdeal_finite m) (c : Dev nD) (i) :
    ∃ r : ℝ, m ((c.tc : Thread nD τ).loc main_arg3) i = (r : EReal) := by
  have e := congrFun (h c).2.2.1 i
  refine real_of_finite _ (Eq.trans ?_ e)
  idx_vars i
  pointwise [Cert.Pre_finite.fn]

theorem sinks_real (h : Cert.Pre_KernelIdeal_finite m) (c : Dev nD) (i) :
    ∃ r : ℝ, m ((c.tc : Thread nD τ).loc main_arg5) i = (r : EReal) := by
  have e := congrFun (h c).2.2.2 i
  refine real_of_finite _ (Eq.trans ?_ e)
  idx_vars i
  pointwise [Cert.Pre_finite.fn]

/-- The array after the run is what the reference computes of the same arguments. -/
theorem attended_eq (h : Cert.Pre_KernelIdeal_finite m) (c : Dev nD) : (dats m 0 c).arrAt 6 (cfgs 0).N
    = Cert.ReferenceIdeal.Value.refOut (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  choose z hz using fun i : Fin 8 => sinks_real m h c (ix2 1 i)
  rw [final m z c (queries_real m h c) (keys_real m h c) (cached_real m h c) hz, entry_out]
  funext j
  obtain ⟨r, e, rfl⟩ : ∃ (r : Fin 8192) (e : Fin 512), j = ix2 r e := ⟨j 0, j 1, eq_ix2 j⟩
  refine Eq.trans ?_ (Cert.ReferenceIdeal.Value.refOut_at _ _ _ _ _ _ z (queries_real m h c) (keys_real m h c)
    (cached_real m h c) hz r e).symm
  by_cases hr : r.val < 4096
  · refine (if_neg (show ¬ 32 * 128 ≤ r.val by omega)).trans ?_
    rw [dif_pos hr]
  · refine (if_pos (show 32 * 128 ≤ r.val by omega)).trans ?_
    rw [dif_neg hr]
    exact dif_neg hr

/-- The attention call and its reference end with the same array. -/
theorem attention_algebraic : Cert.algebraic_KernelIdeal_ReferenceIdeal_pre_finite := by
  pair_intro
  · run_from Cert.KernelIdeal.Gen.run_main m g
  · run_from Cert.ReferenceIdeal.Value.run m' g'
    obtain ⟨h0, h1, h2, h3, h4, h5⟩ := hagree c
    rw [attended_eq m hpre c, ← h0, ← h1, ← h2, ← h3, ← h4, ← h5]
    exact Cert.ReferenceIdeal.Value.out_eq m' c

end Cert.KernelIdeal.Value

end
-- ==== Proof.OutMath.lean ====
module

public import Idealize.ShloMosaic.Lib.Pipeline.ValueKit

@[expose] public section

noncomputable section

open Idealize.ShloMosaic

/-! # What the output projection computes, row by row -/

namespace Mixing

/-- The gelu, by the hyperbolic tangent. -/
def gelu (x : EReal) : EReal :=
  x * (Ideal.ofBits .f32 0x3F000000#32 * (1 + Ideal.tanh (Ideal.ofBits .f32 0x3F4C422A#32
    * (x + Ideal.ofBits .f32 0x3D372713#32 * (x * (x * x))))))

/-- A row times the logistic of its product with the gate's weights. -/
def gated (g : Fin 256 → EReal) (G : Fin 256 → Fin 256 → EReal) (k : Fin 256) : EReal :=
  g k * Ideal.logistic (∑ x, g x * G x k)

/-- The joint projection of the three mixers' rows. -/
def mixed (a : Fin 512 → EReal) (f s : Fin 256 → EReal) (W : Fin 1024 → Fin 1024 → EReal) (j : Fin 1024) : EReal :=
  (∑ x : Fin 512, a x * W ⟨x.val, by omega⟩ j) + (∑ x : Fin 256, f x * W ⟨512 + x.val, by omega⟩ j)
    + ∑ x : Fin 256, s x * W ⟨768 + x.val, by omega⟩ j

/-- The scaled tokens and the gated projection. -/
def residual (x gate p : Fin 1024 → EReal) (j : Fin 1024) : EReal :=
  Ideal.ofBits .f32 0x3FD744FD#32 * x j + gate j * p j

/-- A row with its mean taken off. -/
def centred (v : Fin 1024 → EReal) (j : Fin 1024) : EReal :=
  v j - Ideal.div (∑ x, v x) (Ideal.ofBits .f32 0x44800000#32)

/-- The mean of a row's squares. -/
def spread (v : Fin 1024 → EReal) : EReal := Ideal.div (∑ x, v x * v x) (Ideal.ofBits .f32 0x44800000#32)

/-- A row's layer norm, before gain and bias. -/
def unitRow (v : Fin 1024 → EReal) (j : Fin 1024) : EReal :=
  centred v j * Ideal.rsqrt (spread (centred v) + Ideal.ofBits .f32 0x3727C5AC#32)

/-- A row's layer norm. -/
def normed (v gain bias : Fin 1024 → EReal) (j : Fin 1024) : EReal := unitRow v j * gain j + bias j

/-- A row's modulation. -/
def modulated (v up shift : Fin 1024 → EReal) (j : Fin 1024) : EReal := v j * (1 + up j) + shift j

section Arrays

variable (A : FVec Ideal ⟨2, ![8192, 512]⟩ .bf16) (Fo : FVec Ideal ⟨2, ![8192, 256]⟩ .bf16) (Y U : FVec Ideal ⟨3, ![2, 8192, 128]⟩ .f32)
  (d : FVec Ideal ⟨2, ![4, 256]⟩ .f32) (G : FVec Ideal ⟨3, ![4, 256, 256]⟩ .f32) (W : FVec Ideal ⟨3, ![4, 1024, 1024]⟩ .f32)
  (X : FVec Ideal ⟨2, ![8192, 1024]⟩ .f32) (M : FVec Ideal ⟨4, ![4, 8, 6, 1024]⟩ .f32) (gain bias : FVec Ideal ⟨2, ![4, 1024]⟩ .f32)
  (R : FVec Ideal ⟨3, ![4, 1024, 16]⟩ .f32)

/-- Whose modulation a row takes: the context's, or its latent sequence's. -/
def whose (r : Fin 8192) : Fin 8 := if h : r.val < 4096 then 0 else ⟨1 + (r.val - 4096) / 1024, by omega⟩

/-- A row of the recurrence's gelu. -/
def unitsOf (r : Fin 8192) (k : Fin 256) : EReal :=
  gelu (Y (ix3 ⟨k.val / 128, by omega⟩ r ⟨k.val % 128, by omega⟩)
    + U (ix3 ⟨k.val / 128, by omega⟩ r ⟨k.val % 128, by omega⟩) * d (ix2 1 k))

/-- A row before the layer norm. -/
def rowOf (r : Fin 8192) : Fin 1024 → EReal :=
  residual (fun j => X (ix2 r j)) (fun j => M (ix4 1 (whose r) 2 j))
    (mixed (fun k => A (ix2 r k)) (fun k => Fo (ix2 r k)) (gated (unitsOf Y U d r) fun k j => G (ix3 1 k j))
      fun k j => W (ix3 1 k j))

/-- A row after it. -/
def normedOf (r : Fin 8192) : Fin 1024 → EReal :=
  normed (rowOf A Fo Y U d G W X M r) (fun j => gain (ix2 1 j)) fun j => bias (ix2 1 j)

/-- The experts' row. -/
def expertsOf (r : Fin 8192) : Fin 1024 → EReal :=
  modulated (normedOf A Fo Y U d G W X M gain bias r) (fun j => M (ix4 1 (whose r) 4 j)) fun j => M (ix4 1 (whose r) 3 j)

/-- The router's logit of a row for an expert. -/
def logitOf (r : Fin 8192) (e : Fin 16) : EReal :=
  ∑ j, expertsOf A Fo Y U d G W X M gain bias r j * R (ix3 1 j e)

end Arrays

/-- A product distributes over a sum when the sum's second term and the factor are real. -/
theorem distributes (t : EReal) (b u : ℝ) : (t + b) * u = t * u + b * u := by
  induction t with
  | coe t => rw [← EReal.coe_add, ← EReal.coe_mul, ← EReal.coe_mul, ← EReal.coe_mul, ← EReal.coe_add, add_mul]
  | bot =>
    rw [EReal.bot_add]
    rcases lt_trichotomy u 0 with h | h | h
    · rw [EReal.bot_mul_coe_of_neg h, ← EReal.coe_mul, EReal.top_add_coe]
    · simp [h]
    · rw [EReal.bot_mul_coe_of_pos h, EReal.bot_add]
  | top =>
    rw [EReal.top_add_coe]
    rcases lt_trichotomy u 0 with h | h | h
    · rw [EReal.top_mul_coe_of_neg h, EReal.bot_add]
    · simp [h]
    · rw [EReal.top_mul_coe_of_pos h, ← EReal.coe_mul, EReal.top_add_coe]

/-- The modulation taken into the layer norm's gain and bias. -/
theorem folded (t g b up shift : EReal) (hb : ∃ x : ℝ, b = x) (hu : ∃ x : ℝ, up = x) :
    t * (g * (1 + up)) + (b * (1 + up) + shift) = (t * g + b) * (1 + up) + shift := by
  obtain ⟨b, rfl⟩ := hb
  obtain ⟨u, rfl⟩ := hu
  have e : (1 : EReal) + (u : EReal) = ((1 + u : ℝ) : EReal) := by simp
  rw [e, distributes, ← mul_assoc, add_assoc]

/-- A sum over the joint projection's channels, mixer by mixer. -/
theorem three_mixers (F : Fin 1024 → EReal) : ∑ x, F x
    = (∑ x : Fin 512, F ⟨x.val, by omega⟩) + (∑ x : Fin 256, F ⟨512 + x.val, by omega⟩)
      + ∑ x : Fin 256, F ⟨768 + x.val, by omega⟩ := by
  refine (Fin.sum_univ_add (a := 768) (b := 256) F).trans ?_
  congr 1
  exact Fin.sum_univ_add (a := 512) (b := 256) fun x : Fin 768 => F ⟨x.val, by omega⟩

end Mixing

end
-- ==== Proof.OutTile.lean ====
module

public import proofs.«01_k».proof.Proof.OutMath
public import proofs.«01_k».proof.Proof.Gen.OutprojIdeal.Frame

@[expose] public section

set_option maxRecDepth 16384

noncomputable section

open Idealize.ShloMosaic Idealize.ShloMosaic.TcCoe Idealize.SL.Sem

/-! # What one block of rows computes -/

namespace Cert.OutprojIdeal.Value

open Cert.OutprojIdeal Cert.OutprojIdeal.Gen Mixing

/-- The recurrence's gelu. -/
theorem units_at (v3 v5 v8 v10 : Vec Ideal S1x512x128 .f32) (v13 : Vec Ideal S1x1x256 .f32) (r : Fin 512)
    (y u : Fin 256 → EReal)
    (h3 : ∀ (k : Fin 256) (h : k.val < 128), v3 (ix3 0 r ⟨k.val, h⟩) = y k)
    (h5 : ∀ (k : Fin 256) (h : k.val - 128 < 128), ¬ k.val < 128 → v5 (ix3 0 r ⟨k.val - 128, h⟩) = y k)
    (h8 : ∀ (k : Fin 256) (h : k.val < 128), v8 (ix3 0 r ⟨k.val, h⟩) = u k)
    (h10 : ∀ (k : Fin 256) (h : k.val - 128 < 128), ¬ k.val < 128 → v10 (ix3 0 r ⟨k.val - 128, h⟩) = u k)
    (k : Fin 256) :
    k0_pay8 v3 v5 v8 v10 v13 (ix2 r k) = gelu (y k + u k * v13 (ix3 0 0 k)) := by
  by_cases h : k.val < 128
  · pointwise [k0_pay8, dif_pos h, h3 k h, h8 k h]
    rfl
  · pointwise [k0_pay8, dif_neg h, h5 k (by omega) h, h10 k (by omega) h]
    rfl

theorem inside₀ (k : Fin 512) : k.val < 1024 := by omega

theorem inside₁ (k : Fin 256) : 512 + k.val < 1024 := by omega

theorem inside₂ (k : Fin 256) : 768 + k.val < 1024 := by omega

section Row

variable (v30 : FVec Ideal S512x256 .f32) (v31 : FVec Ideal S512x256 .bf16) (v33 : FVec Ideal S256x256 .f32)
  (v38 : Vec Ideal S512x512 .bf16) (v39 : Vec Ideal S512x1024 .bf16) (v41 : Vec Ideal S512x256 .bf16)
  (v42 v46 : Vec Ideal S256x1024 .bf16) (v49 : Vec Ideal S1x1x6x1024 .f32) (v51 : Vec Ideal S512x1024 .f32)
  (r : Fin 512) (g f : Fin 256 → EReal) (a : Fin 512 → EReal) (gate x : Fin 1024 → EReal)
  (Gt : Fin 256 → Fin 256 → EReal) (Wt : Fin 1024 → Fin 1024 → EReal)

/-- What a block's row reads, given as rows. -/
structure Reads : Prop where
  units : ∀ k, v30 (ix2 r k) = g k
  units' : ∀ k, v31 (ix2 r k) = g k
  gates : ∀ k j, v33 (ix2 k j) = Gt k j
  attended : ∀ k, v38 (ix2 r k) = a k
  first : ∀ (k : Fin 512) (h : k.val < 1024) j, v39 (ix2 k j) = Wt ⟨k.val, h⟩ j
  fourier : ∀ k, v41 (ix2 r k) = f k
  second : ∀ (k : Fin 256) (h : 512 + k.val < 1024) j, v42 (ix2 k j) = Wt ⟨512 + k.val, h⟩ j
  third : ∀ (k : Fin 256) (h : 768 + k.val < 1024) j, v46 (ix2 k j) = Wt ⟨768 + k.val, h⟩ j
  scaled : ∀ j, v49 (ix4 0 0 2 j) = gate j
  tokens : ∀ j, v51 (ix2 r j) = x j

variable {v30 v31 v33 v38 v39 v41 v42 v46 v49 v51 r g f a gate x Gt Wt}
  (H : Reads v30 v31 v33 v38 v39 v41 v42 v46 v49 v51 r g f a gate x Gt Wt)
include H

/-- The row before the layer norm, its mean taken off. -/
theorem centred_at (j : Fin 1024) : k0_pay12 v30 v31 v33 v38 v39 v41 v42 v46 v49 v51 (ix2 r j)
    = centred (residual x gate (mixed a f (gated g Gt) Wt)) j := by
  pointwise [k0_pay12, k0_pay11, H.units, H.units', H.gates, H.attended, H.first _ (inside₀ _), H.fourier,
    H.second _ (inside₁ _), H.third _ (inside₂ _), H.scaled, H.tokens]
  rfl

/-- The mean of its squares. -/
theorem spread_at : k0_pay13 v30 v31 v33 v38 v39 v41 v42 v46 v49 v51 (ix2 r 0)
    = spread (centred (residual x gate (mixed a f (gated g Gt) Wt))) := by
  have e : ∀ j, k0_pay12 v30 v31 v33 v38 v39 v41 v42 v46 v49 v51 (ix2 r j)
    = centred (residual x gate (mixed a f (gated g Gt) Wt)) j := fun j => centred_at H j
  unfold k0_pay13
  generalize k0_pay12 v30 v31 v33 v38 v39 v41 v42 v46 v49 v51 = C at e ⊢
  pointwise [e]
  rfl

end Row

/-- The layer norm. -/
theorem normed_at {v63 : FVec Ideal S512x1024 .f32} {v68 : FVec Ideal S512x1 .f32} {v74 v76 : Vec Ideal S1x1x1024 .f32}
    {r : Fin 512} {v gain bias : Fin 1024 → EReal} (h63 : ∀ j, v63 (ix2 r j) = centred v j)
    (h68 : v68 (ix2 r 0) = spread (centred v)) (h74 : ∀ j, v74 (ix3 0 0 j) = gain j) (h76 : ∀ j, v76 (ix3 0 0 j) = bias j)
    (j : Fin 1024) : k0_pay4 v63 v68 v74 v76 (ix2 r j) = normed v gain bias j := by
  pointwise [k0_pay4, k0_pay1, k0_pay2, k0_pay3, h63, h68, h74, h76]
  rfl

/-- The experts' row. -/
theorem experts_at {v50 : FVec Ideal S6x1024 .f32} {v63 : FVec Ideal S512x1024 .f32} {v68 : FVec Ideal S512x1 .f32}
    {v74 v76 : Vec Ideal S1x1x1024 .f32} {r : Fin 512} {v gain bias up shift : Fin 1024 → EReal}
    (h63 : ∀ j, v63 (ix2 r j) = centred v j) (h68 : v68 (ix2 r 0) = spread (centred v))
    (h74 : ∀ j, v74 (ix3 0 0 j) = gain j) (h76 : ∀ j, v76 (ix3 0 0 j) = bias j)
    (hu : ∀ j, v50 (ix2 4 j) = up j) (hs : ∀ j, v50 (ix2 3 j) = shift j)
    (rb : ∀ j, ∃ x : ℝ, bias j = x) (ru : ∀ j, ∃ x : ℝ, up j = x) (j : Fin 1024) :
    k0_pay5 v50 v63 v68 v74 v76 (ix2 r j) = modulated (normed v gain bias) up shift j := by
  pointwise [k0_pay5, k0_pay1, k0_pay2, k0_pay3, h63, h68, h74, h76, hu, hs]
  exact folded _ _ _ _ _ (rb j) (ru j)

/-- The logits of a row. -/
theorem logits_at {v50 : FVec Ideal S6x1024 .f32} {v63 : FVec Ideal S512x1024 .f32} {v68 : FVec Ideal S512x1 .f32}
    {v74 v76 : Vec Ideal S1x1x1024 .f32} {v96 : Vec Ideal S1x16x1024 .f32} {r : Fin 512} {e : Fin 16}
    {h router : Fin 1024 → EReal} (hh : ∀ j, k0_pay5 v50 v63 v68 v74 v76 (ix2 r j) = h j)
    (hr : ∀ j, v96 (ix3 0 e j) = router j) :
    k0_pay6 v50 v63 v68 v74 v76 v96 (ix2 e r) = ∑ j, h j * router j := by
  have w : k0_pay6 v50 v63 v68 v74 v76 v96 (ix2 e r) = ∑ j, v96 (ix3 0 e j) * k0_pay5 v50 v63 v68 v74 v76 (ix2 r j) := by
    unfold k0_pay6
    generalize k0_pay5 v50 v63 v68 v74 v76 = X
    pointwise []
  rw [w]
  exact Finset.sum_congr rfl fun j _ => by rw [hr, hh, mul_comm]

end Cert.OutprojIdeal.Value

end
-- ==== Proof.OutArray.lean ====
module

public import proofs.«01_k».proof.Proof.OutTile

@[expose] public section

set_option maxRecDepth 16384

noncomputable section

open Idealize.ShloMosaic Idealize.ShloMosaic.TcCoe Idealize.SL.Sem
open Idealize.ShloMosaic.Pipeline (Dat)

/-! # The output projection's arrays after the run -/

namespace Cert.OutprojIdeal.Value

open Cert.OutprojIdeal Cert.OutprojIdeal.Gen Mixing

/-- A load of part of what one store of a whole array left. -/
theorem read_back {Val : EltTy → Type} [∀ e, Nonempty (Val e)] {S : Shape} {e : EltTy} {sig : RefSig} {κ : Kind} {sp : Space}
    (v : View sig κ sp S e) {off : Fin S.rank → Nat} (inb : ∀ a, off a + S.size a ≤ S.size a) (w : S.Idx → Val e)
    (h : ∀ a, off a = 0) (r : Rect S) :
    v.readCov [(⟨Rect.unit off S.size inb, w⟩ : View.Piece Val S e)] r.toLoadRect = View.ld w r := by
  obtain rfl := View.eq_zero_of_forall h
  rw [View.readCov_eq_canon_ld _ _ _ (fun y => ⟨_, List.mem_cons_self, by
    show y ∈ (Rect.whole S).set; rw [Rect.set_whole]; exact Finset.mem_univ y⟩), View.canon_cons_unit_lit _ _ _ fun _ => rfl]

section Block

variable (x : Vec Ideal S512x1024 .f32) (at' : Vec Ideal S512x512 .bf16) (fo : Vec Ideal S512x256 .bf16)
  (ys us : Vec Ideal S2x512x128 .f32) (d : Vec Ideal S1x1x256 .f32) (G : Vec Ideal S1x256x256 .f32)
  (W : Vec Ideal S1024x1024 .bf16) (md : Vec Ideal S1x1x6x1024 .f32)

/-- One of the two halves of a block of channels. -/
abbrev lower (a : Vec Ideal S2x512x128 .f32) : Vec Ideal S1x512x128 .f32 :=
  View.ld a (Rect.unit ![0, 0, 0] ![1, 512, 128] inb_S2x512x128_S1x512x128_0_0_0)

/-- The other half. -/
abbrev upper (a : Vec Ideal S2x512x128 .f32) : Vec Ideal S1x512x128 .f32 :=
  View.ld a (Rect.unit ![1, 0, 0] ![1, 512, 128] inb_S2x512x128_S1x512x128_1_0_0)

/-- The three parts of the weights. -/
abbrev part₀ : Vec Ideal S512x1024 .bf16 := View.ld W (Rect.unit ![0, 0] ![512, 1024] inb_S1024x1024_S512x1024_0_0)
abbrev part₁ : Vec Ideal S256x1024 .bf16 := View.ld W (Rect.unit ![512, 0] ![256, 1024] inb_S1024x1024_S256x1024_512_0)
abbrev part₂ : Vec Ideal S256x1024 .bf16 := View.ld W (Rect.unit ![768, 0] ![256, 1024] inb_S1024x1024_S256x1024_768_0)

/-- A block of rows before the layer norm, less their means. -/
abbrev centredBlock : FVec Ideal S512x1024 .f32 :=
  k0_pay12 (k0_pay8 (lower ys) (upper ys) (lower us) (upper us) d) (k0_pay9 (lower ys) (upper ys) (lower us) (upper us) d)
    (k0_pay10 G) at' (part₀ W) fo (part₁ W) (part₂ W) md x

/-- Their variances. -/
abbrev spreadBlock : FVec Ideal S512x1 .f32 :=
  k0_pay13 (k0_pay8 (lower ys) (upper ys) (lower us) (upper us) d) (k0_pay9 (lower ys) (upper ys) (lower us) (upper us) d)
    (k0_pay10 G) at' (part₀ W) fo (part₁ W) (part₂ W) md x

end Block

variable (m : (ℓ : Loc nD τ sig) → Buf (Elt Ideal) ℓ)

/-- Grid point `t` works on rows `512 * t` onwards: where each window's block sits. -/
theorem placed : ∀ t : Fin cfg0.N,
    win0_0.index t = ![t.val, 0] ∧ win0_1.index t = ![t.val, 0] ∧ win0_2.index t = ![t.val, 0]
    ∧ win0_3.index t = ![0, t.val, 0] ∧ win0_4.index t = ![0, t.val, 0] ∧ win0_5.index t = ![1, 0, 0]
    ∧ win0_6.index t = ![1, 0, 0] ∧ win0_7.index t = ![1, 0, 0]
    ∧ win0_8.index t = ![1, if t.val < 8 then 0 else 1 + (t.val - 8) / 2, 0, 0]
    ∧ win0_9.index t = ![1, 0, 0] ∧ win0_10.index t = ![1, 0, 0] ∧ win0_11.index t = ![1, 0, 0]
    ∧ win0_12.index t = ![t.val, 0] ∧ win0_13.index t = ![t.val, 0] ∧ win0_14.index t = ![0, t.val] :=
  (by decide +kernel : ∀ t : Fin grid0.N, _)

/-- The weights a point would store. -/
theorem stored_weights (c : Dev nD) (t : Fin cfg0.N) (k j : Fin 1024) :
    k0_pay7 (iblk m c 7 t) (ix2 k j) = m ((c : Thread nD τ).loc main_arg6) (ix3 1 k j) := by
  pointwise [k0_pay7]
  blk_point [iblk, V, placed t]

/-- The carried weights are the layer's, at every point. -/
theorem carried_weights (c : Dev nD) : ∀ (n : ℕ) (hn : n < cfg0.N) (k j : Fin 1024),
    (outsAt0 m c n hn).2.2.2 (ix2 k j) = m ((c : Thread nD τ).loc main_arg6) (ix3 1 k j) := by
  intro n
  induction n with
  | zero =>
    intro hn k j
    rw [outsAt0_A m c ⟨0, hn⟩ rfl]
    frame_out
    exact stored_weights m c ⟨0, hn⟩ k j
  | succ n ih =>
    intro hn k j
    by_cases h0 : (n + 1) % 16 = 0
    · rw [outsAt0_A m c ⟨n + 1, hn⟩ h0]
      frame_out
      exact stored_weights m c ⟨n + 1, hn⟩ k j
    · rw [outsAt0_B m c ⟨n + 1, hn⟩ h0]
      frame_out
      exact ih (Nat.lt_of_succ_lt hn) k j

/-- What a point leaves in its three blocks of results, the weights as it holds them. -/
theorem point_leaves (c : Dev nD) (t : Fin cfg0.N) : ∃ W : Vec Ideal S1024x1024 .bf16,
    (∀ k j, W (ix2 k j) = m ((c : Thread nD τ).loc main_arg6) (ix3 1 k j))
    ∧ (outsAt0 m c t.val t.isLt).1
      = k0_pay4 (centredBlock (iblk m c 0 t) (iblk m c 1 t) (iblk m c 2 t) (iblk m c 3 t) (iblk m c 4 t) (iblk m c 5 t)
          (iblk m c 6 t) W (iblk m c 8 t))
        (spreadBlock (iblk m c 0 t) (iblk m c 1 t) (iblk m c 2 t) (iblk m c 3 t) (iblk m c 4 t) (iblk m c 5 t)
          (iblk m c 6 t) W (iblk m c 8 t)) (iblk m c 9 t) (iblk m c 10 t)
    ∧ (outsAt0 m c t.val t.isLt).2.1
      = k0_pay5 (k0_pay11 (iblk m c 8 t)) (centredBlock (iblk m c 0 t) (iblk m c 1 t) (iblk m c 2 t) (iblk m c 3 t)
          (iblk m c 4 t) (iblk m c 5 t) (iblk m c 6 t) W (iblk m c 8 t))
        (spreadBlock (iblk m c 0 t) (iblk m c 1 t) (iblk m c 2 t) (iblk m c 3 t) (iblk m c 4 t) (iblk m c 5 t)
          (iblk m c 6 t) W (iblk m c 8 t)) (iblk m c 9 t) (iblk m c 10 t)
    ∧ (outsAt0 m c t.val t.isLt).2.2.1
      = k0_pay6 (k0_pay11 (iblk m c 8 t)) (centredBlock (iblk m c 0 t) (iblk m c 1 t) (iblk m c 2 t) (iblk m c 3 t)
          (iblk m c 4 t) (iblk m c 5 t) (iblk m c 6 t) W (iblk m c 8 t))
        (spreadBlock (iblk m c 0 t) (iblk m c 1 t) (iblk m c 2 t) (iblk m c 3 t) (iblk m c 4 t) (iblk m c 5 t)
          (iblk m c 6 t) W (iblk m c 8 t)) (iblk m c 9 t) (iblk m c 10 t) (iblk m c 11 t) := by
  by_cases h0 : t.val % 16 = 0
  · refine ⟨k0_pay7 (iblk m c 7 t), stored_weights m c t, ?_⟩
    rw [outsAt0_A m c t h0]
    refine ⟨?_, ?_, ?_⟩
    · frame_out
      rw [read_back _ _ _ (by decide), read_back _ _ _ (by decide), read_back _ _ _ (by decide)]
    · frame_out
      rw [read_back _ _ _ (by decide), read_back _ _ _ (by decide), read_back _ _ _ (by decide)]
    · frame_out
      rw [read_back _ _ _ (by decide), read_back _ _ _ (by decide), read_back _ _ _ (by decide)]
  · have hN := lt_of_lt_of_eq t.isLt (show cfg0.N = 16 from N_0)
    refine ⟨(outsAt0 m c (t.val - 1) (by omega)).2.2.2, carried_weights m c _ _, ?_⟩
    rw [outsAt0_B m c t h0]
    refine ⟨?_, ?_, ?_⟩
    · frame_out
      simp only [(Memref.isWhole_whole _).read_unread]
    · frame_out
      simp only [(Memref.isWhole_whole _).read_unread]
    · frame_out
      simp only [(Memref.isWhole_whole _).read_unread]

variable (c : Dev nD)

/-- What the run's arguments give, row by row. -/
abbrev rowFrom : Fin 8192 → Fin 1024 → EReal :=
  rowOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What the run's arguments give as the layer norm. -/
abbrev normedFrom : Fin 8192 → Fin 1024 → EReal :=
  normedOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- What they give the experts. -/
abbrev expertsFrom : Fin 8192 → Fin 1024 → EReal :=
  expertsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- What they give as the router's logits. -/
abbrev logitsFrom : Fin 8192 → Fin 16 → EReal :=
  logitOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- The layer's vectors and the router's weights, as the call's host code lays them out. -/
theorem entry_d : V m c main_v3 = shapeCast S4x1x256 (m ((c : Thread nD τ).loc main_arg4)) shapeCasts_S4x256_S4x1x256 := by
  entry_read
  rfl

theorem entry_gain : V m c main_v1 = shapeCast S4x1x1024 (m ((c : Thread nD τ).loc main_arg9)) shapeCasts_S4x1024_S4x1x1024 := by
  entry_read
  rfl

theorem entry_bias : V m c main_v2 = shapeCast S4x1x1024 (m ((c : Thread nD τ).loc main_arg10)) shapeCasts_S4x1024_S4x1x1024 := by
  entry_read
  rfl

theorem entry_router : V m c main_v0
    = transpose S4x16x1024 [0, 2, 1] (m ((c : Thread nD τ).loc main_arg11)) transposes_S4x1024x16_S4x16x1024_0_2_1 := by
  entry_read
  rfl

theorem whose_val (r : Fin 8192) : (whose r).val = if r.val < 4096 then 0 else 1 + (r.val - 4096) / 1024 := by
  unfold whose
  split_ifs <;> rfl

theorem modulation_block (t : Fin cfg0.N) (i : Fin 6) (j : Fin 1024) (r : Fin 8192) (hr : r.val / 512 = t.val) :
    iblk m c 8 t (ix4 0 0 i j) = m ((c : Thread nD τ).loc main_arg8) (ix4 1 (whose r) i j) := by
  have e : (if t.val < 8 then 0 else 1 + (t.val - 8) / 2) + 0 = (whose r).val := by
    rw [whose_val]
    split_ifs <;> omega
  blk_point [iblk, V, placed t]

theorem d_block (t : Fin cfg0.N) (k : Fin 256) : iblk m c 5 t (ix3 0 0 k) = m ((c : Thread nD τ).loc main_arg4) (ix2 1 k) := by
  blk_point [iblk, entry_d, placed t]

theorem gain_block (t : Fin cfg0.N) (k : Fin 1024) : iblk m c 9 t (ix3 0 0 k) = m ((c : Thread nD τ).loc main_arg9) (ix2 1 k) := by
  blk_point [iblk, entry_gain, placed t]

theorem bias_block (t : Fin cfg0.N) (k : Fin 1024) : iblk m c 10 t (ix3 0 0 k) = m ((c : Thread nD τ).loc main_arg10) (ix2 1 k) := by
  blk_point [iblk, entry_bias, placed t]

theorem router_block (t : Fin cfg0.N) (e : Fin 16) (k : Fin 1024) :
    iblk m c 11 t (ix3 0 e k) = m ((c : Thread nD τ).loc main_arg11) (ix3 1 k e) := by
  blk_point [iblk, entry_router, placed t]

/-- What a row of a block reads of the run's arguments. -/
theorem reads (t : Fin cfg0.N) (W : Vec Ideal S1024x1024 .bf16)
    (hW : ∀ k j, W (ix2 k j) = m ((c : Thread nD τ).loc main_arg6) (ix3 1 k j)) (r : Fin 512) (hr : t.val * 512 + r.val < 8192) :
    Reads (k0_pay8 (lower (iblk m c 3 t)) (upper (iblk m c 3 t)) (lower (iblk m c 4 t)) (upper (iblk m c 4 t)) (iblk m c 5 t))
      (k0_pay9 (lower (iblk m c 3 t)) (upper (iblk m c 3 t)) (lower (iblk m c 4 t)) (upper (iblk m c 4 t)) (iblk m c 5 t))
      (k0_pay10 (iblk m c 6 t)) (iblk m c 1 t) (part₀ W) (iblk m c 2 t) (part₁ W) (part₂ W) (iblk m c 8 t) (iblk m c 0 t) r
      (unitsOf (m ((c : Thread nD τ).loc main_arg2)) (m ((c : Thread nD τ).loc main_arg3)) (m ((c : Thread nD τ).loc main_arg4))
        ⟨t.val * 512 + r.val, hr⟩)
      (fun k => m ((c : Thread nD τ).loc main_arg1) (ix2 ⟨t.val * 512 + r.val, hr⟩ k))
      (fun k => m ((c : Thread nD τ).loc main_arg0) (ix2 ⟨t.val * 512 + r.val, hr⟩ k))
      (fun j => m ((c : Thread nD τ).loc main_arg8) (ix4 1 (whose ⟨t.val * 512 + r.val, hr⟩) 2 j))
      (fun j => m ((c : Thread nD τ).loc main_arg7) (ix2 ⟨t.val * 512 + r.val, hr⟩ j))
      (fun k j => m ((c : Thread nD τ).loc main_arg5) (ix3 1 k j)) (fun k j => m ((c : Thread nD τ).loc main_arg6) (ix3 1 k j)) := by
  have units : ∀ k, k0_pay8 (lower (iblk m c 3 t)) (upper (iblk m c 3 t)) (lower (iblk m c 4 t)) (upper (iblk m c 4 t))
      (iblk m c 5 t) (ix2 r k) = unitsOf (m ((c : Thread nD τ).loc main_arg2)) (m ((c : Thread nD τ).loc main_arg3))
        (m ((c : Thread nD τ).loc main_arg4)) ⟨t.val * 512 + r.val, hr⟩ k := by
    intro k
    refine (units_at _ _ _ _ _ r (fun k => m ((c : Thread nD τ).loc main_arg2)
        (ix3 ⟨k.val / 128, by omega⟩ ⟨t.val * 512 + r.val, hr⟩ ⟨k.val % 128, by omega⟩))
      (fun k => m ((c : Thread nD τ).loc main_arg3)
        (ix3 ⟨k.val / 128, by omega⟩ ⟨t.val * 512 + r.val, hr⟩ ⟨k.val % 128, by omega⟩)) ?_ ?_ ?_ ?_ k).trans ?_
    · intro k h; unfold lower; blk_point [iblk, V, placed t]
    · intro k h h'; unfold upper; blk_point [iblk, V, placed t]
    · intro k h; unfold lower; blk_point [iblk, V, placed t]
    · intro k h h'; unfold upper; blk_point [iblk, V, placed t]
    · rw [d_block m c t k]
      rfl
  refine ⟨units, units, ?_, ?_, ?_, ?_, ?_, ?_, ?_, ?_⟩
  · intro k j
    pointwise [k0_pay10]
    blk_point [iblk, V, placed t]
  · intro k; blk_point [iblk, V, placed t]
  · intro k h j
    refine Eq.trans ?_ (hW _ _)
    pointwise [part₀]
  · intro k; blk_point [iblk, V, placed t]
  · intro k h j
    refine Eq.trans ?_ (hW _ _)
    pointwise [part₁]
  · intro k h j
    refine Eq.trans ?_ (hW _ _)
    pointwise [part₂]
  · intro j; exact modulation_block m c t 2 j _ (by simp only; omega)
  · intro j; blk_point [iblk, V, placed t]

/-- A row of the layer norm's block. -/
theorem normed_block (t : Fin cfg0.N) (r : Fin 512) (j : Fin 1024) (hr : t.val * 512 + r.val < 8192) :
    (outsAt0 m c t.val t.isLt).1 (ix2 r j) = normedFrom m c ⟨t.val * 512 + r.val, hr⟩ j := by
  obtain ⟨W, hW, e, -, -⟩ := point_leaves m c t
  have H := reads m c t W hW r hr
  rw [e]
  exact normed_at (centred_at H) (spread_at H) (gain_block m c t) (bias_block m c t) j

variable (hM : ∀ i, ∃ x : ℝ, m ((c : Thread nD τ).loc main_arg8) i = (x : EReal))
  (hb : ∀ i, ∃ x : ℝ, m ((c : Thread nD τ).loc main_arg10) i = (x : EReal))

include hM hb in
/-- A row of the experts' block. -/
theorem experts_block (t : Fin cfg0.N) (r : Fin 512) (j : Fin 1024) (hr : t.val * 512 + r.val < 8192) :
    (outsAt0 m c t.val t.isLt).2.1 (ix2 r j) = expertsFrom m c ⟨t.val * 512 + r.val, hr⟩ j := by
  obtain ⟨W, hW, -, e, -⟩ := point_leaves m c t
  have H := reads m c t W hW r hr
  rw [e]
  refine experts_at (centred_at H) (spread_at H) (gain_block m c t) (bias_block m c t) (fun j => ?_) (fun j => ?_)
    (fun j => hb _) (fun j => hM _) j
  · refine Eq.trans ?_ (modulation_block m c t 4 j _ (by simp only; omega))
    pointwise [k0_pay11]
  · refine Eq.trans ?_ (modulation_block m c t 3 j _ (by simp only; omega))
    pointwise [k0_pay11]

include hM hb in
/-- A column of the logits' block. -/
theorem logits_block (t : Fin cfg0.N) (r : Fin 512) (e : Fin 16) (hr : t.val * 512 + r.val < 8192) :
    (outsAt0 m c t.val t.isLt).2.2.1 (ix2 e r) = logitsFrom m c ⟨t.val * 512 + r.val, hr⟩ e := by
  have h := fun j => experts_block m c hM hb t r j hr
  obtain ⟨W, hW, -, e₁, e₂⟩ := point_leaves m c t
  rw [e₁] at h
  rw [e₂]
  exact logits_at h (router_block m c t e)

/-- The layer norm's array after the run. -/
theorem normed_array : (dats m 0 c).arrAt 12 (cfgs 0).N = fun i => normedFrom m c (i 0) (i 1) := by
  refine (dats m 0 c).arrAt_eq_of_covers 12 _ (by decide +kernel) fun t _ y => ?_
  blk_simp
  rw [after0_12]
  have hN := lt_of_lt_of_eq t.isLt (show cfg0.N = 16 from N_0)
  obtain ⟨r, j, rfl⟩ : ∃ r j, y = ix2 r j := ⟨y 0, y 1, eq_ix2 y⟩
  have hr := r.isLt
  have h0 : t.val * 512 + r.val < 8192 := by omega
  have e0 : (win0_12.blk t).view.emb (ix2 r j) 0 = (⟨t.val * 512 + r.val, h0⟩ : Fin 8192) := Fin.ext (by blk_simp [placed t])
  have e1 : (win0_12.blk t).view.emb (ix2 r j) 1 = j := Fin.ext (by blk_simp [placed t])
  rw [e0, e1]
  exact normed_block m c t r j h0

include hM hb in
/-- The experts' array after the run. -/
theorem experts_array : (dats m 0 c).arrAt 13 (cfgs 0).N = fun i => expertsFrom m c (i 0) (i 1) := by
  refine (dats m 0 c).arrAt_eq_of_covers 13 _ (by decide +kernel) fun t _ y => ?_
  blk_simp
  rw [after0_13]
  have hN := lt_of_lt_of_eq t.isLt (show cfg0.N = 16 from N_0)
  obtain ⟨r, j, rfl⟩ : ∃ r j, y = ix2 r j := ⟨y 0, y 1, eq_ix2 y⟩
  have hr := r.isLt
  have h0 : t.val * 512 + r.val < 8192 := by omega
  have e0 : (win0_13.blk t).view.emb (ix2 r j) 0 = (⟨t.val * 512 + r.val, h0⟩ : Fin 8192) := Fin.ext (by blk_simp [placed t])
  have e1 : (win0_13.blk t).view.emb (ix2 r j) 1 = j := Fin.ext (by blk_simp [placed t])
  rw [e0, e1]
  exact experts_block m c hM hb t r j h0

include hM hb in
/-- The logits' array after the run. -/
theorem logits_array : (dats m 0 c).arrAt 14 (cfgs 0).N = fun i => logitsFrom m c (i 1) (i 0) := by
  refine (dats m 0 c).arrAt_eq_of_covers 14 _ (by decide +kernel) fun t _ y => ?_
  blk_simp
  rw [after0_14]
  have hN := lt_of_lt_of_eq t.isLt (show cfg0.N = 16 from N_0)
  obtain ⟨e, r, rfl⟩ : ∃ e r, y = ix2 e r := ⟨y 0, y 1, eq_ix2 y⟩
  have hr := r.isLt
  have h0 : t.val * 512 + r.val < 8192 := by omega
  have e0 : (win0_14.blk t).view.emb (ix2 e r) 1 = (⟨t.val * 512 + r.val, h0⟩ : Fin 8192) := Fin.ext (by blk_simp [placed t])
  have e1 : (win0_14.blk t).view.emb (ix2 e r) 0 = e := Fin.ext (by blk_simp [placed t])
  rw [e0, e1]
  exact logits_block m c hM hb t r e h0

end Cert.OutprojIdeal.Value

end
-- ==== Proof.OutRef.lean ====
module

public import proofs.«01_k».proof.Proof.OutMath
public import proofs.«01_k».proof.Proof.Gen.OutprojReferenceIdeal.Run

@[expose] public section

set_option maxRecDepth 16384

noncomputable section

open Idealize.ShloMosaic Idealize.ShloMosaic.TcCoe Idealize.SL.Sem

/-! # The output projection's reference, stage by stage -/

namespace Cert.OutprojReferenceIdeal.Value

open Cert.OutprojReferenceIdeal Cert.OutprojReferenceIdeal.Gen Mixing

variable (A : FVec Ideal S8192x512 .bf16) (Fo : FVec Ideal S8192x256 .bf16) (Y U : FVec Ideal S2x8192x128 .f32)
  (d : FVec Ideal S4x256 .f32) (G : FVec Ideal S4x256x256 .f32) (W : FVec Ideal S4x1024x1024 .f32)
  (X : FVec Ideal S8192x1024 .f32) (M : FVec Ideal S4x8x6x1024 .f32) (gain bias : FVec Ideal S4x1024 .f32)
  (R : FVec Ideal S4x1024x16 .f32)

/-- The same number everywhere. -/
abbrev everyUnit (b : BitVec 32) : FVec Ideal S8192x256 .f32 := broadcastInDim S8192x256 ![] bcast_S_S8192x256 (constant S_ .f32 b)
abbrev everyRow (b : BitVec 32) : FVec Ideal S8192x1 .f32 := broadcastInDim S8192x1 ![] bcast_S_S8192x1 (constant S_ .f32 b)
abbrev everyEntry (b : BitVec 32) : FVec Ideal S8192x1024 .f32 :=
  broadcastInDim S8192x1024 ![] bcast_S_S8192x1024 (constant S_ .f32 b)

/-- Every row's modulation. -/
def modulation : FVec Ideal S8192x6x1024 .f32 :=
  concatenate S8192x6x1024 0
    [⟨S4096x6x1024, shapeCast _ (broadcastInDim S1x4096x6x1024 ![0, 1, 2, 3] bcast_S1x1x6x1024_S1x4096x6x1024_0_1_2_3
        (broadcastInDim S1x1x6x1024 ![0, 2, 3] bcast_S1x6x1024_S1x1x6x1024_0_2_3
          (shapeCast _ (extractStridedSlice S1x1x6x1024 ![1, 0, 0, 0] M slices_S4x8x6x1024_S1x1x6x1024_1_0_0_0)
            shapeCasts_S1x1x6x1024_S1x6x1024))) shapeCasts_S1x4096x6x1024_S4096x6x1024⟩,
     ⟨S4096x6x1024, shapeCast _ (broadcastInDim S4x1024x6x1024 ![0, 1, 2, 3] bcast_S4x1x6x1024_S4x1024x6x1024_0_1_2_3
        (broadcastInDim S4x1x6x1024 ![0, 2, 3] bcast_S4x6x1024_S4x1x6x1024_0_2_3
          (shapeCast _ (extractStridedSlice S1x4x6x1024 ![1, 1, 0, 0] M slices_S4x8x6x1024_S1x4x6x1024_1_1_0_0)
            shapeCasts_S1x4x6x1024_S4x6x1024))) shapeCasts_S4x1024x6x1024_S4096x6x1024⟩]
    concatenates_S4096x6x1024_S4096x6x1024_S8192x6x1024_d0

/-- The recurrence's output before the gelu. -/
def recurrent : FVec Ideal S8192x256 .f32 :=
  addf (mulf (shapeCast _ (transpose S8192x2x128 [1, 0, 2] U transposes_S2x8192x128_S8192x2x128_1_0_2)
      shapeCasts_S8192x2x128_S8192x256)
    (broadcastInDim S8192x256 ![0, 1] bcast_S1x256_S8192x256_0_1 (broadcastInDim S1x256 ![1] bcast_S256_S1x256_1
      (shapeCast _ (extractStridedSlice S1x256 ![1, 0] d slices_S4x256_S1x256_1_0) shapeCasts_S1x256_S256))))
    (shapeCast _ (transpose S8192x2x128 [1, 0, 2] Y transposes_S2x8192x128_S8192x2x128_1_0_2) shapeCasts_S8192x2x128_S8192x256)

/-- The gelu of an array. -/
def activated (a : FVec Ideal S8192x256 .f32) : FVec Ideal S8192x256 .f32 :=
  mulf a (mulf (everyUnit 0x3F000000#32) (addf (everyUnit 0x3F800000#32) (Host.tanh (mulf (everyUnit 0x3F4C422A#32)
    (addf a (mulf (everyUnit 0x3D372713#32) (mulf (mulf a a) a)))))))

/-- An array times its gate. -/
def gatedArray (g : FVec Ideal S8192x256 .f32) : FVec Ideal S8192x256 .f32 :=
  mulf g (Host.divf (everyUnit 0x3F800000#32) (addf (everyUnit 0x3F800000#32) (Host.exp (Host.negf
    (Host.dotGeneral dot_S8192x256_S256x256_S8192x256_1_0_0_1_n_n none g
      (shapeCast _ (extractStridedSlice S1x256x256 ![1, 0, 0] G slices_S4x256x256_S1x256x256_1_0_0)
        shapeCasts_S1x256x256_S256x256))))))

/-- The three mixers' channels side by side. -/
def joined (s : FVec Ideal S8192x256 .f32) : FVec Ideal S8192x1024 .f32 :=
  concatenate S8192x1024 1 [⟨S8192x512, extf .f32 A bitsLt_bf16_f32⟩, ⟨S8192x256, extf .f32 Fo bitsLt_bf16_f32⟩,
    ⟨S8192x256, s⟩] concatenates_S8192x512_S8192x256_S8192x256_S8192x1024_d1

/-- The joint projection. -/
def projected (j : FVec Ideal S8192x1024 .f32) : FVec Ideal S8192x1024 .f32 :=
  Host.dotGeneral dot_S8192x1024_S1024x1024_S8192x1024_1_0_0_1_n_n none j
    (shapeCast _ (extractStridedSlice S1x1024x1024 ![1, 0, 0] W slices_S4x1024x1024_S1x1024x1024_1_0_0)
      shapeCasts_S1x1024x1024_S1024x1024)

/-- A row of the modulation. -/
def modRow2 (md : FVec Ideal S8192x6x1024 .f32) : FVec Ideal S8192x1024 .f32 :=
  shapeCast _ (extractStridedSlice S8192x1x1024 ![0, 2, 0] md slices_S8192x6x1024_S8192x1x1024_0_2_0)
    shapeCasts_S8192x1x1024_S8192x1024
def modRow3 (md : FVec Ideal S8192x6x1024 .f32) : FVec Ideal S8192x1024 .f32 :=
  shapeCast _ (extractStridedSlice S8192x1x1024 ![0, 3, 0] md slices_S8192x6x1024_S8192x1x1024_0_3_0)
    shapeCasts_S8192x1x1024_S8192x1024
def modRow4 (md : FVec Ideal S8192x6x1024 .f32) : FVec Ideal S8192x1024 .f32 :=
  shapeCast _ (extractStridedSlice S8192x1x1024 ![0, 4, 0] md slices_S8192x6x1024_S8192x1x1024_0_4_0)
    shapeCasts_S8192x1x1024_S8192x1024

/-- The residual stream. -/
def stream (gate p : FVec Ideal S8192x1024 .f32) : FVec Ideal S8192x1024 .f32 :=
  addf (mulf (everyEntry 0x3FD744FD#32) X) (mulf gate p)

/-- The means of the rows. -/
def means (x : FVec Ideal S8192x1024 .f32) : FVec Ideal S8192x1 .f32 :=
  Host.divf (broadcastInDim S8192x1 ![0] bcast_S8192_S8192x1_0
    (Host.reduceAdd x (constant S_ .f32 0x00000000#32) reducesTo_S8192x1024_S8192_d1 h_S_)) (everyRow 0x44800000#32)

/-- An array less a number in each row. -/
def less (x : FVec Ideal S8192x1024 .f32) (μ : FVec Ideal S8192x1 .f32) : FVec Ideal S8192x1024 .f32 :=
  subf x (broadcastInDim S8192x1024 ![0, 1] bcast_S8192x1_S8192x1024_0_1 μ)

/-- A layer's vector in every row. -/
def everywhere (g : FVec Ideal S4x1024 .f32) : FVec Ideal S8192x1024 .f32 :=
  broadcastInDim S8192x1024 ![0, 1] bcast_S1x1024_S8192x1024_0_1 (broadcastInDim S1x1024 ![1] bcast_S1024_S1x1024_1
    (shapeCast _ (extractStridedSlice S1x1024 ![1, 0] g slices_S4x1024_S1x1024_1_0) shapeCasts_S1x1024_S1024))

/-- The layer norm, from the centred rows and their variances. -/
def normArray (x : FVec Ideal S8192x1024 .f32) (v : FVec Ideal S8192x1 .f32) : FVec Ideal S8192x1024 .f32 :=
  addf (mulf (mulf x (broadcastInDim S8192x1024 ![0, 1] bcast_S8192x1_S8192x1024_0_1
    (Host.rsqrt (addf v (everyRow 0x3727C5AC#32))))) (everywhere gain)) (everywhere bias)

/-- The experts' modulation. -/
def expertArray (x up shift : FVec Ideal S8192x1024 .f32) : FVec Ideal S8192x1024 .f32 :=
  addf (mulf x (addf (everyEntry 0x3F800000#32) up)) shift

/-- The router's logits. -/
def logitArray (h : FVec Ideal S8192x1024 .f32) : FVec Ideal S16x8192 .f32 :=
  transpose S16x8192 [1, 0] (Host.dotGeneral dot_S8192x1024_S1024x16_S8192x16_1_0_0_1_n_n none h
    (shapeCast _ (extractStridedSlice S1x1024x16 ![1, 0, 0] R slices_S4x1024x16_S1x1024x16_1_0_0) shapeCasts_S1x1024x16_S1024x16))
    transposes_S8192x16_S16x8192_1_0

/-- The residual stream of the arguments. -/
def streamOf : FVec Ideal S8192x1024 .f32 :=
  stream X (modRow2 (modulation M)) (projected W (joined A Fo (gatedArray G (activated (recurrent Y U d)))))

/-- Its layer norm. -/
def normedArray : FVec Ideal S8192x1024 .f32 :=
  normArray gain bias (less (streamOf A Fo Y U d G W X M) (means (streamOf A Fo Y U d G W X M)))
    (means (mulf (less (streamOf A Fo Y U d G W X M) (means (streamOf A Fo Y U d G W X M)))
      (less (streamOf A Fo Y U d G W X M) (means (streamOf A Fo Y U d G W X M)))))

/-- The experts' tokens. -/
def tokenArray : FVec Ideal S8192x1024 .f32 :=
  expertArray (normedArray A Fo Y U d G W X M gain bias) (modRow4 (modulation M)) (modRow3 (modulation M))

section Results

variable (m : (ℓ : Loc nD τ sig) → Buf (Elt Ideal) ℓ) (c : Dev nD)

set_option maxHeartbeats 1000000 in
theorem out0_eq : res_out0 m c = normedArray (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) := rfl

set_option maxHeartbeats 1000000 in
theorem out1_eq : res_out1 m c = truncf .bf16 (tokenArray (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)))
    bitsLt_bf16_f32 := rfl

set_option maxHeartbeats 1000000 in
theorem out2_eq : res_out2 m c = logitArray (m ((c.tc : Thread nD τ).loc main_arg11))
    (tokenArray (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))) := rfl

end Results

end Cert.OutprojReferenceIdeal.Value

end
-- ==== Proof.OutRefValue.lean ====
module

public import proofs.«01_k».proof.Proof.OutRef

@[expose] public section

set_option maxRecDepth 16384

noncomputable section

open Idealize.ShloMosaic Idealize.ShloMosaic.TcCoe Idealize.SL.Sem

/-! # The entries of the output projection's reference -/

namespace Cert.OutprojReferenceIdeal.Value

open Cert.OutprojReferenceIdeal Cert.OutprojReferenceIdeal.Gen Mixing

variable (A : FVec Ideal S8192x512 .bf16) (Fo : FVec Ideal S8192x256 .bf16) (Y U : FVec Ideal S2x8192x128 .f32)
  (d : FVec Ideal S4x256 .f32) (G : FVec Ideal S4x256x256 .f32) (W : FVec Ideal S4x1024x1024 .f32)
  (X : FVec Ideal S8192x1024 .f32) (M : FVec Ideal S4x8x6x1024 .f32) (gain bias : FVec Ideal S4x1024 .f32)
  (R : FVec Ideal S4x1024x16 .f32)

/-- A row's modulation is its sequence's. -/
theorem modulation_at (r : Fin 8192) (i : Fin 6) (j : Fin 1024) :
    modulation M (ix3 r i j) = M (ix4 1 (whose r) i j) := by
  unfold whose
  by_cases h : r.val < 4096
  · pointwise [modulation, dif_pos h]
  · pointwise [modulation, dif_neg h]

/-- The recurrence's output. -/
theorem recurrent_at (r : Fin 8192) (k : Fin 256) : recurrent Y U d (ix2 r k)
    = Y (ix3 ⟨k.val / 128, by omega⟩ r ⟨k.val % 128, by omega⟩)
      + U (ix3 ⟨k.val / 128, by omega⟩ r ⟨k.val % 128, by omega⟩) * d (ix2 1 k) := by
  pointwise [recurrent]
  exact add_comm _ _

/-- Its gelu. -/
theorem activated_at {a : FVec Ideal S8192x256 .f32} (r : Fin 8192) (k : Fin 256) :
    activated a (ix2 r k) = gelu (a (ix2 r k)) := by
  pointwise [activated, gelu]
  rw [mul_comm (a (ix2 r k) * a (ix2 r k))]

/-- Its gate. -/
theorem gated_at {g : FVec Ideal S8192x256 .f32} (r : Fin 8192) (k : Fin 256) :
    gatedArray G g (ix2 r k) = gated (fun k => g (ix2 r k)) (fun k j => G (ix3 1 k j)) k := by
  pointwise [gatedArray]
  rfl

/-- The joint channels: the attention's, the Fourier mixer's, the recurrence's. -/
theorem joined_at₀ {s : FVec Ideal S8192x256 .f32} (r : Fin 8192) (k : Fin 512) (h : k.val < 1024) :
    joined A Fo s (ix2 r ⟨k.val, h⟩) = A (ix2 r k) := by
  pointwise [joined]

theorem joined_at₁ {s : FVec Ideal S8192x256 .f32} (r : Fin 8192) (k : Fin 256) (h : 512 + k.val < 1024) :
    joined A Fo s (ix2 r ⟨512 + k.val, h⟩) = Fo (ix2 r k) := by
  pointwise [joined]

theorem joined_at₂ {s : FVec Ideal S8192x256 .f32} (r : Fin 8192) (k : Fin 256) (h : 768 + k.val < 1024) :
    joined A Fo s (ix2 r ⟨768 + k.val, h⟩) = s (ix2 r k) := by
  pointwise [joined]
  rw [dif_neg (by omega), dif_neg (by omega)]
  exact congrArg s (congrArg (ix2 r) (Fin.ext (by simp only; omega)))

/-- The joint projection. -/
theorem projected_at {j : FVec Ideal S8192x1024 .f32} (r : Fin 8192) (e : Fin 1024) :
    projected W j (ix2 r e) = ∑ k, j (ix2 r k) * W (ix3 1 k e) := by
  pointwise [projected]

/-- A row's mean. -/
theorem means_at {x : FVec Ideal S8192x1024 .f32} (r : Fin 8192) :
    means x (ix2 r 0) = Ideal.div (∑ j, x (ix2 r j)) (Ideal.ofBits .f32 0x44800000#32) := by
  pointwise [means]

/-- The layer norm. -/
theorem normed_at {x : FVec Ideal S8192x1024 .f32} {v : FVec Ideal S8192x1 .f32} (r : Fin 8192) (j : Fin 1024) :
    normArray gain bias x v (ix2 r j) = x (ix2 r j) * Ideal.rsqrt (v (ix2 r 0) + Ideal.ofBits .f32 0x3727C5AC#32)
      * gain (ix2 1 j) + bias (ix2 1 j) := by
  pointwise [normArray, everywhere]

/-- The logits. -/
theorem logits_at {h : FVec Ideal S8192x1024 .f32} (r : Fin 8192) (e : Fin 16) :
    logitArray R h (ix2 e r) = ∑ j, h (ix2 r j) * R (ix3 1 j e) := by
  pointwise [logitArray]

/-- The residual stream is the specification's. -/
theorem stream_at (r : Fin 8192) (j : Fin 1024) : streamOf A Fo Y U d G W X M (ix2 r j) = rowOf A Fo Y U d G W X M r j := by
  have e : ∀ j, projected W (joined A Fo (gatedArray G (activated (recurrent Y U d)))) (ix2 r j)
      = mixed (fun k => A (ix2 r k)) (fun k => Fo (ix2 r k)) (gated (unitsOf Y U d r) fun k j => G (ix3 1 k j))
        (fun k j => W (ix3 1 k j)) j := by
    intro j
    rw [projected_at, three_mixers]
    simp only [joined_at₀, joined_at₁, joined_at₂, gated_at, activated_at, recurrent_at]
    rfl
  pointwise [streamOf, stream, modRow2, modulation_at, e]
  rfl

/-- The layer norm's result is the specification's. -/
theorem normedArray_at (r : Fin 8192) (j : Fin 1024) :
    normedArray A Fo Y U d G W X M gain bias (ix2 r j) = normedOf A Fo Y U d G W X M gain bias r j := by
  have e := stream_at A Fo Y U d G W X M r
  unfold normedArray
  generalize streamOf A Fo Y U d G W X M = S at e ⊢
  have l : ∀ j, less S (means S) (ix2 r j) = centred (rowOf A Fo Y U d G W X M r) j := by
    intro j
    pointwise [less, means_at, e]
    rfl
  generalize less S (means S) = C at l ⊢
  rw [normed_at, means_at]
  pointwise [l]
  rfl

/-- The experts' tokens are the specification's. -/
theorem tokenArray_at (r : Fin 8192) (j : Fin 1024) :
    tokenArray A Fo Y U d G W X M gain bias (ix2 r j) = expertsOf A Fo Y U d G W X M gain bias r j := by
  pointwise [tokenArray, expertArray, modRow3, modRow4, modulation_at, normedArray_at]
  rfl

/-- The logits are the specification's. -/
theorem logitArray_at (r : Fin 8192) (e : Fin 16) :
    logitArray R (tokenArray A Fo Y U d G W X M gain bias) (ix2 e r) = logitOf A Fo Y U d G W X M gain bias R r e := by
  rw [logits_at]
  simp only [tokenArray_at]
  rfl

end Cert.OutprojReferenceIdeal.Value

end
-- ==== Proof.OutClaim.lean ====
module

public import proofs.«01_k».proof.Defs
public import proofs.«01_k».proof.Proof.AttnClaim
public import proofs.«01_k».proof.Proof.OutArray
public import proofs.«01_k».proof.Proof.OutRefValue
public import Idealize.ShloMosaic.Lib.Claim

@[expose] public section

set_option maxRecDepth 16384

noncomputable section

open Idealize.ShloMosaic Idealize.SL.Sem

/-! # The output projection and its reference end with the same three arrays -/

namespace Cert.OutprojIdeal.Value

open Cert.OutprojIdeal Cert.OutprojIdeal.Gen Mixing

/-- The shape relations the precondition's operations take. -/
theorem finite3_facts : Cert.Pre_finite3.Facts where
  bcast_S_S4x8x6x1024 := by decide
  bcast_S_S4x1024 := by decide

variable (m : (ℓ : Loc nD τ sig) → Buf (Elt Ideal) ℓ)
attribute [local instance] finite3_facts

/-- The modulation is real. -/
theorem modulation_real (h : Cert.Pre_OutprojIdeal_finite3 m) (c : Dev nD) (i) :
    ∃ r : ℝ, m ((c.tc : Thread nD τ).loc main_arg8) i = (r : EReal) := by
  have e := congrFun (h c).1 i
  refine Cert.KernelIdeal.Value.real_of_finite _ (Eq.trans ?_ e)
  idx_vars i
  pointwise [Cert.Pre_finite3.fn]

/-- The layer norm's bias is real. -/
theorem bias_real (h : Cert.Pre_OutprojIdeal_finite3 m) (c : Dev nD) (i) :
    ∃ r : ℝ, m ((c.tc : Thread nD τ).loc main_arg10) i = (r : EReal) := by
  have e := congrFun (h c).2 i
  refine Cert.KernelIdeal.Value.real_of_finite _ (Eq.trans ?_ e)
  idx_vars i
  pointwise [Cert.Pre_finite3.fn]

/-- An array laid out over rows and columns is its entries. -/
theorem eq_of_entries {a b : ℕ} {α : Type} (v : (⟨2, ![a, b]⟩ : Shape).Idx → α) (f : Fin a → Fin b → α)
    (h : ∀ r j, v (ix2 r j) = f r j) : v = fun i => f (i 0) (i 1) := by
  funext i
  obtain ⟨r, j, rfl⟩ : ∃ r j, i = ix2 r j := ⟨i 0, i 1, eq_ix2 i⟩
  exact h r j

set_option maxHeartbeats 2000000 in
/-- The output projection's call and its reference end with the same three arrays. -/
theorem outproj_algebraic : Cert.algebraic_OutprojIdeal_OutprojReferenceIdeal_pre_finite3 := by
  pair_intro
  · run_from Cert.OutprojIdeal.Gen.run_main m g
  · run_from Cert.OutprojReferenceIdeal.Value.run m' g'
    all_goals obtain ⟨h0, h1, h2, h3, h4, h5, h6, h7, h8, h9, h10, h11⟩ := hagree c
    · rw [normed_array m c]
      refine (Cert.OutprojReferenceIdeal.Value.out0_eq m' c).trans (eq_of_entries _ (normedFrom m c) fun r j => ?_)
      rw [Cert.OutprojReferenceIdeal.Value.normedArray_at, h0, h1, h2, h3, h4, h5, h6, h7, h8, h9, h10]
    · rw [experts_array m c (modulation_real m hpre c) (bias_real m hpre c)]
      refine (Cert.OutprojReferenceIdeal.Value.out1_eq m' c).trans (eq_of_entries _ (expertsFrom m c) fun r j => ?_)
      refine (Cert.OutprojReferenceIdeal.Value.tokenArray_at ..).trans ?_
      rw [h0, h1, h2, h3, h4, h5, h6, h7, h8, h9, h10]
    · rw [logits_array m c (modulation_real m hpre c) (bias_real m hpre c)]
      refine (Cert.OutprojReferenceIdeal.Value.out2_eq m' c).trans
        (eq_of_entries _ (fun e r => logitsFrom m c r e) fun e r => ?_)
      rw [Cert.OutprojReferenceIdeal.Value.logitArray_at, h0, h1, h2, h3, h4, h5, h6, h7, h8, h9, h10, h11]

end Cert.OutprojIdeal.Value

end
-- ==== Proof.JoinMath.lean ====
module

public import proofs.«01_k».proof.Proof.OutMath

@[expose] public section

noncomputable section

open Idealize.ShloMosaic

/-! # What the combination of the experts computes, row by row -/

namespace Mixing

open Classical in
/-- A token's weight in slot `s` of an expert: the gate where the token's code, counted from one, names the slot. -/
def share (code gate : EReal) (s : ℕ) : EReal := if code = (((s + 1 : ℕ) : ℝ) : EReal) then gate else 0

/-- The experts' results of a token, weighted. -/
def merged {n : ℕ} (code gate : Fin 16 → EReal) (ys : Fin 16 → Fin n → Fin 1024 → EReal) (j : Fin 1024) : EReal :=
  ∑ e, ∑ s : Fin n, share (code e) (gate e) s.val * ys e s j

/-- The layer's result for a token. -/
def joinedRow {n : ℕ} (code gate : Fin 16 → EReal) (ys : Fin 16 → Fin n → Fin 1024 → EReal)
    (x up gain bias : Fin 1024 → EReal) : Fin 1024 → EReal :=
  normed (residual x up (merged code gate ys)) gain bias

/-- A sum over all slots, expert by expert. -/
theorem by_expert {n : ℕ} (F : Fin (16 * n) → EReal) :
    ∑ k, F k = ∑ e : Fin 16, ∑ s : Fin n, F (finProdFinEquiv (e, s)) :=
  (Equiv.sum_comp finProdFinEquiv F).symm.trans (Fintype.sum_prod_type _)

section Arrays

variable (code gate : FVec Ideal ⟨2, ![16, 4096]⟩ .f32) (ys : FVec Ideal ⟨3, ![16, 512, 1024]⟩ .bf16)
  (X : FVec Ideal ⟨2, ![8192, 1024]⟩ .f32) (M : FVec Ideal ⟨4, ![4, 8, 6, 1024]⟩ .f32) (gain bias : FVec Ideal ⟨2, ![4, 1024]⟩ .f32)

/-- The last layer's result for a latent token. -/
def latentOf (r : Fin 4096) : Fin 1024 → EReal :=
  joinedRow (n := 128) (fun e => code (ix2 e r)) (fun e => gate (ix2 e r))
    (fun e s j => ys (ix3 e ⟨r.val / 1024 * 128 + s.val, by omega⟩ j)) (fun j => X (ix2 ⟨4096 + r.val, by omega⟩ j))
    (fun j => M (ix4 3 ⟨1 + r.val / 1024, by omega⟩ 5 j)) (fun j => gain (ix2 3 j)) (fun j => bias (ix2 3 j))

/-- The last layer's result for a context token. -/
def contextOf (r : Fin 4096) : Fin 1024 → EReal :=
  joinedRow (n := 32) (fun e => code (ix2 e r)) (fun e => gate (ix2 e r))
    (fun e s j => ys (ix3 e ⟨r.val / 256 * 32 + s.val, by omega⟩ j)) (fun j => X (ix2 ⟨r.val, by omega⟩ j))
    (fun j => M (ix4 3 0 5 j)) (fun j => gain (ix2 3 j)) (fun j => bias (ix2 3 j))

end Arrays

end Mixing

end
-- ==== Proof.JoinTile.lean ====
module

public import proofs.«01_k».proof.Proof.JoinMath
public import proofs.«01_k».proof.Proof.Gen.CombineIdeal.Frame

@[expose] public section

set_option maxRecDepth 16384

noncomputable section

open Idealize.ShloMosaic Idealize.ShloMosaic.TcCoe Idealize.SL.Sem

/-! # What the last combination computes for one latent sequence -/

namespace Cert.CombineIdeal.Value

open Cert.CombineIdeal Cert.CombineIdeal.Gen Mixing

/-- One expert's weights, by slot and token. -/
def weights (slots : FVec Ideal S128x1024 .f32) (code gate : FVec Ideal S1x1024 .f32) : FVec Ideal S128x1024 .bf16 :=
  truncf .bf16 (select (cmpf .oeq (broadcastTo S128x1024 code broadcasts_S1x1024_S128x1024) slots)
    (broadcastTo S128x1024 (shapeCast S1x1024 gate shapeCasts_S1x1024_S1x1024) broadcasts_S1x1024_S128x1024)
    (broadcast S128x1024 (Scalar.ofBits .f32 0x00000000#32))) bitsLt_bf16_f32

theorem has_row (e : Fin 16) : S16x1024.Slices ![e.val, 0] S1x1024 := ⟨rfl, fun a => by
  match a with
  | ⟨0, _⟩ => exact e.isLt
  | ⟨1, _⟩ => exact le_refl 1024⟩

/-- An expert's row of a routing table. -/
def row (a : Vec Ideal S16x1024 .f32) (e : Fin 16) : FVec Ideal S1x1024 .f32 :=
  extractStridedSlice S1x1024 ![e.val, 0] a (has_row e)

theorem fits : Shape.Concatenates (List.replicate 16 S128x1024) S2048x1024 0 := by decide

/-- Sixteen experts' weights above one another. -/
def stacked (P : Fin 16 → FVec Ideal S128x1024 .bf16) : FVec Ideal S2048x1024 .bf16 :=
  concatenate S2048x1024 0 [⟨S128x1024, P 0⟩, ⟨S128x1024, P 1⟩, ⟨S128x1024, P 2⟩, ⟨S128x1024, P 3⟩, ⟨S128x1024, P 4⟩,
    ⟨S128x1024, P 5⟩, ⟨S128x1024, P 6⟩, ⟨S128x1024, P 7⟩, ⟨S128x1024, P 8⟩, ⟨S128x1024, P 9⟩, ⟨S128x1024, P 10⟩,
    ⟨S128x1024, P 11⟩, ⟨S128x1024, P 12⟩, ⟨S128x1024, P 13⟩, ⟨S128x1024, P 14⟩, ⟨S128x1024, P 15⟩]
    concatenates_S128x1024_S128x1024_S128x1024_S128x1024_S128x1024_S128x1024_S128x1024_S128x1024_S128x1024_S128x1024_S128x1024_S128x1024_S128x1024_S128x1024_S128x1024_S128x1024_S2048x1024_d0

/-- The whole weights. -/
def oneHot (code gate : Vec Ideal S16x1024 .f32) : FVec Ideal S2048x1024 .bf16 :=
  stacked fun e => weights (k0_pay2 (F := Ideal)) (row code e) (row gate e)

theorem slots_at (s : Fin 128) (r : Fin 1024) : k0_pay2 (F := Ideal) (ix2 s r) = (((s.val + 1 : ℕ) : ℝ) : EReal) := by
  have e : (IntOp.addi (BitVec.ofNat 32 s.val) 1#32).toInt = ((s.val + 1 : ℕ) : ℤ) := by
    have h := s.isLt
    show (BitVec.ofNat 32 s.val + 1#32).toInt = _
    rw [BitVec.toInt_eq_toNat_of_lt] <;> simp [BitVec.toNat_add] <;> omega
  pointwise [k0_pay2]
  show ((((IntOp.addi (BitVec.ofNat 32 s.val) 1#32).toInt : ℤ) : ℝ) : EReal) = _
  rw [e, Int.cast_natCast]

theorem weights_at {slots : FVec Ideal S128x1024 .f32} {code gate : FVec Ideal S1x1024 .f32} {s : Fin 128} {r : Fin 1024}
    (h : slots (ix2 s r) = (((s.val + 1 : ℕ) : ℝ) : EReal)) :
    weights slots code gate (ix2 s r) = share (code (ix2 0 r)) (gate (ix2 0 r)) s.val := by
  pointwise [weights, share, h]

theorem row_at (a : Vec Ideal S16x1024 .f32) (e : Fin 16) (r : Fin 1024) : row a e (ix2 0 r) = a (ix2 e r) := by
  pointwise [row]

theorem stacked_at (P : Fin 16 → FVec Ideal S128x1024 .bf16) (e : Fin 16) (s : Fin 128) (r : Fin 1024) :
    stacked P (ix2 (finProdFinEquiv (e, s)) r) = P e (ix2 s r) := by
  have hs := s.isLt
  have v : (finProdFinEquiv (e, s) : Fin (16 * 128)).val = s.val + 128 * e.val := rfl
  refine concatenate_ofFn_apply (t := S2048x1024) (0 : Fin 2) P fits rfl 128 rfl _ e ?_ _ ?_ fun b hb => ?_
  · show (finProdFinEquiv (e, s) : Fin (16 * 128)).val / 128 = e.val
    omega
  · show s.val = (finProdFinEquiv (e, s) : Fin (16 * 128)).val % 128
    omega
  · match b with
    | ⟨0, _⟩ => exact absurd rfl hb
    | ⟨1, _⟩ => rfl

/-- The weights of a token. -/
theorem oneHot_at (code gate : Vec Ideal S16x1024 .f32) (e : Fin 16) (s : Fin 128) (r : Fin 1024) :
    oneHot code gate (ix2 (finProdFinEquiv (e, s)) r) = share (code (ix2 e r)) (gate (ix2 e r)) s.val := by
  rw [oneHot, stacked_at, weights_at (slots_at s r), row_at, row_at]

theorem oneHot_eq (code gate : Vec Ideal S16x1024 .f32) (slots) (h : slots = k0_pay2 (F := Ideal)) :
    k0_pay16 slots code gate (k0_pay4 code gate) (k0_pay5 code gate) (k0_pay6 code gate) (k0_pay7 code gate)
      (k0_pay9 slots gate (k0_pay8 code)) (k0_pay10 slots code gate) (k0_pay11 slots code gate)
      (k0_pay12 slots code gate) (k0_pay13 slots code gate) (k0_pay14 slots code gate)
      (k0_pay15 code) = oneHot code gate := by
  subst h
  unfold k0_pay16 oneHot stacked
  dsimp only
  rfl

/-- The tokens and the experts' weighted results. -/
def stream (md : FVec Ideal S6x1024 .f32) (W : FVec Ideal S2048x1024 .bf16) (ys : Vec Ideal S16x128x1024 .bf16)
    (x : Vec Ideal S1024x1024 .f32) : FVec Ideal S1024x1024 .f32 :=
  addf (mulf (broadcast S1024x1024 (Scalar.ofBits .f32 0x3FD744FD#32)) x)
    (mulf (broadcastTo S1024x1024 (extractStridedSlice S1x1024 ![5, 0] md slices_S6x1024_o5_0_S1x1024) broadcasts_S1x1024_S1024x1024)
      (matmul (φ₁ := .bf16) (φ₂ := .bf16) dot_S2048x1024_S2048x1024_S1024x1024_0_0_1_1_n_n none W (shapeCast S2048x1024 ys shapeCasts_S16x128x1024_S2048x1024)
        (constant S1024x1024 .f32 0x00000000#32)))

/-- The means of the rows. -/
def means (v : FVec Ideal S1024x1024 .f32) : FVec Ideal S1024x1 .f32 :=
  divf (shapeCast S1024x1 (multiReduction .add [1] S1024 v 0x00000000#32 reduces_S1024x1024_S1024 (.inl rfl) rfl)
    shapeCasts_S1024_S1024x1) (broadcast S1024x1 (Scalar.ofBits .f32 0x44800000#32))

/-- The rows less their means. -/
def less (v : FVec Ideal S1024x1024 .f32) : FVec Ideal S1024x1024 .f32 :=
  subf v (broadcastTo S1024x1024 (means v) broadcasts_S1024x1_S1024x1024)

/-- The layer norm of centred rows. -/
def scaled (v : FVec Ideal S1024x1024 .f32) (s : FVec Ideal S1024x1 .f32) (g b : Vec Ideal S1x1x1024 .f32) :
    FVec Ideal S1024x1024 .f32 :=
  addf (mulf (mulf v (broadcastTo S1024x1024 (rsqrt (addf s (broadcast S1024x1 (Scalar.ofBits .f32 0x3727C5AC#32))))
      broadcasts_S1024x1_S1024x1024))
    (broadcastTo S1024x1024 (shapeCast S1x1024 g shapeCasts_S1x1x1024_S1x1024) broadcasts_S1x1024_S1024x1024))
    (broadcastTo S1024x1024 (shapeCast S1x1024 b shapeCasts_S1x1x1024_S1x1024) broadcasts_S1x1024_S1024x1024)

/-- A block's layer norm. -/
def normBlock (v : FVec Ideal S1024x1024 .f32) (g b : Vec Ideal S1x1x1024 .f32) : FVec Ideal S1024x1024 .f32 :=
  scaled (less v) (means (mulf (less v) (less v))) g b

/-- The block a point leaves. -/
theorem leaves (code gate : Vec Ideal S16x1024 .f32) (ys : Vec Ideal S16x128x1024 .bf16) (x : Vec Ideal S1024x1024 .f32)
    (md : Vec Ideal S1x1x6x1024 .f32) (g b : Vec Ideal S1x1x1024 .f32) :
    out0_7 code gate ys x md g b = normBlock (stream (k0_pay3 md) (oneHot code gate) ys x) g b := by
  unfold out0_7
  frame_out
  rw [oneHot_eq code gate (k0_pay17 code gate ys x md g b) rfl]
  rfl

theorem means_at (v : FVec Ideal S1024x1024 .f32) (r : Fin 1024) :
    means v (ix2 r 0) = Ideal.div (∑ j, v (ix2 r j)) (Ideal.ofBits .f32 0x44800000#32) := by
  pointwise [means]

theorem less_at (v : FVec Ideal S1024x1024 .f32) (r j : Fin 1024) :
    less v (ix2 r j) = centred (fun j => v (ix2 r j)) j := by
  pointwise [less, means_at, centred]

theorem scaled_at (v : FVec Ideal S1024x1024 .f32) (s : FVec Ideal S1024x1 .f32) (g b : Vec Ideal S1x1x1024 .f32)
    (r j : Fin 1024) : scaled v s g b (ix2 r j)
      = v (ix2 r j) * Ideal.rsqrt (s (ix2 r 0) + Ideal.ofBits .f32 0x3727C5AC#32) * g (ix3 0 0 j) + b (ix3 0 0 j) := by
  pointwise [scaled]

/-- A row's layer norm. -/
theorem normBlock_at (v : FVec Ideal S1024x1024 .f32) (g b : Vec Ideal S1x1x1024 .f32) (r j : Fin 1024) :
    normBlock v g b (ix2 r j) = normed (fun j => v (ix2 r j)) (fun j => g (ix3 0 0 j)) (fun j => b (ix3 0 0 j)) j := by
  have e : ∀ j, mulf (less v) (less v) (ix2 r j)
      = centred (fun j => v (ix2 r j)) j * centred (fun j => v (ix2 r j)) j := fun j => by rw [← less_at]; rfl
  rw [normBlock, scaled_at, means_at, less_at]
  simp only [e]
  rfl

/-- A slot of the results, as a row of the product. -/
theorem slot_at (ys : Vec Ideal S16x128x1024 .bf16) (e : Fin 16) (s : Fin 128) (j : Fin 1024) :
    shapeCast S2048x1024 ys shapeCasts_S16x128x1024_S2048x1024 (ix2 (finProdFinEquiv (e, s)) j) = ys (ix3 e s j) := by
  have hs := s.isLt
  have v : (finProdFinEquiv (e, s) : Fin (16 * 128)).val = s.val + 128 * e.val := rfl
  pointwise []
  refine congrArg ys ?_
  congr 1
  · exact Fin.ext (by show (finProdFinEquiv (e, s) : Fin (16 * 128)).val / 128 = e.val; omega)
  · exact Fin.ext (by show (finProdFinEquiv (e, s) : Fin (16 * 128)).val % 128 = s.val; omega)

/-- The row before the layer norm. -/
theorem stream_at (md : Vec Ideal S1x1x6x1024 .f32) (code gate : Vec Ideal S16x1024 .f32) (ys : Vec Ideal S16x128x1024 .bf16)
    (x : Vec Ideal S1024x1024 .f32) (r j : Fin 1024) :
    stream (k0_pay3 md) (oneHot code gate) ys x (ix2 r j)
      = residual (fun j => x (ix2 r j)) (fun j => md (ix4 0 0 5 j))
          (merged (fun e => code (ix2 e r)) (fun e => gate (ix2 e r)) fun e s j => ys (ix3 e s j)) j := by
  have w : ∀ (W : FVec Ideal S2048x1024 .bf16) (Y : FVec Ideal S2048x1024 .bf16),
      matmul (φ₁ := .bf16) (φ₂ := .bf16) dot_S2048x1024_S2048x1024_S1024x1024_0_0_1_1_n_n none W Y (constant S1024x1024 .f32 0x00000000#32) (ix2 r j)
        = ∑ k : Fin 2048, W (ix2 k r) * Y (ix2 k j) := fun W Y => by pointwise []
  have u : ∀ P : FVec Ideal S1024x1024 .f32, addf (mulf (broadcast S1024x1024 (Scalar.ofBits .f32 0x3FD744FD#32)) x)
      (mulf (broadcastTo S1024x1024 (extractStridedSlice S1x1024 ![5, 0] (k0_pay3 md) slices_S6x1024_o5_0_S1x1024)
        broadcasts_S1x1024_S1024x1024) P) (ix2 r j)
      = Ideal.ofBits .f32 0x3FD744FD#32 * x (ix2 r j) + md (ix4 0 0 5 j) * P (ix2 r j) := fun P => by pointwise [k0_pay3]
  rw [stream, u, w, by_expert (n := 128)]
  refine congrArg (fun y => _ + _ * y) (Finset.sum_congr rfl fun e _ => Finset.sum_congr rfl fun s _ => ?_)
  rw [oneHot_at]
  exact congrArg _ (slot_at ys e s j)

/-- A token's row of the block. -/
theorem block_at (md : Vec Ideal S1x1x6x1024 .f32) (code gate : Vec Ideal S16x1024 .f32) (ys : Vec Ideal S16x128x1024 .bf16)
    (x : Vec Ideal S1024x1024 .f32) (g b : Vec Ideal S1x1x1024 .f32) (r j : Fin 1024) :
    normBlock (stream (k0_pay3 md) (oneHot code gate) ys x) g b (ix2 r j)
      = joinedRow (fun e => code (ix2 e r)) (fun e => gate (ix2 e r)) (fun e s j => ys (ix3 e s j))
          (fun j => x (ix2 r j)) (fun j => md (ix4 0 0 5 j)) (fun j => g (ix3 0 0 j)) (fun j => b (ix3 0 0 j)) j := by
  rw [normBlock_at]
  simp only [stream_at]
  rfl

end Cert.CombineIdeal.Value

end
-- ==== Proof.JoinArray.lean ====
module

public import proofs.«01_k».proof.Proof.JoinTile

@[expose] public section

set_option maxRecDepth 16384

noncomputable section

open Idealize.ShloMosaic Idealize.ShloMosaic.TcCoe Idealize.SL.Sem
open Idealize.ShloMosaic.Pipeline (Dat)

/-! # The latent stream's last combination after the run -/

namespace Cert.CombineIdeal.Value

open Cert.CombineIdeal Cert.CombineIdeal.Gen Mixing

variable (m : (ℓ : Loc nD τ sig) → Buf (Elt Ideal) ℓ) (c : Dev nD)

/-- Grid point `t` works on latent sequence `t`: where each window's block sits. -/
theorem placed : ∀ t : Fin cfg0.N,
    win0_0.index t = ![0, t.val] ∧ win0_1.index t = ![0, t.val] ∧ win0_2.index t = ![0, t.val, 0]
    ∧ win0_3.index t = ![4 + t.val, 0] ∧ win0_4.index t = ![3, 1 + t.val, 0, 0]
    ∧ win0_5.index t = ![3, 0, 0] ∧ win0_6.index t = ![3, 0, 0] ∧ win0_7.index t = ![t.val, 0] :=
  (by decide +kernel : ∀ t : Fin grid0.N, _)

/-- What the run's arguments give, row by row. -/
abbrev latentFrom : Fin 4096 → Fin 1024 → EReal :=
  latentOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The layer norm's vectors, as the call's host code lays them out. -/
theorem entry_gain : V m c main_v0 = shapeCast S4x1x1024 (m ((c : Thread nD τ).loc main_arg5)) shapeCasts_S4x1024_S4x1x1024 := by
  entry_read
  rfl

theorem entry_bias : V m c main_v1 = shapeCast S4x1x1024 (m ((c : Thread nD τ).loc main_arg6)) shapeCasts_S4x1024_S4x1x1024 := by
  entry_read
  rfl

section Blocks

variable (t : Fin cfg0.N) (r j : Fin 1024) (e : Fin 16)

theorem code_block (h : t.val * 1024 + r.val < 4096) :
    iblk m c 0 t (ix2 e r) = m ((c : Thread nD τ).loc main_arg0) (ix2 e ⟨t.val * 1024 + r.val, h⟩) := by
  blk_point [iblk, V, placed t]

theorem gate_block (h : t.val * 1024 + r.val < 4096) :
    iblk m c 1 t (ix2 e r) = m ((c : Thread nD τ).loc main_arg1) (ix2 e ⟨t.val * 1024 + r.val, h⟩) := by
  blk_point [iblk, V, placed t]

theorem ys_block (s : Fin 128) (h : t.val * 128 + s.val < 512) :
    iblk m c 2 t (ix3 e s j) = m ((c : Thread nD τ).loc main_arg2) (ix3 e ⟨t.val * 128 + s.val, h⟩ j) := by
  blk_point [iblk, V, placed t]

theorem tokens_block (h : 4096 + (t.val * 1024 + r.val) < 8192) :
    iblk m c 3 t (ix2 r j) = m ((c : Thread nD τ).loc main_arg3) (ix2 ⟨4096 + (t.val * 1024 + r.val), h⟩ j) := by
  blk_point [iblk, V, placed t]

theorem modulation_block (h : 1 + t.val < 8) :
    iblk m c 4 t (ix4 0 0 5 j) = m ((c : Thread nD τ).loc main_arg4) (ix4 3 ⟨1 + t.val, h⟩ 5 j) := by
  blk_point [iblk, V, placed t]

theorem gain_block : iblk m c 5 t (ix3 0 0 j) = m ((c : Thread nD τ).loc main_arg5) (ix2 3 j) := by
  blk_point [iblk, entry_gain, placed t]

theorem bias_block : iblk m c 6 t (ix3 0 0 j) = m ((c : Thread nD τ).loc main_arg6) (ix2 3 j) := by
  blk_point [iblk, entry_bias, placed t]

/-- The specification's row, by the grid's point and the row of its block. -/
theorem latentFrom_at (h : t.val * 1024 + r.val < 4096) (h' : 4096 + (t.val * 1024 + r.val) < 8192)
    (hs : ∀ s : Fin 128, t.val * 128 + s.val < 512) (hb : 1 + t.val < 8) :
    latentFrom m c ⟨t.val * 1024 + r.val, h⟩ = joinedRow
      (fun e => m ((c : Thread nD τ).loc main_arg0) (ix2 e ⟨t.val * 1024 + r.val, h⟩))
      (fun e => m ((c : Thread nD τ).loc main_arg1) (ix2 e ⟨t.val * 1024 + r.val, h⟩))
      (fun e s j => m ((c : Thread nD τ).loc main_arg2) (ix3 e ⟨t.val * 128 + s.val, hs s⟩ j))
      (fun j => m ((c : Thread nD τ).loc main_arg3) (ix2 ⟨4096 + (t.val * 1024 + r.val), h'⟩ j))
      (fun j => m ((c : Thread nD τ).loc main_arg4) (ix4 3 ⟨1 + t.val, hb⟩ 5 j))
      (fun j => m ((c : Thread nD τ).loc main_arg5) (ix2 3 j)) (fun j => m ((c : Thread nD τ).loc main_arg6) (ix2 3 j)) := by
  have q : (t.val * 1024 + r.val) / 1024 = t.val := by omega
  unfold latentFrom latentOf
  simp only [q]

/-- What a point leaves, entry by entry. -/
theorem latent_block (h : t.val * 1024 + r.val < 4096) :
    out0_7 (iblk m c 0 t) (iblk m c 1 t) (iblk m c 2 t) (iblk m c 3 t) (iblk m c 4 t) (iblk m c 5 t) (iblk m c 6 t) (ix2 r j)
      = latentFrom m c ⟨t.val * 1024 + r.val, h⟩ j := by
  have h' : 4096 + (t.val * 1024 + r.val) < 8192 := by omega
  have hs : ∀ s : Fin 128, t.val * 128 + s.val < 512 := by omega
  have hb : 1 + t.val < 8 := by omega
  have e0 := fun e => code_block m c t r e h
  have e1 := fun e => gate_block m c t r e h
  have e2 := fun e s j => ys_block m c t j e s (hs s)
  have e3 := fun j => tokens_block m c t r j h'
  have e4 := fun j => modulation_block m c t j hb
  rw [leaves, block_at, latentFrom_at m c t r h h' hs hb]
  simp only [e0, e1, e2, e3, e4, gain_block, bias_block]

end Blocks

/-- The array the run leaves. -/
theorem latent_array : (dats m 0 c).arrAt 7 (cfgs 0).N = fun i => latentFrom m c (i 0) (i 1) := by
  refine (dats m 0 c).arrAt_eq_of_covers 7 _ (by decide +kernel) fun t _ y => ?_
  blk_simp
  rw [after0_7]
  have hN := lt_of_lt_of_eq t.isLt (show cfg0.N = 4 from N_0)
  obtain ⟨r, j, rfl⟩ : ∃ r j, y = ix2 r j := ⟨y 0, y 1, eq_ix2 y⟩
  have hr := r.isLt
  have h0 : t.val * 1024 + r.val < 4096 := by omega
  have e0 : (win0_7.blk t).view.emb (ix2 r j) 0 = (⟨t.val * 1024 + r.val, h0⟩ : Fin 4096) := Fin.ext (by blk_simp [placed t])
  have e1 : (win0_7.blk t).view.emb (ix2 r j) 1 = j := Fin.ext (by blk_simp [placed t])
  rw [e0, e1]
  exact latent_block m c t r j h0

end Cert.CombineIdeal.Value

end
-- ==== Proof.JoinRef.lean ====
module

public import proofs.«01_k».proof.Proof.JoinMath
public import proofs.«01_k».proof.Proof.Gen.CombineReferenceIdeal.Run

@[expose] public section

set_option maxRecDepth 16384

noncomputable section

open Idealize.ShloMosaic Idealize.ShloMosaic.TcCoe Idealize.SL.Sem

/-! # The reference of the latent stream's last combination -/

namespace Cert.CombineReferenceIdeal.Value

open Cert.CombineReferenceIdeal Cert.CombineReferenceIdeal.Gen Mixing

section Stages

variable (code gate : FVec Ideal S16x4096 .f32) (ys : FVec Ideal S16x512x1024 .bf16) (X : FVec Ideal S8192x1024 .f32)
  (M : FVec Ideal S4x8x6x1024 .f32) (gain bias : FVec Ideal S4x1024 .f32)

/-- A slot's number, counted from one. -/
def slots : FVec Ideal S128 .f32 :=
  addf (broadcastInDim S128 ![] bcast_S_S128 (constant S_ .f32 0x3F800000#32)) (sitofp .f32 (iotaInDim S128 32 0))

/-- The weights of every token in every slot. -/
def weights : FVec Ideal S16x4x1024x128 .f32 :=
  select (cmpf .oeq (broadcastInDim S16x4x1024x128 ![0, 1, 2, 3] bcast_S16x4x1024x1_S16x4x1024x128_0_1_2_3
      (shapeCast _ code shapeCasts_S16x4096_S16x4x1024x1))
    (broadcastInDim S16x4x1024x128 ![0, 1, 2, 3] bcast_S1x1x1x128_S16x4x1024x128_0_1_2_3
      (broadcastInDim S1x1x1x128 ![3] bcast_S128_S1x1x1x128_3 slots)))
    (broadcastInDim S16x4x1024x128 ![0, 1, 2, 3] bcast_S16x4x1024x1_S16x4x1024x128_0_1_2_3
      (shapeCast _ gate shapeCasts_S16x4096_S16x4x1024x1))
    (broadcastInDim S16x4x1024x128 ![] bcast_S_S16x4x1024x128 (sitofp .f32 (constantI S_ 32 0#32)))

/-- The weighted results of every expert. -/
def products (W : FVec Ideal S16x4x1024x128 .f32) : FVec Ideal S16x4x1024x1024 .f32 :=
  Host.dotGeneral dot_S16x4x1024x128_S16x4x128x1024_S16x4x1024x1024_3_2_2_3_01_01 none W
    (shapeCast _ (extf .f32 ys bitsLt_bf16_f32) shapeCasts_S16x512x1024_S16x4x128x1024)

/-- Their sum over the experts. -/
def total (P : FVec Ideal S16x4x1024x1024 .f32) : FVec Ideal S4x1024x1024 .f32 :=
  Host.reduceAdd P (constant S_ .f32 0x00000000#32) reducesTo_S16x4x1024x1024_S4x1024x1024_d0 h_S_

/-- The same number everywhere. -/
abbrev everyRow (b : BitVec 32) : FVec Ideal S4x1024x1 .f32 := broadcastInDim S4x1024x1 ![] bcast_S_S4x1024x1 (constant S_ .f32 b)

/-- The residual stream. -/
def stream (T : FVec Ideal S4x1024x1024 .f32) : FVec Ideal S4x1024x1024 .f32 :=
  addf (mulf (broadcastInDim S4x1024x1024 ![] bcast_S_S4x1024x1024 (constant S_ .f32 0x3FD744FD#32))
      (shapeCast _ (extractStridedSlice S4096x1024 ![4096, 0] X slices_S8192x1024_S4096x1024_4096_0)
        shapeCasts_S4096x1024_S4x1024x1024))
    (mulf (broadcastInDim S4x1024x1024 ![0, 1, 2] bcast_S4x1x1024_S4x1024x1024_0_1_2
      (broadcastInDim S4x1x1024 ![0, 2] bcast_S4x1024_S4x1x1024_0_2
        (shapeCast _ (extractStridedSlice S1x4x1x1024 ![3, 1, 5, 0] M slices_S4x8x6x1024_S1x4x1x1024_3_1_5_0)
          shapeCasts_S1x4x1x1024_S4x1024))) T)

/-- The means of the rows. -/
def means (x : FVec Ideal S4x1024x1024 .f32) : FVec Ideal S4x1024x1 .f32 :=
  Host.divf (broadcastInDim S4x1024x1 ![0, 1] bcast_S4x1024_S4x1024x1_0_1
    (Host.reduceAdd x (constant S_ .f32 0x00000000#32) reducesTo_S4x1024x1024_S4x1024_d2 h_S_)) (everyRow 0x44800000#32)

/-- The rows less their means. -/
def less (x : FVec Ideal S4x1024x1024 .f32) : FVec Ideal S4x1024x1024 .f32 :=
  subf x (broadcastInDim S4x1024x1024 ![0, 1, 2] bcast_S4x1024x1_S4x1024x1024_0_1_2 (means x))

/-- A layer's vector in every row. -/
def everywhere (g : FVec Ideal S4x1024 .f32) : FVec Ideal S4x1024x1024 .f32 :=
  broadcastInDim S4x1024x1024 ![0, 1, 2] bcast_S1x1x1024_S4x1024x1024_0_1_2 (broadcastInDim S1x1x1024 ![2] bcast_S1024_S1x1x1024_2
    (shapeCast _ (extractStridedSlice S1x1024 ![3, 0] g slices_S4x1024_S1x1024_3_0) shapeCasts_S1x1024_S1024))

/-- The layer norm, from the centred rows and their variances. -/
def scaled (x : FVec Ideal S4x1024x1024 .f32) (v : FVec Ideal S4x1024x1 .f32) : FVec Ideal S4x1024x1024 .f32 :=
  addf (mulf (mulf x (broadcastInDim S4x1024x1024 ![0, 1, 2] bcast_S4x1024x1_S4x1024x1024_0_1_2
    (Host.rsqrt (addf v (everyRow 0x3727C5AC#32))))) (everywhere gain)) (everywhere bias)

/-- The layer norm of an array. -/
def normArray (x : FVec Ideal S4x1024x1024 .f32) : FVec Ideal S4x1024x1024 .f32 :=
  scaled gain bias (less x) (means (mulf (less x) (less x)))

/-- The reference's result. -/
def result : FVec Ideal S4096x1024 .f32 :=
  shapeCast _ (normArray gain bias (stream X M (total (products ys (weights code gate))))) shapeCasts_S4x1024x1024_S4096x1024

end Stages

section Result

variable (m : (ℓ : Loc nD τ sig) → Buf (Elt Ideal) ℓ) (c : Dev nD)

set_option maxHeartbeats 1000000 in
theorem out0_eq : res_out0 m c = result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) := rfl

end Result

section Entries

variable (code gate : FVec Ideal S16x4096 .f32) (ys : FVec Ideal S16x512x1024 .bf16) (X : FVec Ideal S8192x1024 .f32)
  (M : FVec Ideal S4x8x6x1024 .f32) (gain bias : FVec Ideal S4x1024 .f32) (b : Fin 4) (n j : Fin 1024)

theorem slots_at (s : Fin 128) : slots (ix1 s) = (((s.val + 1 : ℕ) : ℝ) : EReal) := by
  have h := s.isLt
  have e : (BitVec.ofNat 32 s.val).toInt = (s.val : ℤ) := by
    rw [BitVec.toInt_eq_toNat_of_lt] <;> simp <;> omega
  pointwise [slots]
  show (1 : EReal) + ((((BitVec.ofNat 32 s.val).toInt : ℤ) : ℝ) : EReal) = _
  rw [e, Int.cast_natCast, Nat.cast_add, Nat.cast_one, EReal.coe_add, EReal.coe_one, add_comm]

theorem weights_at (e : Fin 16) (s : Fin 128) (h : b.val * 1024 + n.val < 4096) : weights code gate (ix4 e b n s)
    = share (code (ix2 e ⟨b.val * 1024 + n.val, h⟩)) (gate (ix2 e ⟨b.val * 1024 + n.val, h⟩)) s.val := by
  have z : FloatOps.sitofp (F := Ideal) .f32 (0#32) = 0 := by
    show ((((0#32).toInt : ℤ) : ℝ) : EReal) = 0
    simp
  pointwise [weights, slots_at, share]
  rw [z]

theorem products_at (W : FVec Ideal S16x4x1024x128 .f32) (e : Fin 16) (h : ∀ s : Fin 128, b.val * 128 + s.val < 512) :
    products ys W (ix4 e b n j) = ∑ s : Fin 128, W (ix4 e b n s) * ys (ix3 e ⟨b.val * 128 + s.val, h s⟩ j) := by
  pointwise [products]

theorem total_at (P : FVec Ideal S16x4x1024x1024 .f32) : total P (ix3 b n j) = ∑ e, P (ix4 e b n j) := by
  pointwise [total]

theorem stream_at (T : FVec Ideal S4x1024x1024 .f32) (h : 4096 + (b.val * 1024 + n.val) < 8192) (hb : 1 + b.val < 8) :
    stream X M T (ix3 b n j) = Mixing.residual (fun j => X (ix2 ⟨4096 + (b.val * 1024 + n.val), h⟩ j))
      (fun j => M (ix4 3 ⟨1 + b.val, hb⟩ 5 j)) (fun j => T (ix3 b n j)) j := by
  pointwise [stream]
  rfl

theorem means_at (x : FVec Ideal S4x1024x1024 .f32) :
    means x (ix3 b n 0) = Ideal.div (∑ j, x (ix3 b n j)) (Ideal.ofBits .f32 0x44800000#32) := by
  pointwise [means]

theorem less_at (x : FVec Ideal S4x1024x1024 .f32) : less x (ix3 b n j) = centred (fun j => x (ix3 b n j)) j := by
  pointwise [less, means_at, centred]

theorem scaled_at (x : FVec Ideal S4x1024x1024 .f32) (v : FVec Ideal S4x1024x1 .f32) : scaled gain bias x v (ix3 b n j)
    = x (ix3 b n j) * Ideal.rsqrt (v (ix3 b n 0) + Ideal.ofBits .f32 0x3727C5AC#32) * gain (ix2 3 j) + bias (ix2 3 j) := by
  pointwise [scaled, everywhere]

theorem normArray_at (x : FVec Ideal S4x1024x1024 .f32) : normArray gain bias x (ix3 b n j)
    = normed (fun j => x (ix3 b n j)) (fun j => gain (ix2 3 j)) (fun j => bias (ix2 3 j)) j := by
  have e : ∀ j, mulf (less x) (less x) (ix3 b n j)
      = centred (fun j => x (ix3 b n j)) j * centred (fun j => x (ix3 b n j)) j := fun j => by rw [← less_at]; rfl
  rw [normArray, scaled_at, means_at, less_at]
  simp only [e]
  rfl

/-- The experts' weighted results. -/
theorem merged_at (h : b.val * 1024 + n.val < 4096) (hs : ∀ s : Fin 128, b.val * 128 + s.val < 512) :
    total (products ys (weights code gate)) (ix3 b n j)
      = merged (fun e => code (ix2 e ⟨b.val * 1024 + n.val, h⟩)) (fun e => gate (ix2 e ⟨b.val * 1024 + n.val, h⟩))
          (fun e s j => ys (ix3 e ⟨b.val * 128 + s.val, hs s⟩ j)) j := by
  rw [total_at]
  refine Finset.sum_congr rfl fun e _ => ?_
  rw [products_at _ _ _ _ _ _ hs]
  exact Finset.sum_congr rfl fun s _ => by rw [weights_at _ _ _ _ _ _ h]

/-- A row of a sequence. -/
theorem normArray_stream (h : b.val * 1024 + n.val < 4096) (h' : 4096 + (b.val * 1024 + n.val) < 8192)
    (hs : ∀ s : Fin 128, b.val * 128 + s.val < 512) (hb : 1 + b.val < 8) :
    normArray gain bias (stream X M (total (products ys (weights code gate)))) (ix3 b n j)
      = joinedRow (fun e => code (ix2 e ⟨b.val * 1024 + n.val, h⟩)) (fun e => gate (ix2 e ⟨b.val * 1024 + n.val, h⟩))
          (fun e s j => ys (ix3 e ⟨b.val * 128 + s.val, hs s⟩ j)) (fun j => X (ix2 ⟨4096 + (b.val * 1024 + n.val), h'⟩ j))
          (fun j => M (ix4 3 ⟨1 + b.val, hb⟩ 5 j)) (fun j => gain (ix2 3 j)) (fun j => bias (ix2 3 j)) j := by
  have e : ∀ j, stream X M (total (products ys (weights code gate))) (ix3 b n j) = _ := fun j => stream_at X M b n j _ h' hb
  have w : ∀ j, _ := fun j => merged_at code gate ys b n j h hs
  rw [normArray_at, joinedRow]
  simp only [e, w]

/-- The specification's row, by its sequence and place. -/
theorem latentOf_at (h : b.val * 1024 + n.val < 4096) (h' : 4096 + (b.val * 1024 + n.val) < 8192)
    (hs : ∀ s : Fin 128, b.val * 128 + s.val < 512) (hb : 1 + b.val < 8) :
    latentOf code gate ys X M gain bias ⟨b.val * 1024 + n.val, h⟩
      = joinedRow (fun e => code (ix2 e ⟨b.val * 1024 + n.val, h⟩)) (fun e => gate (ix2 e ⟨b.val * 1024 + n.val, h⟩))
          (fun e s j => ys (ix3 e ⟨b.val * 128 + s.val, hs s⟩ j)) (fun j => X (ix2 ⟨4096 + (b.val * 1024 + n.val), h'⟩ j))
          (fun j => M (ix4 3 ⟨1 + b.val, hb⟩ 5 j)) (fun j => gain (ix2 3 j)) (fun j => bias (ix2 3 j)) := by
  have q : (b.val * 1024 + n.val) / 1024 = b.val := by omega
  unfold latentOf
  simp only [q]

/-- The result's rows, by sequence and place. -/
theorem reshaped_at (v : FVec Ideal S4x1024x1024 .f32) (h : b.val * 1024 + n.val < 4096) :
    shapeCast S4096x1024 v shapeCasts_S4x1024x1024_S4096x1024 (ix2 ⟨b.val * 1024 + n.val, h⟩ j) = v (ix3 b n j) := by
  pointwise []

/-- The reference's rows are the specification's. -/
theorem result_at (h : b.val * 1024 + n.val < 4096) : result code gate ys X M gain bias (ix2 ⟨b.val * 1024 + n.val, h⟩ j)
    = latentOf code gate ys X M gain bias ⟨b.val * 1024 + n.val, h⟩ j := by
  rw [latentOf_at code gate ys X M gain bias b n h (by omega) (by omega) (by omega)]
  exact (reshaped_at b n j _ h).trans (normArray_stream code gate ys X M gain bias b n j h _ _ _)

end Entries

end Cert.CombineReferenceIdeal.Value

end
-- ==== Proof.JoinClaim.lean ====
module

public import proofs.«01_k».proof.Defs
public import proofs.«01_k».proof.Proof.OutClaim
public import proofs.«01_k».proof.Proof.JoinArray
public import proofs.«01_k».proof.Proof.JoinRef
public import Idealize.ShloMosaic.Lib.Claim

@[expose] public section

set_option maxRecDepth 16384

noncomputable section

open Idealize.ShloMosaic Idealize.SL.Sem

/-! # The latent stream's last combination and its reference end with the same array -/

namespace Cert.CombineIdeal.Value

open Cert.CombineIdeal Cert.CombineIdeal.Gen Mixing

set_option maxHeartbeats 2000000 in
/-- The latent stream's last combination and its reference end with the same array. -/
theorem combine_algebraic : Cert.algebraic_CombineIdeal_CombineReferenceIdeal := by
  pair_intro
  · run_from Cert.CombineIdeal.Gen.run_main m g
  · run_from Cert.CombineReferenceIdeal.Value.run m' g'
    obtain ⟨h0, h1, h2, h3, h4, h5, h6⟩ := hagree c
    rw [latent_array m c]
    refine (Cert.CombineReferenceIdeal.Value.out0_eq m' c).trans
      (Cert.OutprojIdeal.Value.eq_of_entries _ (latentFrom m c) fun r j => ?_)
    obtain ⟨b, n, h, rfl⟩ : ∃ (b : Fin 4) (n : Fin 1024) (h : b.val * 1024 + n.val < 4096), r = ⟨b.val * 1024 + n.val, h⟩ := by
      have hr := r.isLt
      exact ⟨⟨r.val / 1024, by omega⟩, ⟨r.val % 1024, by omega⟩, by show r.val / 1024 * 1024 + r.val % 1024 < 4096; omega,
        Fin.ext (by show r.val = r.val / 1024 * 1024 + r.val % 1024; omega)⟩
    rw [Cert.CombineReferenceIdeal.Value.result_at, h0, h1, h2, h3, h4, h5, h6]

end Cert.CombineIdeal.Value

end
-- ==== Proof.MergeTile.lean ====
module

public import proofs.«01_k».proof.Proof.JoinMath
public import proofs.«01_k».proof.Proof.Gen.MergeIdeal.Frame

@[expose] public section

set_option maxRecDepth 16384

noncomputable section

open Idealize.ShloMosaic Idealize.ShloMosaic.TcCoe Idealize.SL.Sem

/-! # What the last combination computes for one context sequence -/

namespace Cert.MergeIdeal.Value

open Cert.MergeIdeal Cert.MergeIdeal.Gen Mixing

/-- One expert's weights, by slot and token. -/
def weights (slots : FVec Ideal S32x256 .f32) (code gate : FVec Ideal S1x256 .f32) : FVec Ideal S32x256 .bf16 :=
  truncf .bf16 (select (cmpf .oeq (broadcastTo S32x256 code broadcasts_S1x256_S32x256) slots)
    (broadcastTo S32x256 (shapeCast S1x256 gate shapeCasts_S1x256_S1x256) broadcasts_S1x256_S32x256)
    (broadcast S32x256 (Scalar.ofBits .f32 0x00000000#32))) bitsLt_bf16_f32

theorem has_row (e : Fin 16) : S16x256.Slices ![e.val, 0] S1x256 := ⟨rfl, fun a => by
  match a with
  | ⟨0, _⟩ => exact e.isLt
  | ⟨1, _⟩ => exact le_refl 256⟩

/-- An expert's row of a routing table. -/
def row (a : Vec Ideal S16x256 .f32) (e : Fin 16) : FVec Ideal S1x256 .f32 :=
  extractStridedSlice S1x256 ![e.val, 0] a (has_row e)

theorem fits : Shape.Concatenates (List.replicate 16 S32x256) S512x256 0 := by decide

/-- Sixteen experts' weights above one another. -/
def stacked (P : Fin 16 → FVec Ideal S32x256 .bf16) : FVec Ideal S512x256 .bf16 :=
  concatenate S512x256 0 [⟨S32x256, P 0⟩, ⟨S32x256, P 1⟩, ⟨S32x256, P 2⟩, ⟨S32x256, P 3⟩, ⟨S32x256, P 4⟩,
    ⟨S32x256, P 5⟩, ⟨S32x256, P 6⟩, ⟨S32x256, P 7⟩, ⟨S32x256, P 8⟩, ⟨S32x256, P 9⟩, ⟨S32x256, P 10⟩,
    ⟨S32x256, P 11⟩, ⟨S32x256, P 12⟩, ⟨S32x256, P 13⟩, ⟨S32x256, P 14⟩, ⟨S32x256, P 15⟩]
    concatenates_S32x256_S32x256_S32x256_S32x256_S32x256_S32x256_S32x256_S32x256_S32x256_S32x256_S32x256_S32x256_S32x256_S32x256_S32x256_S32x256_S512x256_d0

/-- The whole weights. -/
def oneHot (code gate : Vec Ideal S16x256 .f32) : FVec Ideal S512x256 .bf16 :=
  stacked fun e => weights (k0_pay2 (F := Ideal)) (row code e) (row gate e)

theorem slots_at (s : Fin 32) (r : Fin 256) : k0_pay2 (F := Ideal) (ix2 s r) = (((s.val + 1 : ℕ) : ℝ) : EReal) := by
  have e : (IntOp.addi (BitVec.ofNat 32 s.val) 1#32).toInt = ((s.val + 1 : ℕ) : ℤ) := by
    have h := s.isLt
    show (BitVec.ofNat 32 s.val + 1#32).toInt = _
    rw [BitVec.toInt_eq_toNat_of_lt] <;> simp [BitVec.toNat_add] <;> omega
  pointwise [k0_pay2]
  show ((((IntOp.addi (BitVec.ofNat 32 s.val) 1#32).toInt : ℤ) : ℝ) : EReal) = _
  rw [e, Int.cast_natCast]

theorem weights_at {slots : FVec Ideal S32x256 .f32} {code gate : FVec Ideal S1x256 .f32} {s : Fin 32} {r : Fin 256}
    (h : slots (ix2 s r) = (((s.val + 1 : ℕ) : ℝ) : EReal)) :
    weights slots code gate (ix2 s r) = share (code (ix2 0 r)) (gate (ix2 0 r)) s.val := by
  pointwise [weights, share, h]

theorem row_at (a : Vec Ideal S16x256 .f32) (e : Fin 16) (r : Fin 256) : row a e (ix2 0 r) = a (ix2 e r) := by
  pointwise [row]

theorem stacked_at (P : Fin 16 → FVec Ideal S32x256 .bf16) (e : Fin 16) (s : Fin 32) (r : Fin 256) :
    stacked P (ix2 (finProdFinEquiv (e, s)) r) = P e (ix2 s r) := by
  have hs := s.isLt
  have v : (finProdFinEquiv (e, s) : Fin (16 * 32)).val = s.val + 32 * e.val := rfl
  refine concatenate_ofFn_apply (t := S512x256) (0 : Fin 2) P fits rfl 32 rfl _ e ?_ _ ?_ fun b hb => ?_
  · show (finProdFinEquiv (e, s) : Fin (16 * 32)).val / 32 = e.val
    omega
  · show s.val = (finProdFinEquiv (e, s) : Fin (16 * 32)).val % 32
    omega
  · match b with
    | ⟨0, _⟩ => exact absurd rfl hb
    | ⟨1, _⟩ => rfl

/-- The weights of a token. -/
theorem oneHot_at (code gate : Vec Ideal S16x256 .f32) (e : Fin 16) (s : Fin 32) (r : Fin 256) :
    oneHot code gate (ix2 (finProdFinEquiv (e, s)) r) = share (code (ix2 e r)) (gate (ix2 e r)) s.val := by
  rw [oneHot, stacked_at, weights_at (slots_at s r), row_at, row_at]

/-- The tokens and the experts' weighted results. -/
def stream (md : FVec Ideal S6x1024 .f32) (W : FVec Ideal S512x256 .bf16) (ys : Vec Ideal S16x32x1024 .bf16)
    (x : Vec Ideal S256x1024 .f32) : FVec Ideal S256x1024 .f32 :=
  addf (mulf (broadcast S256x1024 (Scalar.ofBits .f32 0x3FD744FD#32)) x)
    (mulf (broadcastTo S256x1024 (extractStridedSlice S1x1024 ![5, 0] md slices_S6x1024_o5_0_S1x1024) broadcasts_S1x1024_S256x1024)
      (matmul (φ₁ := .bf16) (φ₂ := .bf16) dot_S512x256_S512x1024_S256x1024_0_0_1_1_n_n none W (shapeCast S512x1024 ys shapeCasts_S16x32x1024_S512x1024)
        (constant S256x1024 .f32 0x00000000#32)))

/-- The means of the rows. -/
def means (v : FVec Ideal S256x1024 .f32) : FVec Ideal S256x1 .f32 :=
  divf (shapeCast S256x1 (multiReduction .add [1] S256 v 0x00000000#32 reduces_S256x1024_S256 (.inl rfl) rfl)
    shapeCasts_S256_S256x1) (broadcast S256x1 (Scalar.ofBits .f32 0x44800000#32))

/-- The rows less their means. -/
def less (v : FVec Ideal S256x1024 .f32) : FVec Ideal S256x1024 .f32 :=
  subf v (broadcastTo S256x1024 (means v) broadcasts_S256x1_S256x1024)

/-- The layer norm of centred rows. -/
def scaled (v : FVec Ideal S256x1024 .f32) (s : FVec Ideal S256x1 .f32) (g b : Vec Ideal S1x1x1024 .f32) :
    FVec Ideal S256x1024 .f32 :=
  addf (mulf (mulf v (broadcastTo S256x1024 (rsqrt (addf s (broadcast S256x1 (Scalar.ofBits .f32 0x3727C5AC#32))))
      broadcasts_S256x1_S256x1024))
    (broadcastTo S256x1024 (shapeCast S1x1024 g shapeCasts_S1x1x1024_S1x1024) broadcasts_S1x1024_S256x1024))
    (broadcastTo S256x1024 (shapeCast S1x1024 b shapeCasts_S1x1x1024_S1x1024) broadcasts_S1x1024_S256x1024)

/-- A block's layer norm. -/
def normBlock (v : FVec Ideal S256x1024 .f32) (g b : Vec Ideal S1x1x1024 .f32) : FVec Ideal S256x1024 .f32 :=
  scaled (less v) (means (mulf (less v) (less v))) g b

theorem means_at (v : FVec Ideal S256x1024 .f32) (r : Fin 256) :
    means v (ix2 r 0) = Ideal.div (∑ j, v (ix2 r j)) (Ideal.ofBits .f32 0x44800000#32) := by
  pointwise [means]

theorem less_at (v : FVec Ideal S256x1024 .f32) (r : Fin 256) (j : Fin 1024) :
    less v (ix2 r j) = centred (fun j => v (ix2 r j)) j := by
  pointwise [less, means_at, centred]

theorem scaled_at (v : FVec Ideal S256x1024 .f32) (s : FVec Ideal S256x1 .f32) (g b : Vec Ideal S1x1x1024 .f32)
    (r : Fin 256) (j : Fin 1024) : scaled v s g b (ix2 r j)
      = v (ix2 r j) * Ideal.rsqrt (s (ix2 r 0) + Ideal.ofBits .f32 0x3727C5AC#32) * g (ix3 0 0 j) + b (ix3 0 0 j) := by
  pointwise [scaled]

/-- A row's layer norm. -/
theorem normBlock_at (v : FVec Ideal S256x1024 .f32) (g b : Vec Ideal S1x1x1024 .f32) (r : Fin 256) (j : Fin 1024) :
    normBlock v g b (ix2 r j) = normed (fun j => v (ix2 r j)) (fun j => g (ix3 0 0 j)) (fun j => b (ix3 0 0 j)) j := by
  have e : ∀ j, mulf (less v) (less v) (ix2 r j)
      = centred (fun j => v (ix2 r j)) j * centred (fun j => v (ix2 r j)) j := fun j => by rw [← less_at]; rfl
  rw [normBlock, scaled_at, means_at, less_at]
  simp only [e]
  rfl

/-- A slot of the results, as a row of the product. -/
theorem slot_at (ys : Vec Ideal S16x32x1024 .bf16) (e : Fin 16) (s : Fin 32) (j : Fin 1024) :
    shapeCast S512x1024 ys shapeCasts_S16x32x1024_S512x1024 (ix2 (finProdFinEquiv (e, s)) j) = ys (ix3 e s j) := by
  have hs := s.isLt
  have v : (finProdFinEquiv (e, s) : Fin (16 * 32)).val = s.val + 32 * e.val := rfl
  pointwise []
  refine congrArg ys ?_
  congr 1
  · exact Fin.ext (by show (finProdFinEquiv (e, s) : Fin (16 * 32)).val / 32 = e.val; omega)
  · exact Fin.ext (by show (finProdFinEquiv (e, s) : Fin (16 * 32)).val % 32 = s.val; omega)

/-- The row before the layer norm. -/
theorem stream_at (md : Vec Ideal S1x1x6x1024 .f32) (code gate : Vec Ideal S16x256 .f32) (ys : Vec Ideal S16x32x1024 .bf16)
    (x : Vec Ideal S256x1024 .f32) (r : Fin 256) (j : Fin 1024) :
    stream (k0_pay3 md) (oneHot code gate) ys x (ix2 r j)
      = residual (fun j => x (ix2 r j)) (fun j => md (ix4 0 0 5 j))
          (merged (fun e => code (ix2 e r)) (fun e => gate (ix2 e r)) fun e s j => ys (ix3 e s j)) j := by
  have w : ∀ (W : FVec Ideal S512x256 .bf16) (Y : FVec Ideal S512x1024 .bf16),
      matmul (φ₁ := .bf16) (φ₂ := .bf16) dot_S512x256_S512x1024_S256x1024_0_0_1_1_n_n none W Y (constant S256x1024 .f32 0x00000000#32) (ix2 r j)
        = ∑ k : Fin 512, W (ix2 k r) * Y (ix2 k j) := fun W Y => by pointwise []
  have u : ∀ P : FVec Ideal S256x1024 .f32, addf (mulf (broadcast S256x1024 (Scalar.ofBits .f32 0x3FD744FD#32)) x)
      (mulf (broadcastTo S256x1024 (extractStridedSlice S1x1024 ![5, 0] (k0_pay3 md) slices_S6x1024_o5_0_S1x1024)
        broadcasts_S1x1024_S256x1024) P) (ix2 r j)
      = Ideal.ofBits .f32 0x3FD744FD#32 * x (ix2 r j) + md (ix4 0 0 5 j) * P (ix2 r j) := fun P => by pointwise [k0_pay3]
  rw [stream, u, w, by_expert (n := 32)]
  refine congrArg (fun y => _ + _ * y) (Finset.sum_congr rfl fun e _ => Finset.sum_congr rfl fun s _ => ?_)
  rw [oneHot_at]
  exact congrArg _ (slot_at ys e s j)

/-- A token's row of the block. -/
theorem block_at (md : Vec Ideal S1x1x6x1024 .f32) (code gate : Vec Ideal S16x256 .f32) (ys : Vec Ideal S16x32x1024 .bf16)
    (x : Vec Ideal S256x1024 .f32) (g b : Vec Ideal S1x1x1024 .f32) (r : Fin 256) (j : Fin 1024) :
    normBlock (stream (k0_pay3 md) (oneHot code gate) ys x) g b (ix2 r j)
      = joinedRow (fun e => code (ix2 e r)) (fun e => gate (ix2 e r)) (fun e s j => ys (ix3 e s j))
          (fun j => x (ix2 r j)) (fun j => md (ix4 0 0 5 j)) (fun j => g (ix3 0 0 j)) (fun j => b (ix3 0 0 j)) j := by
  rw [normBlock_at]
  simp only [stream_at]
  rfl

end Cert.MergeIdeal.Value

end
-- ==== Proof.MergePieces.lean ====
module

public import proofs.«01_k».proof.Proof.MergeTile
public import Idealize.ShloMosaic.Lib.Pipeline.Value

@[expose] public section

set_option maxRecDepth 16384

noncomputable section

open Idealize.ShloMosaic Idealize.ShloMosaic.TcCoe Idealize.SL.Sem

/-! # The four context sequences of a block -/

namespace Cert.MergeIdeal.Value

open Cert.MergeIdeal Cert.MergeIdeal.Gen Mixing

theorem table_has (k : Fin 4) : ∀ a, (![0, 256 * k.val] : Fin 2 → ℕ) a + S16x256.size a ≤ S16x1024.size a := by
  revert k; decide

theorem results_have (k : Fin 4) : ∀ a, (![0, 32 * k.val, 0] : Fin 3 → ℕ) a + S16x32x1024.size a ≤ S16x128x1024.size a := by
  revert k; decide

theorem tokens_have (k : Fin 4) : ∀ a, (![256 * k.val, 0] : Fin 2 → ℕ) a + S256x1024.size a ≤ S1024x1024.size a := by
  revert k; decide

/-- Where sequence `k` of the block lies among its rows. -/
abbrev rowsOf (k : Fin 4) : Rect S1024x1024 := Rect.unit ![256 * k.val, 0] S256x1024.size (tokens_have k)

/-- Sequence `k`'s part of a routing table. -/
def tableOf (k : Fin 4) (a : Vec Ideal S16x1024 .f32) : Vec Ideal S16x256 .f32 :=
  View.ld a (Rect.unit ![0, 256 * k.val] S16x256.size (table_has k))

/-- Sequence `k`'s slots of the experts' results. -/
def resultsOf (k : Fin 4) (ys : Vec Ideal S16x128x1024 .bf16) : Vec Ideal S16x32x1024 .bf16 :=
  View.ld ys (Rect.unit ![0, 32 * k.val, 0] S16x32x1024.size (results_have k))

/-- Sequence `k`'s tokens. -/
def tokensOf (k : Fin 4) (x : Vec Ideal S1024x1024 .f32) : Vec Ideal S256x1024 .f32 := View.ld x (rowsOf k)

section Loads

variable (k : Fin 4) (r : Fin 256) (e : Fin 16) (s : Fin 32) (j : Fin 1024)

theorem tableOf_at (a : Vec Ideal S16x1024 .f32) (h : 256 * k.val + r.val < 1024) :
    tableOf k a (ix2 e r) = a (ix2 e ⟨256 * k.val + r.val, h⟩) := by
  pointwise [tableOf]

theorem resultsOf_at (ys : Vec Ideal S16x128x1024 .bf16) (h : 32 * k.val + s.val < 128) :
    resultsOf k ys (ix3 e s j) = ys (ix3 e ⟨32 * k.val + s.val, h⟩ j) := by
  pointwise [resultsOf]

theorem tokensOf_at (x : Vec Ideal S1024x1024 .f32) (h : 256 * k.val + r.val < 1024) :
    tokensOf k x (ix2 r j) = x (ix2 ⟨256 * k.val + r.val, h⟩ j) := by
  pointwise [tokensOf]

theorem modulation_at (md : Vec Ideal S1x1x6x1024 .f32) : View.ld md r0_0 (ix4 0 0 5 j) = md (ix4 0 0 5 j) := by
  pointwise []

theorem vector_at (g : Vec Ideal S1x1x1024 .f32) : View.ld g r0_4 (ix3 0 0 j) = g (ix3 0 0 j) := by
  pointwise []

end Loads

section Pieces

variable (code gate : Vec Ideal S16x1024 .f32) (ys : Vec Ideal S16x128x1024 .bf16) (x : Vec Ideal S1024x1024 .f32)
  (md : Vec Ideal S1x1x6x1024 .f32) (g b : Vec Ideal S1x1x1024 .f32)

/-- What sequence `k` of the block becomes. -/
def sequence (k : Fin 4) : FVec Ideal S256x1024 .f32 :=
  normBlock (stream (k0_pay3 (View.ld md r0_0)) (oneHot (tableOf k code) (tableOf k gate)) (resultsOf k ys) (tokensOf k x))
    (View.ld g r0_4) (View.ld b r0_4)

/-- The block a point leaves: four sequences' rows. -/
theorem leaves : out0_7 code gate ys x md g b = View.canon [⟨rowsOf 3, sequence code gate ys x md g b 3⟩,
    ⟨rowsOf 2, sequence code gate ys x md g b 2⟩, ⟨rowsOf 1, sequence code gate ys x md g b 1⟩,
    ⟨rowsOf 0, sequence code gate ys x md g b 0⟩] := by
  rfl

/-- A row of sequence `k`. -/
theorem sequence_at (k : Fin 4) (r : Fin 256) (j : Fin 1024) (h : 256 * k.val + r.val < 1024) (hs : ∀ s : Fin 32, 32 * k.val + s.val < 128) :
    sequence code gate ys x md g b k (ix2 r j) = joinedRow (fun e => code (ix2 e ⟨256 * k.val + r.val, h⟩))
      (fun e => gate (ix2 e ⟨256 * k.val + r.val, h⟩)) (fun e s j => ys (ix3 e ⟨32 * k.val + s.val, hs s⟩ j))
      (fun j => x (ix2 ⟨256 * k.val + r.val, h⟩ j)) (fun j => md (ix4 0 0 5 j)) (fun j => g (ix3 0 0 j))
      (fun j => b (ix3 0 0 j)) j := by
  have e0 := fun e => tableOf_at k r e code h
  have e1 := fun e => tableOf_at k r e gate h
  have e2 := fun e s j => resultsOf_at k e s j ys (hs s)
  have e3 := fun j => tokensOf_at k r j x h
  rw [sequence, block_at]
  simp only [e0, e1, e2, e3]
  exact congrFun (congr (congr (congrArg (joinedRow _ _ _ _) (funext fun j => modulation_at j md))
    (funext fun j => vector_at j g)) (funext fun j => vector_at j b)) j

/-- The block's rows, where they agree with `G` on each sequence. -/
theorem block_of_sequences (G : Vec Ideal S1024x1024 .f32)
    (h : ∀ (k : Fin 4) (r : Fin 256) (j : Fin 1024), sequence code gate ys x md g b k (ix2 r j) = G ((rowsOf k).emb (ix2 r j))) :
    out0_7 code gate ys x md g b = G := by
  have p : ∀ (k : Fin 4) (y : (rowsOf k).shape.Idx), sequence code gate ys x md g b k y = G ((rowsOf k).emb y) := fun k y => by
    obtain ⟨r, j, rfl⟩ : ∃ r j, y = ix2 r j := ⟨y 0, y 1, eq_ix2 y⟩
    exact h k r j
  rw [leaves]
  funext y
  refine View.canon_apply_of_pieces (Val := Elt Ideal) (e := .f32) G _ ?_ y (cover0_7 _ _ _ _ y)
  intro q hq
  simp only [List.mem_cons, List.not_mem_nil, or_false] at hq
  rcases hq with rfl | rfl | rfl | rfl
  · exact p 3
  · exact p 2
  · exact p 1
  · exact p 0

end Pieces

end Cert.MergeIdeal.Value

end
-- ==== Proof.MergeArray.lean ====
module

public import proofs.«01_k».proof.Proof.MergePieces

@[expose] public section

set_option maxRecDepth 16384

noncomputable section

open Idealize.ShloMosaic Idealize.ShloMosaic.TcCoe Idealize.SL.Sem
open Idealize.ShloMosaic.Pipeline (Dat)

/-! # The context stream's last combination after the run -/

namespace Cert.MergeIdeal.Value

open Cert.MergeIdeal Cert.MergeIdeal.Gen Mixing

variable (m : (ℓ : Loc nD τ sig) → Buf (Elt Ideal) ℓ) (c : Dev nD)

/-- Grid point `t` works on context sequences `4t` to `4t + 3`: where each window's block sits. -/
theorem placed : ∀ t : Fin cfg0.N,
    win0_0.index t = ![0, t.val] ∧ win0_1.index t = ![0, t.val] ∧ win0_2.index t = ![0, t.val, 0]
    ∧ win0_3.index t = ![t.val, 0] ∧ win0_4.index t = ![3, 0, 0, 0]
    ∧ win0_5.index t = ![3, 0, 0] ∧ win0_6.index t = ![3, 0, 0] ∧ win0_7.index t = ![t.val, 0] :=
  (by decide +kernel : ∀ t : Fin grid0.N, _)

/-- What the run's arguments give, row by row. -/
abbrev contextFrom : Fin 4096 → Fin 1024 → EReal :=
  contextOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The layer norm's vectors, as the call's host code lays them out. -/
theorem entry_gain : V m c main_v0 = shapeCast S4x1x1024 (m ((c : Thread nD τ).loc main_arg5)) shapeCasts_S4x1024_S4x1x1024 := by
  entry_read
  rfl

theorem entry_bias : V m c main_v1 = shapeCast S4x1x1024 (m ((c : Thread nD τ).loc main_arg6)) shapeCasts_S4x1024_S4x1x1024 := by
  entry_read
  rfl

section Blocks

variable (t : Fin cfg0.N) (r j : Fin 1024) (e : Fin 16)

theorem code_block (h : t.val * 1024 + r.val < 4096) :
    iblk m c 0 t (ix2 e r) = m ((c : Thread nD τ).loc main_arg0) (ix2 e ⟨t.val * 1024 + r.val, h⟩) := by
  blk_point [iblk, V, placed t]

theorem gate_block (h : t.val * 1024 + r.val < 4096) :
    iblk m c 1 t (ix2 e r) = m ((c : Thread nD τ).loc main_arg1) (ix2 e ⟨t.val * 1024 + r.val, h⟩) := by
  blk_point [iblk, V, placed t]

theorem ys_block (s : Fin 128) (h : t.val * 128 + s.val < 512) :
    iblk m c 2 t (ix3 e s j) = m ((c : Thread nD τ).loc main_arg2) (ix3 e ⟨t.val * 128 + s.val, h⟩ j) := by
  blk_point [iblk, V, placed t]

theorem tokens_block (h : t.val * 1024 + r.val < 8192) :
    iblk m c 3 t (ix2 r j) = m ((c : Thread nD τ).loc main_arg3) (ix2 ⟨t.val * 1024 + r.val, h⟩ j) := by
  blk_point [iblk, V, placed t]

theorem modulation_block :
    iblk m c 4 t (ix4 0 0 5 j) = m ((c : Thread nD τ).loc main_arg4) (ix4 3 0 5 j) := by
  blk_point [iblk, V, placed t]

theorem gain_block : iblk m c 5 t (ix3 0 0 j) = m ((c : Thread nD τ).loc main_arg5) (ix2 3 j) := by
  blk_point [iblk, entry_gain, placed t]

theorem bias_block : iblk m c 6 t (ix3 0 0 j) = m ((c : Thread nD τ).loc main_arg6) (ix2 3 j) := by
  blk_point [iblk, entry_bias, placed t]

end Blocks

section Rows

variable (t : Fin cfg0.N) (k : Fin 4) (r : Fin 256) (j : Fin 1024)

/-- The specification's row, by the grid's point, the sequence and the row in it. -/
theorem contextFrom_at (h : t.val * 1024 + (256 * k.val + r.val) < 4096) (h' : t.val * 1024 + (256 * k.val + r.val) < 8192)
    (hs : ∀ s : Fin 32, t.val * 128 + (32 * k.val + s.val) < 512) :
    contextFrom m c ⟨t.val * 1024 + (256 * k.val + r.val), h⟩ = joinedRow
      (fun e => m ((c : Thread nD τ).loc main_arg0) (ix2 e ⟨t.val * 1024 + (256 * k.val + r.val), h⟩))
      (fun e => m ((c : Thread nD τ).loc main_arg1) (ix2 e ⟨t.val * 1024 + (256 * k.val + r.val), h⟩))
      (fun e s j => m ((c : Thread nD τ).loc main_arg2) (ix3 e ⟨t.val * 128 + (32 * k.val + s.val), hs s⟩ j))
      (fun j => m ((c : Thread nD τ).loc main_arg3) (ix2 ⟨t.val * 1024 + (256 * k.val + r.val), h'⟩ j))
      (fun j => m ((c : Thread nD τ).loc main_arg4) (ix4 3 0 5 j))
      (fun j => m ((c : Thread nD τ).loc main_arg5) (ix2 3 j)) (fun j => m ((c : Thread nD τ).loc main_arg6) (ix2 3 j)) := by
  have q : ∀ s : ℕ, (t.val * 1024 + (256 * k.val + r.val)) / 256 * 32 + s = t.val * 128 + (32 * k.val + s) := fun s => by
    have hr := r.isLt
    omega
  unfold contextFrom contextOf
  simp only [q]

/-- What a point leaves of a sequence, entry by entry. -/
theorem sequence_block (h : t.val * 1024 + (256 * k.val + r.val) < 4096) :
    sequence (iblk m c 0 t) (iblk m c 1 t) (iblk m c 2 t) (iblk m c 3 t) (iblk m c 4 t) (iblk m c 5 t) (iblk m c 6 t) k (ix2 r j)
      = contextFrom m c ⟨t.val * 1024 + (256 * k.val + r.val), h⟩ j := by
  have hN := lt_of_lt_of_eq t.isLt (show cfg0.N = 4 from N_0)
  have hk := k.isLt
  have hr := r.isLt
  have h' : t.val * 1024 + (256 * k.val + r.val) < 8192 := by omega
  have hs : ∀ s : Fin 32, t.val * 128 + (32 * k.val + s.val) < 512 := by omega
  have w : 256 * k.val + r.val < 1024 := by omega
  have ws : ∀ s : Fin 32, 32 * k.val + s.val < 128 := by omega
  have e0 := fun e => code_block m c t ⟨256 * k.val + r.val, w⟩ e h
  have e1 := fun e => gate_block m c t ⟨256 * k.val + r.val, w⟩ e h
  have e2 := fun e s j => ys_block m c t j e ⟨32 * k.val + Fin.val s, ws s⟩ (hs s)
  have e3 := fun j => tokens_block m c t ⟨256 * k.val + r.val, w⟩ j h'
  rw [sequence_at _ _ _ _ _ _ _ k r j w ws, contextFrom_at m c t k r h h' hs]
  simp only [e0, e1, e2, e3, modulation_block, gain_block, bias_block]

end Rows

/-- A row of the result, as a row of a point's block. -/
theorem row_lt (t : Fin cfg0.N) (r : Fin 1024) : t.val * 1024 + r.val < 4096 := by
  have hN := lt_of_lt_of_eq t.isLt (show cfg0.N = 4 from N_0)
  omega

/-- The block a point leaves. -/
theorem context_block (t : Fin cfg0.N) :
    out0_7 (iblk m c 0 t) (iblk m c 1 t) (iblk m c 2 t) (iblk m c 3 t) (iblk m c 4 t) (iblk m c 5 t) (iblk m c 6 t)
      = fun i => contextFrom m c ⟨t.val * 1024 + (i 0).val, row_lt t (i 0)⟩ (i 1) := by
  refine block_of_sequences _ _ _ _ _ _ _ _ fun k r j => ?_
  have hk := k.isLt
  have hr := r.isLt
  have w : 256 * k.val + r.val < 1024 := by omega
  have q0 : (rowsOf k).emb (ix2 r j) 0 = (⟨256 * k.val + r.val, w⟩ : Fin 1024) := Fin.ext (by blk_simp)
  have q1 : (rowsOf k).emb (ix2 r j) 1 = j := Fin.ext (by blk_simp)
  rw [sequence_block m c t k r j (row_lt t ⟨256 * k.val + r.val, w⟩)]
  simp only [q0, q1]

/-- The array the run leaves. -/
theorem context_array : (dats m 0 c).arrAt 7 (cfgs 0).N = fun i => contextFrom m c (i 0) (i 1) := by
  refine (dats m 0 c).arrAt_eq_of_covers 7 _ (by decide +kernel) fun t _ y => ?_
  blk_simp
  rw [after0_7]
  have hN := lt_of_lt_of_eq t.isLt (show cfg0.N = 4 from N_0)
  obtain ⟨r, j, rfl⟩ : ∃ r j, y = ix2 r j := ⟨y 0, y 1, eq_ix2 y⟩
  have hr := r.isLt
  have h0 : t.val * 1024 + r.val < 4096 := by omega
  have e0 : (win0_7.blk t).view.emb (ix2 r j) 0 = (⟨t.val * 1024 + r.val, h0⟩ : Fin 4096) := Fin.ext (by blk_simp [placed t])
  have e1 : (win0_7.blk t).view.emb (ix2 r j) 1 = j := Fin.ext (by blk_simp [placed t])
  rw [e0, e1]
  exact congrFun (context_block m c t) (ix2 r j)

end Cert.MergeIdeal.Value

end
-- ==== Proof.MergeRef.lean ====
module

public import proofs.«01_k».proof.Proof.JoinMath
public import proofs.«01_k».proof.Proof.Gen.MergeReferenceIdeal.Run

@[expose] public section

set_option maxRecDepth 16384

noncomputable section

open Idealize.ShloMosaic Idealize.ShloMosaic.TcCoe Idealize.SL.Sem

/-! # The reference of the context stream's last combination -/

namespace Cert.MergeReferenceIdeal.Value

open Cert.MergeReferenceIdeal Cert.MergeReferenceIdeal.Gen Mixing

section Stages

variable (code gate : FVec Ideal S16x4096 .f32) (ys : FVec Ideal S16x512x1024 .bf16) (X : FVec Ideal S8192x1024 .f32)
  (M : FVec Ideal S4x8x6x1024 .f32) (gain bias : FVec Ideal S4x1024 .f32)

/-- A slot's number, counted from one. -/
def slots : FVec Ideal S32 .f32 :=
  addf (broadcastInDim S32 ![] bcast_S_S32 (constant S_ .f32 0x3F800000#32)) (sitofp .f32 (iotaInDim S32 32 0))

/-- The weights of every token in every slot. -/
def weights : FVec Ideal S16x16x256x32 .f32 :=
  select (cmpf .oeq (broadcastInDim S16x16x256x32 ![0, 1, 2, 3] bcast_S16x16x256x1_S16x16x256x32_0_1_2_3
      (shapeCast _ code shapeCasts_S16x4096_S16x16x256x1))
    (broadcastInDim S16x16x256x32 ![0, 1, 2, 3] bcast_S1x1x1x32_S16x16x256x32_0_1_2_3
      (broadcastInDim S1x1x1x32 ![3] bcast_S32_S1x1x1x32_3 slots)))
    (broadcastInDim S16x16x256x32 ![0, 1, 2, 3] bcast_S16x16x256x1_S16x16x256x32_0_1_2_3
      (shapeCast _ gate shapeCasts_S16x4096_S16x16x256x1))
    (broadcastInDim S16x16x256x32 ![] bcast_S_S16x16x256x32 (sitofp .f32 (constantI S_ 32 0#32)))

/-- The weighted results of every expert. -/
def products (W : FVec Ideal S16x16x256x32 .f32) : FVec Ideal S16x16x256x1024 .f32 :=
  Host.dotGeneral dot_S16x16x256x32_S16x16x32x1024_S16x16x256x1024_3_2_2_3_01_01 none W
    (shapeCast _ (extf .f32 ys bitsLt_bf16_f32) shapeCasts_S16x512x1024_S16x16x32x1024)

/-- Their sum over the experts. -/
def total (P : FVec Ideal S16x16x256x1024 .f32) : FVec Ideal S16x256x1024 .f32 :=
  Host.reduceAdd P (constant S_ .f32 0x00000000#32) reducesTo_S16x16x256x1024_S16x256x1024_d0 h_S_

/-- The same number everywhere. -/
abbrev everyRow (b : BitVec 32) : FVec Ideal S16x256x1 .f32 := broadcastInDim S16x256x1 ![] bcast_S_S16x256x1 (constant S_ .f32 b)

/-- The residual stream. -/
def stream (T : FVec Ideal S16x256x1024 .f32) : FVec Ideal S16x256x1024 .f32 :=
  addf (mulf (broadcastInDim S16x256x1024 ![] bcast_S_S16x256x1024 (constant S_ .f32 0x3FD744FD#32))
      (shapeCast _ (extractStridedSlice S4096x1024 ![0, 0] X slices_S8192x1024_S4096x1024_0_0)
        shapeCasts_S4096x1024_S16x256x1024))
    (mulf (broadcastInDim S16x256x1024 ![0, 1, 2] bcast_S1x1x1024_S16x256x1024_0_1_2
      (broadcastInDim S1x1x1024 ![2] bcast_S1024_S1x1x1024_2
        (shapeCast _ (extractStridedSlice S1x1x1x1024 ![3, 0, 5, 0] M slices_S4x8x6x1024_S1x1x1x1024_3_0_5_0)
          shapeCasts_S1x1x1x1024_S1024))) T)

/-- The means of the rows. -/
def means (x : FVec Ideal S16x256x1024 .f32) : FVec Ideal S16x256x1 .f32 :=
  Host.divf (broadcastInDim S16x256x1 ![0, 1] bcast_S16x256_S16x256x1_0_1
    (Host.reduceAdd x (constant S_ .f32 0x00000000#32) reducesTo_S16x256x1024_S16x256_d2 h_S_)) (everyRow 0x44800000#32)

/-- The rows less their means. -/
def less (x : FVec Ideal S16x256x1024 .f32) : FVec Ideal S16x256x1024 .f32 :=
  subf x (broadcastInDim S16x256x1024 ![0, 1, 2] bcast_S16x256x1_S16x256x1024_0_1_2 (means x))

/-- A layer's vector in every row. -/
def everywhere (g : FVec Ideal S4x1024 .f32) : FVec Ideal S16x256x1024 .f32 :=
  broadcastInDim S16x256x1024 ![0, 1, 2] bcast_S1x1x1024_S16x256x1024_0_1_2 (broadcastInDim S1x1x1024 ![2] bcast_S1024_S1x1x1024_2
    (shapeCast _ (extractStridedSlice S1x1024 ![3, 0] g slices_S4x1024_S1x1024_3_0) shapeCasts_S1x1024_S1024))

/-- The layer norm, from the centred rows and their variances. -/
def scaled (x : FVec Ideal S16x256x1024 .f32) (v : FVec Ideal S16x256x1 .f32) : FVec Ideal S16x256x1024 .f32 :=
  addf (mulf (mulf x (broadcastInDim S16x256x1024 ![0, 1, 2] bcast_S16x256x1_S16x256x1024_0_1_2
    (Host.rsqrt (addf v (everyRow 0x3727C5AC#32))))) (everywhere gain)) (everywhere bias)

/-- The layer norm of an array. -/
def normArray (x : FVec Ideal S16x256x1024 .f32) : FVec Ideal S16x256x1024 .f32 :=
  scaled gain bias (less x) (means (mulf (less x) (less x)))

/-- The reference's result. -/
def result : FVec Ideal S4096x1024 .f32 :=
  shapeCast _ (normArray gain bias (stream X M (total (products ys (weights code gate))))) shapeCasts_S16x256x1024_S4096x1024

end Stages

section Result

variable (m : (ℓ : Loc nD τ sig) → Buf (Elt Ideal) ℓ) (c : Dev nD)

set_option maxHeartbeats 1000000 in
theorem out0_eq : res_out0 m c = result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) := rfl

end Result

section Entries

variable (code gate : FVec Ideal S16x4096 .f32) (ys : FVec Ideal S16x512x1024 .bf16) (X : FVec Ideal S8192x1024 .f32)
  (M : FVec Ideal S4x8x6x1024 .f32) (gain bias : FVec Ideal S4x1024 .f32) (b : Fin 16) (n : Fin 256) (j : Fin 1024)

theorem slots_at (s : Fin 32) : slots (ix1 s) = (((s.val + 1 : ℕ) : ℝ) : EReal) := by
  have h := s.isLt
  have e : (BitVec.ofNat 32 s.val).toInt = (s.val : ℤ) := by
    rw [BitVec.toInt_eq_toNat_of_lt] <;> simp <;> omega
  pointwise [slots]
  show (1 : EReal) + ((((BitVec.ofNat 32 s.val).toInt : ℤ) : ℝ) : EReal) = _
  rw [e, Int.cast_natCast, Nat.cast_add, Nat.cast_one, EReal.coe_add, EReal.coe_one, add_comm]

theorem weights_at (e : Fin 16) (s : Fin 32) (h : b.val * 256 + n.val < 4096) : weights code gate (ix4 e b n s)
    = share (code (ix2 e ⟨b.val * 256 + n.val, h⟩)) (gate (ix2 e ⟨b.val * 256 + n.val, h⟩)) s.val := by
  have z : FloatOps.sitofp (F := Ideal) .f32 (0#32) = 0 := by
    show ((((0#32).toInt : ℤ) : ℝ) : EReal) = 0
    simp
  pointwise [weights, slots_at, share]
  rw [z]

theorem products_at (W : FVec Ideal S16x16x256x32 .f32) (e : Fin 16) (h : ∀ s : Fin 32, b.val * 32 + s.val < 512) :
    products ys W (ix4 e b n j) = ∑ s : Fin 32, W (ix4 e b n s) * ys (ix3 e ⟨b.val * 32 + s.val, h s⟩ j) := by
  pointwise [products]

theorem total_at (P : FVec Ideal S16x16x256x1024 .f32) : total P (ix3 b n j) = ∑ e, P (ix4 e b n j) := by
  pointwise [total]

theorem stream_at (T : FVec Ideal S16x256x1024 .f32) (h : b.val * 256 + n.val < 8192) :
    stream X M T (ix3 b n j) = Mixing.residual (fun j => X (ix2 ⟨b.val * 256 + n.val, h⟩ j))
      (fun j => M (ix4 3 0 5 j)) (fun j => T (ix3 b n j)) j := by
  pointwise [stream]
  rfl

theorem means_at (x : FVec Ideal S16x256x1024 .f32) :
    means x (ix3 b n 0) = Ideal.div (∑ j, x (ix3 b n j)) (Ideal.ofBits .f32 0x44800000#32) := by
  pointwise [means]

theorem less_at (x : FVec Ideal S16x256x1024 .f32) : less x (ix3 b n j) = centred (fun j => x (ix3 b n j)) j := by
  pointwise [less, means_at, centred]

theorem scaled_at (x : FVec Ideal S16x256x1024 .f32) (v : FVec Ideal S16x256x1 .f32) : scaled gain bias x v (ix3 b n j)
    = x (ix3 b n j) * Ideal.rsqrt (v (ix3 b n 0) + Ideal.ofBits .f32 0x3727C5AC#32) * gain (ix2 3 j) + bias (ix2 3 j) := by
  pointwise [scaled, everywhere]

theorem normArray_at (x : FVec Ideal S16x256x1024 .f32) : normArray gain bias x (ix3 b n j)
    = normed (fun j => x (ix3 b n j)) (fun j => gain (ix2 3 j)) (fun j => bias (ix2 3 j)) j := by
  have e : ∀ j, mulf (less x) (less x) (ix3 b n j)
      = centred (fun j => x (ix3 b n j)) j * centred (fun j => x (ix3 b n j)) j := fun j => by rw [← less_at]; rfl
  rw [normArray, scaled_at, means_at, less_at]
  simp only [e]
  rfl

/-- The experts' weighted results. -/
theorem merged_at (h : b.val * 256 + n.val < 4096) (hs : ∀ s : Fin 32, b.val * 32 + s.val < 512) :
    total (products ys (weights code gate)) (ix3 b n j)
      = merged (fun e => code (ix2 e ⟨b.val * 256 + n.val, h⟩)) (fun e => gate (ix2 e ⟨b.val * 256 + n.val, h⟩))
          (fun e s j => ys (ix3 e ⟨b.val * 32 + s.val, hs s⟩ j)) j := by
  rw [total_at]
  refine Finset.sum_congr rfl fun e _ => ?_
  rw [products_at _ _ _ _ _ _ hs]
  exact Finset.sum_congr rfl fun s _ => by rw [weights_at _ _ _ _ _ _ h]

/-- A row of a sequence. -/
theorem normArray_stream (h : b.val * 256 + n.val < 4096) (h' : b.val * 256 + n.val < 8192)
    (hs : ∀ s : Fin 32, b.val * 32 + s.val < 512) :
    normArray gain bias (stream X M (total (products ys (weights code gate)))) (ix3 b n j)
      = joinedRow (fun e => code (ix2 e ⟨b.val * 256 + n.val, h⟩)) (fun e => gate (ix2 e ⟨b.val * 256 + n.val, h⟩))
          (fun e s j => ys (ix3 e ⟨b.val * 32 + s.val, hs s⟩ j)) (fun j => X (ix2 ⟨b.val * 256 + n.val, h'⟩ j))
          (fun j => M (ix4 3 0 5 j)) (fun j => gain (ix2 3 j)) (fun j => bias (ix2 3 j)) j := by
  have e : ∀ j, stream X M (total (products ys (weights code gate))) (ix3 b n j) = _ := fun j => stream_at X M b n j _ h'
  have w : ∀ j, _ := fun j => merged_at code gate ys b n j h hs
  rw [normArray_at, joinedRow]
  simp only [e, w]

/-- The specification's row, by its sequence and place. -/
theorem contextOf_at (h : b.val * 256 + n.val < 4096) (h' : b.val * 256 + n.val < 8192)
    (hs : ∀ s : Fin 32, b.val * 32 + s.val < 512) :
    contextOf code gate ys X M gain bias ⟨b.val * 256 + n.val, h⟩
      = joinedRow (fun e => code (ix2 e ⟨b.val * 256 + n.val, h⟩)) (fun e => gate (ix2 e ⟨b.val * 256 + n.val, h⟩))
          (fun e s j => ys (ix3 e ⟨b.val * 32 + s.val, hs s⟩ j)) (fun j => X (ix2 ⟨b.val * 256 + n.val, h'⟩ j))
          (fun j => M (ix4 3 0 5 j)) (fun j => gain (ix2 3 j)) (fun j => bias (ix2 3 j)) := by
  have q : (b.val * 256 + n.val) / 256 = b.val := by omega
  unfold contextOf
  simp only [q]

/-- The result's rows, by sequence and place. -/
theorem reshaped_at (v : FVec Ideal S16x256x1024 .f32) (h : b.val * 256 + n.val < 4096) :
    shapeCast S4096x1024 v shapeCasts_S16x256x1024_S4096x1024 (ix2 ⟨b.val * 256 + n.val, h⟩ j) = v (ix3 b n j) := by
  pointwise []

/-- The reference's rows are the specification's. -/
theorem result_at (h : b.val * 256 + n.val < 4096) : result code gate ys X M gain bias (ix2 ⟨b.val * 256 + n.val, h⟩ j)
    = contextOf code gate ys X M gain bias ⟨b.val * 256 + n.val, h⟩ j := by
  rw [contextOf_at code gate ys X M gain bias b n h (by omega) (by omega)]
  exact (reshaped_at b n j _ h).trans (normArray_stream code gate ys X M gain bias b n j h _ _)

end Entries

end Cert.MergeReferenceIdeal.Value

end
-- ==== Proof.MergeClaim.lean ====
module

public import proofs.«01_k».proof.Defs
public import proofs.«01_k».proof.Proof.OutClaim
public import proofs.«01_k».proof.Proof.MergeArray
public import proofs.«01_k».proof.Proof.MergeRef
public import Idealize.ShloMosaic.Lib.Claim

@[expose] public section

set_option maxRecDepth 16384

noncomputable section

open Idealize.ShloMosaic Idealize.SL.Sem

/-! # The context stream's last combination and its reference end with the same array -/

namespace Cert.MergeIdeal.Value

open Cert.MergeIdeal Cert.MergeIdeal.Gen Mixing

set_option maxHeartbeats 2000000 in
/-- The context stream's last combination and its reference end with the same array. -/
theorem merge_algebraic : Cert.algebraic_MergeIdeal_MergeReferenceIdeal := by
  pair_intro
  · run_from Cert.MergeIdeal.Gen.run_main m g
  · run_from Cert.MergeReferenceIdeal.Value.run m' g'
    obtain ⟨h0, h1, h2, h3, h4, h5, h6⟩ := hagree c
    rw [context_array m c]
    refine (Cert.MergeReferenceIdeal.Value.out0_eq m' c).trans
      (Cert.OutprojIdeal.Value.eq_of_entries _ (contextFrom m c) fun r j => ?_)
    obtain ⟨b, n, h, rfl⟩ : ∃ (b : Fin 16) (n : Fin 256) (h : b.val * 256 + n.val < 4096), r = ⟨b.val * 256 + n.val, h⟩ := by
      have hr := r.isLt
      exact ⟨⟨r.val / 256, by omega⟩, ⟨r.val % 256, by omega⟩, by show r.val / 256 * 256 + r.val % 256 < 4096; omega,
        Fin.ext (by show r.val = r.val / 256 * 256 + r.val % 256; omega)⟩
    rw [Cert.MergeReferenceIdeal.Value.result_at, h0, h1, h2, h3, h4, h5, h6]

end Cert.MergeIdeal.Value

end
-- ==== Proof.ContextTile.lean ====
module

public import proofs.«01_k».proof.Proof.Gen.AttnCtxIdeal.Value
public import Idealize.ShloMosaic.Lib.Pipeline.ValueKit
public import proofs.«01_k».proof.Proof.AttnTile

@[expose] public section

set_option maxRecDepth 16384

noncomputable section

open Idealize.ShloMosaic Idealize.ShloMosaic.TcCoe Idealize.SL.Sem

/-! # What one grid point of the context attention writes

A point works on one sequence.  The four heads of a key-value head are stacked into one axis of 1024
columns, once for each of the two key-value heads. -/

namespace Cert.AttnCtxIdeal.Value

open Cert.AttnCtxIdeal Cert.AttnCtxIdeal.Gen Attention
open Cert.KernelIdeal.Value (sum_first ones_row zeros_row pick log2e)

/-- The scores of four heads' queries with one head's keys. -/
def scoresOf (k q0 q1 q2 q3 : FVec Ideal S256x64 .bf16) : FVec Ideal S256x1024 .f32 :=
  matmul (φ₁ := .bf16) (φ₂ := .bf16) dot_S256x64_S1024x64_S256x1024_1_1_0_0_n_n none k
    (concatenate S1024x64 0 [⟨S256x64, q0⟩, ⟨S256x64, q1⟩, ⟨S256x64, q2⟩, ⟨S256x64, q3⟩]
      concatenates_S256x64_S256x64_S256x64_S256x64_S1024x64_d0) (constant S256x1024 .f32 0x00000000#32)

/-- A sink's logit, along the 256 columns of its head. -/
def spread (a : FVec Ideal S1x1 .f32) : FVec Ideal S1x256 .f32 :=
  broadcastTo S1x256 (shapeCast S1x1 (shapeCast S1x1 a shapeCasts_S1x1_S1x1) shapeCasts_S1x1_S1x1)
    broadcasts_S1x1_S1x256

/-- The four sinks' logits to base two, along the columns. -/
def sinkOf (a0 a1 a2 a3 : FVec Ideal S1x1 .f32) : FVec Ideal S1x1024 .f32 :=
  mulf (broadcast S1x1024 (Named.named κ "log2e" 0x3FB8AA3B#32 : Ideal .f32))
    (concatenate S1x1024 1 [⟨S1x256, spread a0⟩, ⟨S1x256, spread a1⟩, ⟨S1x256, spread a2⟩, ⟨S1x256, spread a3⟩]
      concatenates_S1x256_S1x256_S1x256_S1x256_S1x1024_d1)

/-- A column's largest logit. -/
def topOf (s : FVec Ideal S256x1024 .f32) (z : FVec Ideal S1x1024 .f32) : FVec Ideal S1x1024 .f32 :=
  maximumf z (shapeCast S1x1024 (multiReduction .maximumf [0] S1024 s 0xFF800000#32 reduces_S256x1024_S1024 (.inl rfl) rfl)
    shapeCasts_S1024_S1x1024)

/-- The powers of two of the scores. -/
def powersOf (s : FVec Ideal S256x1024 .f32) (t : FVec Ideal S1x1024 .f32) : FVec Ideal S256x1024 .bf16 :=
  truncf .bf16 (exp2 (subf s (broadcastTo S256x1024 t broadcasts_S1x1024_S256x1024))) bitsLt_bf16_f32

/-- The sinks' powers in the first of sixteen rows. -/
def sinkRows (z t : FVec Ideal S1x1024 .f32) : FVec Ideal S16x1024 .bf16 :=
  truncf .bf16 (select
    (broadcastTo S16x1024 (shapeCast S16x1 (cmpi .eq (iota .tc S16x1 32 [0] iota_S16x1_d0_w32) (broadcast S16x1 0#32))
      shapeCasts_S16x1_S16x1) broadcasts_S16x1_S16x1024)
    (broadcastTo S16x1024 (shapeCast S1x1024 (exp2 (subf z t)) shapeCasts_S1x1024_S1x1024) broadcasts_S1x1024_S16x1024)
    (broadcast S16x1024 (Scalar.ofBits .f32 0x00000000#32))) bitsLt_bf16_f32

/-- The values twice, then ones; below them the sixteen rows of the sinks. -/
def extended (v : FVec Ideal S256x64 .bf16) : FVec Ideal S272x256 .bf16 :=
  concatenate S272x256 0
    [⟨S256x256, concatenate S256x256 1
        [⟨S256x64, v⟩, ⟨S256x64, v⟩, ⟨S256x64, (broadcast S256x64 (Scalar.ofBits .bf16 0x3F80#16) : FVec Ideal S256x64 .bf16)⟩,
          ⟨S256x64, (broadcast S256x64 (Scalar.ofBits .bf16 0x3F80#16) : FVec Ideal S256x64 .bf16)⟩]
        concatenates_S256x64_S256x64_S256x64_S256x64_S256x256_d1⟩,
      ⟨S16x256, truncf .bf16 (select
        (andi (cmpi .eq (iota .tc S16x256 32 [0] iota_S16x256_d0_w32) (broadcast S16x256 0#32))
          (cmpi .sge (iota .tc S16x256 32 [1] iota_S16x256_d1_w32) (broadcast S16x256 128#32)))
        (broadcast S16x256 (Scalar.ofBits .f32 0x3F800000#32 : Ideal .f32))
        (broadcast S16x256 (Scalar.ofBits .f32 0x00000000#32))) bitsLt_bf16_f32⟩]
    concatenates_S256x256_S16x256_S272x256_d0

/-- The weighted sum of the values over the sum of the weights. -/
def quotientOf (p : FVec Ideal S256x1024 .bf16) (w : FVec Ideal S16x1024 .bf16) (v : FVec Ideal S256x64 .bf16) :
    FVec Ideal S1024x128 .f32 :=
  let acc : FVec Ideal S1024x256 .f32 := matmul (φ₁ := .bf16) (φ₂ := .bf16) dot_S272x1024_S272x256_S1024x256_0_0_1_1_n_n none
    (concatenate S272x1024 0 [⟨S256x1024, p⟩, ⟨S16x1024, w⟩] concatenates_S256x1024_S16x1024_S272x1024_d0)
    (extended v) (constant S1024x256 .f32 0x00000000#32)
  divf (extractStridedSlice S1024x128 ![0, 0] acc slices_S1024x256_o0_0_S1024x128)
    (extractStridedSlice S1024x128 ![0, 128] acc slices_S1024x256_o0_128_S1024x128)

/-- One key-value head's results. -/
def groupOf (s : FVec Ideal S256x1024 .f32) (z : FVec Ideal S1x1024 .f32) (v : FVec Ideal S256x64 .bf16) :
    FVec Ideal S1024x128 .f32 :=
  quotientOf (powersOf s (topOf s z)) (sinkRows z (topOf s z)) v

/-- Which lanes are the first 64. -/
def firstLanes : IVec S256x128 1 := cmpi .slt (iota .tc S256x128 32 [1] iota_S256x128_d1_w32) (broadcast S256x128 64#32)

/-- The two key-value heads' results, head beside head. -/
def spreadOut (x y : FVec Ideal S1024x128 .f32) : FVec Ideal S256x512 .bf16 :=
  truncf .bf16 (concatenate S256x512 1
    [⟨S256x128, (select firstLanes (extractStridedSlice S256x128 ![0, 0] x slices_S1024x128_o0_0_S256x128)
        (extractStridedSlice S256x128 ![256, 0] x slices_S1024x128_o256_0_S256x128) : FVec Ideal S256x128 .f32)⟩,
      ⟨S256x128, (select firstLanes (extractStridedSlice S256x128 ![512, 0] x slices_S1024x128_o512_0_S256x128)
        (extractStridedSlice S256x128 ![768, 0] x slices_S1024x128_o768_0_S256x128) : FVec Ideal S256x128 .f32)⟩,
      ⟨S256x128, (select firstLanes (extractStridedSlice S256x128 ![0, 0] y slices_S1024x128_o0_0_S256x128)
        (extractStridedSlice S256x128 ![256, 0] y slices_S1024x128_o256_0_S256x128) : FVec Ideal S256x128 .f32)⟩,
      ⟨S256x128, (select firstLanes (extractStridedSlice S256x128 ![512, 0] y slices_S1024x128_o512_0_S256x128)
        (extractStridedSlice S256x128 ![768, 0] y slices_S1024x128_o768_0_S256x128) : FVec Ideal S256x128 .f32)⟩]
    concatenates_S256x128_S256x128_S256x128_S256x128_S256x512_d1) bitsLt_bf16_f32

variable (q : FVec Ideal S256x512 .bf16) (k v : FVec Ideal S256x128 .bf16) (a0 a1 a2 a3 a4 a5 a6 a7 : FVec Ideal S1x1 .f32)

/-- The first key-value head. -/
def upper : FVec Ideal S1024x128 .f32 :=
  groupOf (scoresOf (extractStridedSlice S256x64 ![0, 0] k slices_S256x128_o0_0_S256x64)
      (extractStridedSlice S256x64 ![0, 0] q slices_S256x512_o0_0_S256x64)
      (extractStridedSlice S256x64 ![0, 64] q slices_S256x512_o0_64_S256x64)
      (extractStridedSlice S256x64 ![0, 128] q slices_S256x512_o0_128_S256x64)
      (extractStridedSlice S256x64 ![0, 192] q slices_S256x512_o0_192_S256x64))
    (sinkOf a0 a1 a2 a3) (extractStridedSlice S256x64 ![0, 0] v slices_S256x128_o0_0_S256x64)

/-- The second key-value head. -/
def lower : FVec Ideal S1024x128 .f32 :=
  groupOf (scoresOf (extractStridedSlice S256x64 ![0, 64] k slices_S256x128_o0_64_S256x64)
      (extractStridedSlice S256x64 ![0, 256] q slices_S256x512_o0_256_S256x64)
      (extractStridedSlice S256x64 ![0, 320] q slices_S256x512_o0_320_S256x64)
      (extractStridedSlice S256x64 ![0, 384] q slices_S256x512_o0_384_S256x64)
      (extractStridedSlice S256x64 ![0, 448] q slices_S256x512_o0_448_S256x64))
    (sinkOf a4 a5 a6 a7) (extractStridedSlice S256x64 ![0, 64] v slices_S256x128_o0_64_S256x64)

end Cert.AttnCtxIdeal.Value

end
-- ==== Proof.ContextGroup.lean ====
module

public import proofs.«01_k».proof.Proof.ContextTile

@[expose] public section

set_option maxRecDepth 16384

noncomputable section

open Idealize.ShloMosaic Idealize.ShloMosaic.TcCoe Idealize.SL.Sem

/-! # The context attention's point, entry by entry -/

namespace Cert.AttnCtxIdeal.Value

open Cert.AttnCtxIdeal Cert.AttnCtxIdeal.Gen Attention
open Cert.KernelIdeal.Value (pick log2e)

/-- Lanes from 128 on belong to the denominator. -/
theorem high_lane (l : ℕ) (hl : l < 128) : IntOp.cmpi CmpIPredicate.sge (BitVec.ofNat 32 (128 + l)) 128#32 = 1#1 := by
  have h : ∀ l : Fin 128, IntOp.cmpi CmpIPredicate.sge (BitVec.ofNat 32 (128 + l.val)) 128#32 = 1#1 := by decide
  exact h ⟨l, hl⟩

/-- Lanes below 128 belong to the numerator. -/
theorem low_lane (l : ℕ) (hl : l < 128) : IntOp.cmpi CmpIPredicate.sge (BitVec.ofNat 32 l) 128#32 = 0#1 := by
  have h : ∀ l : Fin 128, IntOp.cmpi CmpIPredicate.sge (BitVec.ofNat 32 l.val) 128#32 = 0#1 := by decide
  exact h ⟨l, hl⟩

theorem and_one (x : BitVec 1) : IntOp.andi x 1#1 = x := by revert x; decide

theorem and_zero (x : BitVec 1) : IntOp.andi x 0#1 = 0#1 := by revert x; decide

theorem none_taken (a b : EReal) : Scalar.select 0#1 a b = b := rfl

/-- Of the sixteen sink rows only the first one counts. -/
theorem only_first (f : Fin 16 → EReal) :
    ∑ e : Fin 16, Scalar.select (IntOp.cmpi CmpIPredicate.eq (BitVec.ofNat 32 e.val) 0#32) (f e) 0 = f 0 := by
  rw [Finset.sum_eq_single 0]
  · rfl
  · intro e _ he
    have : ∀ e : Fin 16, e ≠ 0 → IntOp.cmpi CmpIPredicate.eq (BitVec.ofNat 32 e.val) 0#32 = 0#1 := by decide
    rw [this e he]
    rfl
  · intro h
    exact absurd (Finset.mem_univ _) h

set_option maxHeartbeats 1000000 in
/-- The quotient at a row and a lane: both copies of the values give the same. -/
theorem quotientOf_at (p : FVec Ideal S256x1024 .bf16) (w : FVec Ideal S16x1024 .bf16) (v : FVec Ideal S256x64 .bf16)
    (r : Fin 1024) (l : Fin 128) (d : Fin 64) (hl : l.val % 64 = d.val) : quotientOf p w v (ix2 r l)
      = Ideal.div (∑ c, p (ix2 c r) * v (ix2 c d)) (∑ c, p (ix2 c r) + w (ix2 0 r)) := by
  have hl' : l = ⟨d.val, Nat.lt_trans d.isLt (by decide)⟩
      ∨ l = ⟨64 + d.val, Nat.add_lt_add_left d.isLt 64⟩ := by
    rcases Nat.lt_or_ge l.val 64 with h | h
    · exact .inl (Fin.ext (by simp only; omega))
    · exact .inr (Fin.ext (by simp only; omega))
  have hd := d.isLt
  rcases hl' with rfl | rfl
  · pointwise [quotientOf, extended]
    have h1 : ¬ 128 + d.val < 64 := by omega
    have h3 : d.val < 128 := by omega
    have h2 : ¬ 128 + d.val - 64 < 64 := by omega
    simp [h1, h2, high_lane _ h3, low_lane _ h3, and_one, and_zero, only_first, none_taken]
  · pointwise [quotientOf, extended]
    have h1 : ¬ 128 + (64 + d.val) < 64 := by omega
    have h3 : 64 + d.val < 128 := by omega
    have h2 : ¬ 128 + (64 + d.val) - 64 < 64 := by omega
    simp [h1, h2, high_lane _ h3, low_lane _ h3, and_one, and_zero, only_first, none_taken]

/-- A column's largest logit is real. -/
theorem topOf_real (s : FVec Ideal S256x1024 .f32) (z : FVec Ideal S1x1024 .f32) (r : Fin 1024) (ζ : ℝ)
    (hz : z (ix2 0 r) = (ζ : EReal)) (hs : ∀ c, s (ix2 c r) ≠ ⊤) : ∃ t : ℝ, topOf s z (ix2 0 r) = (t : EReal) := by
  have hbot : Ideal.ofBits .f32 0xFF800000#32 ≠ ⊤ := by
    rw [show Ideal.ofBits .f32 0xFF800000#32 = ⊥ from by simp [Ideal.ofBits, Ideal.ieee]]
    exact bot_ne_top
  pointwise [topOf, hz]
  refine ⟨_, (EReal.coe_toReal ?_ ?_).symm⟩
  · simp only [ne_eq, max_eq_top, not_or]
    exact ⟨EReal.coe_ne_top _, fold_ne_top _ hbot _ fun c => hs _⟩
  · simp only [ne_eq, max_eq_bot, not_and_or]
    exact .inl (EReal.coe_ne_bot _)

/-- A key-value head's result is the weighted mean of the values. -/
theorem groupOf_at (s : FVec Ideal S256x1024 .f32) (z : FVec Ideal S1x1024 .f32) (v : FVec Ideal S256x64 .bf16)
    (r : Fin 1024) (l : Fin 128) (d : Fin 64) (hl : l.val % 64 = d.val) (ζ : ℝ)
    (hz : z (ix2 0 r) = (ζ : EReal)) (hs : ∀ c, s (ix2 c r) ≠ ⊤) :
    groupOf s z v (ix2 r l) = mean (fun c => s (ix2 c r)) (fun c => v (ix2 c d)) ζ := by
  obtain ⟨t, ht⟩ := topOf_real s z r ζ hz hs
  unfold groupOf
  refine (quotientOf_at _ _ v r l d hl).trans ?_
  pointwise [powersOf, sinkRows, ht, hz]
  exact mean_exp2 _ _ hs ζ t

/-- The sinks' row at a column of head `g`. -/
theorem sinkOf_at (a0 a1 a2 a3 : FVec Ideal S1x1 .f32) (z : Fin 4 → ℝ) (h0 : a0 (ix2 0 0) = (z 0 : EReal))
    (h1 : a1 (ix2 0 0) = (z 1 : EReal)) (h2 : a2 (ix2 0 0) = (z 2 : EReal)) (h3 : a3 (ix2 0 0) = (z 3 : EReal))
    (g : Fin 4) (r : Fin 256) :
    sinkOf a0 a1 a2 a3 (ix2 0 ⟨256 * g.val + r.val, by omega⟩) = ((log2e * z g : ℝ) : EReal) := by
  have hn : (Named.named κ "log2e" 0x3FB8AA3B#32 : Ideal .f32) = ((log2e : ℝ) : EReal) :=
    IdealRules.named_const.ideal_named_scalar _ _ _ _ rfl
  have hr := r.isLt
  fin_cases g <;>
    · pointwise [sinkOf, spread]
      rw [hn]
      simp [h0, h1, h2, h3, EReal.coe_mul]
      try split_ifs <;> first | rfl | omega

/-- A score of head `g`. -/
theorem scoresOf_at (k q0 q1 q2 q3 : FVec Ideal S256x64 .bf16) (c : Fin 256) (g : Fin 4) (r : Fin 256) :
    scoresOf k q0 q1 q2 q3 (ix2 c ⟨256 * g.val + r.val, by omega⟩)
      = ∑ e, k (ix2 c e) * (![q0, q1, q2, q3] g) (ix2 r e) := by
  have hr := r.isLt
  fin_cases g <;>
    · pointwise [scoresOf] <;>
        · refine Finset.sum_congr rfl fun e _ => congrArg _ ?_
          split_ifs <;> first | omega | (congr 2; apply Fin.ext; simp only []; omega)

/-- Where the heads' results go: head `g` of key-value head `h` fills 64 columns from `256 * h + 64 * g`. -/
theorem spreadOut_at (x y : FVec Ideal S1024x128 .f32) (r : Fin 256) (h : Fin 2) (g : Fin 4) (d : Fin 64) :
    spreadOut x y (ix2 r ⟨h.val * 256 + g.val * 64 + d.val, by omega⟩)
      = if h.val = 0 then x (ix2 ⟨256 * g.val + r.val, by omega⟩ ⟨(g.val * 64 + d.val) % 128, Nat.mod_lt _ (by decide)⟩)
        else y (ix2 ⟨256 * g.val + r.val, by omega⟩ ⟨(g.val * 64 + d.val) % 128, Nat.mod_lt _ (by decide)⟩) := by
  pointwise [spreadOut, firstLanes]
  have hh := h.isLt
  have hg := g.isLt
  have hd := d.isLt
  split
  · rw [if_pos (show h.val = 0 by omega)]
    refine (pick _ _ _ ?_).trans ?_
    · omega
    · split <;> congr 2 <;> apply Fin.ext <;> simp only [] <;> omega
  · split
    · rw [if_pos (show h.val = 0 by omega)]
      refine (pick _ _ _ ?_).trans ?_
      · omega
      · split <;> congr 2 <;> apply Fin.ext <;> simp only [] <;> omega
    · split
      · rw [if_neg (show ¬ h.val = 0 by omega)]
        refine (pick _ _ _ ?_).trans ?_
        · omega
        · split <;> congr 2 <;> apply Fin.ext <;> simp only [] <;> omega
      · rw [if_neg (show ¬ h.val = 0 by omega)]
        refine (pick _ _ _ ?_).trans ?_
        · omega
        · split <;> congr 2 <;> apply Fin.ext <;> simp only [] <;> omega

variable (q : FVec Ideal S256x512 .bf16) (k v : FVec Ideal S256x128 .bf16) (a0 a1 a2 a3 a4 a5 a6 a7 : FVec Ideal S1x1 .f32)

/-- The score of a key for a query of head `g` of key-value head `h`. -/
def scoreAt (h : Fin 2) (g : Fin 4) (r c : Fin 256) : EReal :=
  ∑ e : Fin 64, k (ix2 c ⟨h.val * 64 + e.val, by omega⟩) * q (ix2 r ⟨h.val * 256 + g.val * 64 + e.val, by omega⟩)

theorem scoreAt_ne_top (hq : ∀ i, ∃ x : ℝ, q i = (x : EReal)) (hk : ∀ i, ∃ x : ℝ, k i = (x : EReal))
    (h : Fin 2) (g : Fin 4) (r c : Fin 256) : scoreAt q k h g r c ≠ ⊤ := by
  obtain ⟨x, hx⟩ := dot_real (fun e : Fin 64 => k (ix2 c ⟨h.val * 64 + e.val, by omega⟩))
    (fun e => q (ix2 r ⟨h.val * 256 + g.val * 64 + e.val, by omega⟩)) (fun _ => hk _) (fun _ => hq _)
  rw [scoreAt, hx]
  exact EReal.coe_ne_top x

/-- The scores inside the first key-value head. -/
theorem upper_score (c : Fin 256) (g : Fin 4) (r : Fin 256) :
    scoresOf (extractStridedSlice S256x64 ![0, 0] k slices_S256x128_o0_0_S256x64)
      (extractStridedSlice S256x64 ![0, 0] q slices_S256x512_o0_0_S256x64)
      (extractStridedSlice S256x64 ![0, 64] q slices_S256x512_o0_64_S256x64)
      (extractStridedSlice S256x64 ![0, 128] q slices_S256x512_o0_128_S256x64)
      (extractStridedSlice S256x64 ![0, 192] q slices_S256x512_o0_192_S256x64)
      (ix2 c ⟨256 * g.val + r.val, by omega⟩) = scoreAt q k 0 g r c := by
  rw [scoresOf_at]
  unfold scoreAt
  refine Finset.sum_congr rfl fun e _ => congrArg₂ (· * ·) ?_ ?_
  · pointwise []
  · fin_cases g <;>
      · dsimp only
        pointwise []

/-- The scores inside the second key-value head. -/
theorem lower_score (c : Fin 256) (g : Fin 4) (r : Fin 256) :
    scoresOf (extractStridedSlice S256x64 ![0, 64] k slices_S256x128_o0_64_S256x64)
      (extractStridedSlice S256x64 ![0, 256] q slices_S256x512_o0_256_S256x64)
      (extractStridedSlice S256x64 ![0, 320] q slices_S256x512_o0_320_S256x64)
      (extractStridedSlice S256x64 ![0, 384] q slices_S256x512_o0_384_S256x64)
      (extractStridedSlice S256x64 ![0, 448] q slices_S256x512_o0_448_S256x64)
      (ix2 c ⟨256 * g.val + r.val, by omega⟩) = scoreAt q k 1 g r c := by
  rw [scoresOf_at]
  unfold scoreAt
  refine Finset.sum_congr rfl fun e _ => congrArg₂ (· * ·) ?_ ?_
  · pointwise []
  · fin_cases g <;>
      · dsimp only
        pointwise []

/-- The block's entries are the weighted means of the sequence's values. -/
theorem point_at (hq : ∀ i, ∃ x : ℝ, q i = (x : EReal)) (hk : ∀ i, ∃ x : ℝ, k i = (x : EReal)) (z : Fin 8 → ℝ)
    (h0 : a0 (ix2 0 0) = (z 0 : EReal)) (h1 : a1 (ix2 0 0) = (z 1 : EReal))
    (h2 : a2 (ix2 0 0) = (z 2 : EReal)) (h3 : a3 (ix2 0 0) = (z 3 : EReal)) (h4 : a4 (ix2 0 0) = (z 4 : EReal))
    (h5 : a5 (ix2 0 0) = (z 5 : EReal)) (h6 : a6 (ix2 0 0) = (z 6 : EReal)) (h7 : a7 (ix2 0 0) = (z 7 : EReal))
    (r : Fin 256) (h : Fin 2) (g : Fin 4) (d : Fin 64) :
    spreadOut (upper q k v a0 a1 a2 a3) (lower q k v a4 a5 a6 a7) (ix2 r ⟨h.val * 256 + g.val * 64 + d.val, by omega⟩)
      = mean (scoreAt q k h g r) (fun c => v (ix2 c ⟨h.val * 64 + d.val, by omega⟩))
          (log2e * z ⟨h.val * 4 + g.val, by omega⟩) := by
  have hg := g.isLt
  rw [spreadOut_at]
  have hh : h = 0 ∨ h = 1 := by omega
  rcases hh with rfl | rfl
  · refine (if_pos (show (0 : Fin 2).val = 0 from rfl)).trans ?_
    unfold upper
    refine (groupOf_at _ _ _ _ _ d (by simp only; omega) _
      (sinkOf_at a0 a1 a2 a3 (fun g => z ⟨g.val, by omega⟩) h0 h1 h2 h3 g r)
      (fun c => (upper_score q k c g r).trans_ne (scoreAt_ne_top q k hq hk 0 g r c))).trans ?_
    refine congr (congr (congrArg mean (funext fun c => upper_score q k c g r)) (funext fun c => ?_)) ?_
    · pointwise []
    · congr 2
      exact Fin.ext (show g.val = 0 * 4 + g.val by omega)
  · refine (if_neg (show ¬ (1 : Fin 2).val = 0 by decide)).trans ?_
    unfold lower
    refine (groupOf_at _ _ _ _ _ d (by simp only; omega) _
      (sinkOf_at a4 a5 a6 a7 (fun g => z ⟨4 + g.val, by omega⟩) h4 h5 h6 h7 g r)
      (fun c => (lower_score q k c g r).trans_ne (scoreAt_ne_top q k hq hk 1 g r c))).trans ?_
    refine congr (congr (congrArg mean (funext fun c => lower_score q k c g r)) (funext fun c => ?_)) ?_
    · pointwise []
    · congr 2

end Cert.AttnCtxIdeal.Value

end
-- ==== Proof.ContextStored.lean ====
module

public import Idealize.ShloMosaic.Lib.Pipeline.ValueKit
public import proofs.«01_k».proof.Proof.ContextTile

@[expose] public section

set_option maxRecDepth 16384

noncomputable section

open Idealize.ShloMosaic Idealize.ShloMosaic.TcCoe Idealize.SL.Sem

/-! # What the body of the context attention stores -/

namespace Cert.AttnCtxIdeal.Value

open Cert.AttnCtxIdeal Cert.AttnCtxIdeal.Gen

/-- What the body stores is the two key-value heads, head beside head. -/
theorem stored (x0 : Vec Ideal S256x512 .bf16) (x1 x2 : Vec Ideal S256x128 .bf16) (x3 : Vec Ideal S8x128 .f32) :
    out0_4 (F := Ideal) x0 x1 x2 x3 = View.canon [⟨r0_0, spreadOut
      (upper (View.ld (Val := Elt Ideal) (e' := .bf16) x0 r0_0) (View.ld (Val := Elt Ideal) (e' := .bf16) x1 r0_1)
        (View.ld (Val := Elt Ideal) (e' := .bf16) x2 r0_1) (View.ld (Val := Elt Ideal) (e' := .f32) x3 r0_2)
        (View.ld (Val := Elt Ideal) (e' := .f32) x3 r0_3) (View.ld (Val := Elt Ideal) (e' := .f32) x3 r0_4)
        (View.ld (Val := Elt Ideal) (e' := .f32) x3 r0_5))
      (lower (View.ld (Val := Elt Ideal) (e' := .bf16) x0 r0_0) (View.ld (Val := Elt Ideal) (e' := .bf16) x1 r0_1)
        (View.ld (Val := Elt Ideal) (e' := .bf16) x2 r0_1) (View.ld (Val := Elt Ideal) (e' := .f32) x3 r0_6)
        (View.ld (Val := Elt Ideal) (e' := .f32) x3 r0_7) (View.ld (Val := Elt Ideal) (e' := .f32) x3 r0_8)
        (View.ld (Val := Elt Ideal) (e' := .f32) x3 r0_9))⟩] :=
  rfl

end Cert.AttnCtxIdeal.Value

end
-- ==== Proof.ContextMath.lean ====
module

public import proofs.«01_k».proof.Proof.AttnMath

@[expose] public section

set_option maxRecDepth 16384

noncomputable section

open Idealize.ShloMosaic Idealize.SL.Sem

/-! # Attention inside a context sequence

A context token sees the whole of its own sequence of 256 tokens and nothing else. -/

namespace Attention

/-- A key (or value) of sequence `b`. -/
abbrev ownKey (k : KeyRows) (b : Fin 16) (h : Fin 2) (d : Fin 64) (s : Fin 256) : EReal :=
  k (ix2 ⟨b.val * 256 + s.val, by omega⟩ ⟨h.val * 64 + d.val, by omega⟩)

/-- A query of sequence `b`. -/
abbrev ownQuery (q : Rows) (b : Fin 16) (h : Fin 2) (g : Fin 4) (t : Fin 256) (d : Fin 64) : EReal :=
  q (ix2 ⟨b.val * 256 + t.val, by omega⟩ ⟨h.val * 256 + g.val * 64 + d.val, by omega⟩)

/-- The score of a key for a query. -/
def ownScore (q : Rows) (k : KeyRows) (b : Fin 16) (h : Fin 2) (g : Fin 4) (t s : Fin 256) : EReal :=
  ∑ d : Fin 64, ownKey k b h d s * ownQuery q b h g t d

/-- The mean of the sequence's values that a query takes. -/
def attendOwn (q : Rows) (k v : KeyRows) (z : Fin 8 → ℝ) (b : Fin 16) (h : Fin 2) (g : Fin 4) (t : Fin 256)
    (d : Fin 64) : EReal :=
  mean (ownScore q k b h g t) (ownKey v b h d) ((Real.log 2)⁻¹ * z ⟨h.val * 4 + g.val, by omega⟩)

/-- A score of real queries and keys is not `⊤`. -/
theorem ownScore_ne_top (q : Rows) (k : KeyRows) (hq : ∀ i, ∃ r : ℝ, q i = (r : EReal))
    (hk : ∀ i, ∃ r : ℝ, k i = (r : EReal)) (b : Fin 16) (h : Fin 2) (g : Fin 4) (t s : Fin 256) :
    ownScore q k b h g t s ≠ ⊤ := by
  obtain ⟨r, hr⟩ := dot_real (fun d => ownKey k b h d s) (fun d => ownQuery q b h g t d) (fun _ => hk _) fun _ => hq _
  unfold ownScore
  rw [hr]
  exact EReal.coe_ne_top r

end Attention

end
-- ==== Proof.ContextArray.lean ====
module

public import proofs.«01_k».proof.Proof.ContextGroup
public import proofs.«01_k».proof.Proof.ContextStored
public import proofs.«01_k».proof.Proof.ContextMath
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The context attention's array after the run -/

namespace Cert.AttnCtxIdeal.Value

open Cert.AttnCtxIdeal Cert.AttnCtxIdeal.Gen Attention

variable (m : (ℓ : Loc nD τ sig) → Buf (Elt Ideal) ℓ)

/-- Grid point `t` works on sequence `t`: where each window's block sits. -/
theorem placed : ∀ t : Fin cfg0.N,
    win0_0.index t = ![t.val, 0] ∧ win0_1.index t = ![t.val, 0] ∧ win0_2.index t = ![t.val, 0]
    ∧ win0_3.index t = ![0, 0] ∧ win0_4.index t = ![t.val, 0] :=
  (by decide +kernel : ∀ t : Fin grid0.N, _)

/-- A block as it is stored whole. -/
theorem stored_at (G : FVec Ideal S256x512 .bf16) (y : S256x512.Idx) :
    View.canon (Val := Elt Ideal) (e := .bf16) [⟨r0_0, G⟩] y = G y := by
  exact congrFun (View.canon_cons_unit_lit _ _ _ fun a => by fin_cases a <;> rfl) y

/-- The sinks' logits of the layer. -/
theorem sink_logits (c : Dev nD) (t : Fin cfg0.N) (i : Fin 8) :
    iblk m c 3 t (ix2 i 0) = m ((c : Thread nD τ).loc main_arg3) (ix2 1 i) := by
  blk_point [iblk, V, placed t]

/-- The queries of the point's sequence. -/
theorem query_block (c : Dev nD) (t : Fin cfg0.N) (r : Fin 256) (e : Fin 512) (ht : t.val * 256 + r.val < 8192) :
    View.ld (Val := Elt Ideal) (e' := .bf16) (iblk m c 0 t) r0_0 (ix2 r e)
      = m ((c : Thread nD τ).loc main_arg0) (ix2 ⟨t.val * 256 + r.val, ht⟩ e) := by
  blk_point [iblk, V, placed t]

/-- Its keys. -/
theorem key_block (c : Dev nD) (t : Fin cfg0.N) (r : Fin 256) (e : Fin 128) (ht : t.val * 256 + r.val < 8192) :
    View.ld (Val := Elt Ideal) (e' := .bf16) (iblk m c 1 t) r0_1 (ix2 r e)
      = m ((c : Thread nD τ).loc main_arg1) (ix2 ⟨t.val * 256 + r.val, ht⟩ e) := by
  blk_point [iblk, V, placed t]

/-- Its values. -/
theorem value_block (c : Dev nD) (t : Fin cfg0.N) (r : Fin 256) (e : Fin 128) (ht : t.val * 256 + r.val < 8192) :
    View.ld (Val := Elt Ideal) (e' := .bf16) (iblk m c 2 t) r0_1 (ix2 r e)
      = m ((c : Thread nD τ).loc main_arg2) (ix2 ⟨t.val * 256 + r.val, ht⟩ e) := by
  blk_point [iblk, V, placed t]

variable (z : Fin 8 → ℝ)

/-- What the run's arguments give the attention. -/
abbrev attended (c : Dev nD) : Fin 16 → Fin 2 → Fin 4 → Fin 256 → Fin 64 → EReal :=
  attendOwn (m ((c : Thread nD τ).loc main_arg0)) (m ((c : Thread nD τ).loc main_arg1))
    (m ((c : Thread nD τ).loc main_arg2)) z

variable (c : Dev nD) (hq : ∀ i, ∃ x : ℝ, m ((c : Thread nD τ).loc main_arg0) i = (x : EReal))
  (hk : ∀ i, ∃ x : ℝ, m ((c : Thread nD τ).loc main_arg1) i = (x : EReal))
  (hz : ∀ i, m ((c : Thread nD τ).loc main_arg3) (ix2 1 i) = (z i : EReal))

set_option maxHeartbeats 1000000 in
include hq hk hz in
/-- What a point leaves in the block of results. -/
theorem point (t : Fin cfg0.N) (hb : t.val < 16) (r : Fin 256) (h : Fin 2) (g : Fin 4) (d : Fin 64)
    (hj : h.val * 256 + g.val * 64 + d.val < 512) :
    out0_4 (iblk m c 0 t) (iblk m c 1 t) (iblk m c 2 t) (iblk m c 3 t)
        (ix2 r ⟨h.val * 256 + g.val * 64 + d.val, hj⟩)
      = attended m z c ⟨t.val, hb⟩ h g r d := by
  have hR : ∀ r : Fin 256, t.val * 256 + r.val < 8192 := fun r => by omega
  rw [stored, stored_at]
  refine (point_at _ _ _ _ _ _ _ _ _ _ _ ?_ ?_ z ?_ ?_ ?_ ?_ ?_ ?_ ?_ ?_ r h g d).trans ?_
  case refine_1 =>
    intro i
    obtain ⟨r, e, rfl⟩ : ∃ (r : Fin 256) (e : Fin 512), i = ix2 r e := ⟨i 0, i 1, eq_ix2 i⟩
    rw [query_block m c t _ _ (hR _)]
    exact hq _
  case refine_2 =>
    intro i
    obtain ⟨r, e, rfl⟩ : ∃ (r : Fin 256) (e : Fin 128), i = ix2 r e := ⟨i 0, i 1, eq_ix2 i⟩
    rw [key_block m c t _ _ (hR _)]
    exact hk _
  case refine_11 =>
    unfold attended attendOwn
    refine congr (congr (congrArg mean (funext fun s => ?_)) (funext fun s => ?_)) rfl
    · unfold scoreAt ownScore
      refine Finset.sum_congr rfl fun e _ => ?_
      rw [query_block m c t _ _ (hR _), key_block m c t _ _ (hR _)]
    · rw [value_block m c t _ _ (hR _)]
  case refine_3 =>
    refine Eq.trans (b := iblk m c 3 t (ix2 (0 : Fin 8) (0 : Fin 128))) ?_ ((sink_logits m c t 0).trans (hz 0))
    generalize iblk m c 3 t = X
    pointwise
  case refine_4 =>
    refine Eq.trans (b := iblk m c 3 t (ix2 (1 : Fin 8) (0 : Fin 128))) ?_ ((sink_logits m c t 1).trans (hz 1))
    generalize iblk m c 3 t = X
    pointwise
  case refine_5 =>
    refine Eq.trans (b := iblk m c 3 t (ix2 (2 : Fin 8) (0 : Fin 128))) ?_ ((sink_logits m c t 2).trans (hz 2))
    generalize iblk m c 3 t = X
    pointwise
  case refine_6 =>
    refine Eq.trans (b := iblk m c 3 t (ix2 (3 : Fin 8) (0 : Fin 128))) ?_ ((sink_logits m c t 3).trans (hz 3))
    generalize iblk m c 3 t = X
    pointwise
  case refine_7 =>
    refine Eq.trans (b := iblk m c 3 t (ix2 (4 : Fin 8) (0 : Fin 128))) ?_ ((sink_logits m c t 4).trans (hz 4))
    generalize iblk m c 3 t = X
    pointwise
  case refine_8 =>
    refine Eq.trans (b := iblk m c 3 t (ix2 (5 : Fin 8) (0 : Fin 128))) ?_ ((sink_logits m c t 5).trans (hz 5))
    generalize iblk m c 3 t = X
    pointwise
  case refine_9 =>
    refine Eq.trans (b := iblk m c 3 t (ix2 (6 : Fin 8) (0 : Fin 128))) ?_ ((sink_logits m c t 6).trans (hz 6))
    generalize iblk m c 3 t = X
    pointwise
  case refine_10 =>
    refine Eq.trans (b := iblk m c 3 t (ix2 (7 : Fin 8) (0 : Fin 128))) ?_ ((sink_logits m c t 7).trans (hz 7))
    generalize iblk m c 3 t = X
    pointwise

/-- The array after the run: the first rows attended, the other rows as launched. -/
def finalOut (c : Dev nD) : FVec Ideal S8192x512 .bf16 := fun j =>
  if h : (j 0).val < 4096 then
    have h1 : (j 1).val < 512 := (j 1).isLt
    attended m z c ⟨(j 0).val / 256, by omega⟩ ⟨(j 1).val / 256, by omega⟩ ⟨(j 1).val / 64 % 4, by omega⟩
      ⟨(j 0).val % 256, by omega⟩ ⟨(j 1).val % 64, by omega⟩
  else m ((c : Thread nD τ).loc main_arg0) j

theorem finalOut_at (c : Dev nD) (j : S8192x512.Idx) (b : Fin 16) (h : Fin 2) (g : Fin 4) (s : Fin 256) (d : Fin 64)
    (e0 : (j 0).val = b.val * 256 + s.val) (e1 : (j 1).val = h.val * 256 + g.val * 64 + d.val) :
    finalOut m z c j = attended m z c b h g s d := by
  have hb := b.isLt
  have hs := s.isLt
  have hg := g.isLt
  have hd := d.isLt
  have h0 : (j 0).val < 4096 := by omega
  unfold finalOut
  rw [dif_pos h0]
  have hb' : (⟨(j 0).val / 256, by omega⟩ : Fin 16) = b := Fin.ext (by simp only; omega)
  have hs' : (⟨(j 0).val % 256, by omega⟩ : Fin 256) = s := Fin.ext (by simp only; omega)
  have hh' : (⟨(j 1).val / 256, by omega⟩ : Fin 2) = h := Fin.ext (by simp only; omega)
  have hg' : (⟨(j 1).val / 64 % 4, by omega⟩ : Fin 4) = g := Fin.ext (by simp only; omega)
  have hd' : (⟨(j 1).val % 64, by omega⟩ : Fin 64) = d := Fin.ext (by simp only; omega)
  simp only [hb', hs', hh', hg', hd']

/-- A statement about every entry of a block of results, head by head. -/
theorem blocks {P : S256x512.Idx → Prop} (hP : ∀ (r : Fin 256) (h : Fin 2) (g : Fin 4) (d : Fin 64)
    (hj : h.val * 256 + g.val * 64 + d.val < 512), P (ix2 r ⟨h.val * 256 + g.val * 64 + d.val, hj⟩)) (y) : P y := by
  have hy : (y 1).val < 512 := (y 1).isLt
  have e : y = ix2 (y 0) ⟨(⟨(y 1).val / 256, by omega⟩ : Fin 2).val * 256 + (⟨(y 1).val / 64 % 4, by omega⟩ : Fin 4).val * 64
      + (⟨(y 1).val % 64, by omega⟩ : Fin 64).val, by simp only; omega⟩ := by
    funext j
    match j with
    | 0 => rfl
    | 1 => exact Fin.ext (by show (y 1).val = (y 1).val / 256 * 256 + (y 1).val / 64 % 4 * 64 + (y 1).val % 64; omega)
  rw [e]
  exact hP _ _ _ _ _

include hq hk hz in
theorem final : (dats m 0 c).arrAt 4 (cfgs 0).N
    = fun i => if (i 0 : ℕ) < 16 * 256 then finalOut m z c i else V m c main_v4 i := by
  refine (dats m 0 c).arrAt_eq_of_coversWhere 4 _ (fun β => β 0 < 16) (by decide +kernel) (fun t hf y => ?_)
    (fun j => by blk_simp [Pipeline.Window.cell_apply]; omega)
  blk_simp
  rw [after0_4]
  have hN := lt_of_lt_of_eq t.isLt (show cfg0.N = 16 from N_0)
  revert y
  refine blocks fun r h g d hj => ?_
  refine (point m z c hq hk hz t hN r h g d hj).trans ?_
  have e0 : (((win0_4.blk t).view.emb (ix2 r ⟨h.val * 256 + g.val * 64 + d.val, hj⟩)) 0).val = t.val * 256 + r.val := by
    blk_simp [placed t]
  have e1 : (((win0_4.blk t).view.emb (ix2 r ⟨h.val * 256 + g.val * 64 + d.val, hj⟩)) 1).val = h.val * 256 + g.val * 64 + d.val := by
    blk_simp [placed t]
  exact (finalOut_at m z c _ ⟨t.val, hN⟩ _ _ _ _ e0 e1).symm

/-- The array starts as a copy of the queries. -/
theorem entry_out : V m c main_v4 = m ((c : Thread nD τ).loc main_arg0) := by
  entry_read
  rfl

end Cert.AttnCtxIdeal.Value

end
-- ==== Proof.ContextRef.lean ====
module

public import proofs.«01_k».proof.Proof.Gen.AttnCtxReferenceIdeal.Run
public import Idealize.ShloMosaic.Lib.Pipeline.ValueKit
public import proofs.«01_k».proof.Proof.AttnRefValue
public import proofs.«01_k».proof.Proof.ContextMath

@[expose] public section

set_option maxRecDepth 16384

noncomputable section

open Idealize.ShloMosaic Idealize.ShloMosaic.TcCoe Idealize.SL.Sem

/-! # What the reference of the context attention computes -/

namespace Cert.AttnCtxReferenceIdeal.Value

open Cert.AttnCtxReferenceIdeal Cert.AttnCtxReferenceIdeal.Gen Attention
open Cert.ReferenceIdeal.Value (scaled_dot eighth log_two bot_bits max_at scaled_ne_top)

/-- The keys (or values) of the context sequences. -/
def keysOf (k : FVec Ideal S8192x128 .bf16) : FVec Ideal S16x256x2x64 .f32 :=
  shapeCast _ (extractStridedSlice S4096x128 ![0, 0] (extf .f32 k bitsLt_bf16_f32) slices_S8192x128_S4096x128_0_0)
    shapeCasts_S4096x128_S16x256x2x64

/-- Their queries with the kernel's scale taken off. -/
def queriesOf (q : FVec Ideal S8192x512 .bf16) : FVec Ideal S16x256x2x4x64 .f32 :=
  shapeCast _ (mulf (Host.divf (extractStridedSlice S4096x512 ![0, 0] (extf .f32 q bitsLt_bf16_f32)
      slices_S8192x512_S4096x512_0_0)
      (broadcastInDim S4096x512 ![] bcast_S_S4096x512 (constant S_ .f32 0x3E000000#32)))
    (broadcastInDim S4096x512 ![] bcast_S_S4096x512 (Host.log (constant S_ .f32 0x40000000#32))))
    shapeCasts_S4096x512_S16x256x2x4x64

/-- The logits, the sink's beside the keys'. -/
def rowsOf (K : FVec Ideal S16x256x2x64 .f32) (Q : FVec Ideal S16x256x2x4x64 .f32) (s : FVec Ideal S4x8 .f32) :
    FVec Ideal S16x2x4x256x257 .f32 :=
  concatenate S16x2x4x256x257 4
    [⟨S16x2x4x256x256, mulf (transpose S16x2x4x256x256 [0, 1, 4, 3, 2]
        (Host.dotGeneral dot_S16x256x2x64_S16x256x2x4x64_S16x2x256x256x4_3_4_1_13_02_02 none K Q)
        transposes_S16x2x256x256x4_S16x2x4x256x256_0_1_4_3_2)
      (broadcastInDim S16x2x4x256x256 ![] bcast_S_S16x2x4x256x256 (constant S_ .f32 0x3E000000#32))⟩,
      ⟨S16x2x4x256x1, broadcastInDim S16x2x4x256x1 ![0, 1, 2, 3, 4] bcast_S1x2x4x1x1_S16x2x4x256x1_0_1_2_3_4
        (shapeCast _ (shapeCast _ (extractStridedSlice S1x8 ![1, 0] s slices_S4x8_S1x8_1_0) shapeCasts_S1x8_S8)
          shapeCasts_S8_S1x2x4x1x1)⟩]
    concatenates_S16x2x4x256x256_S16x2x4x256x1_S16x2x4x256x257_d4

/-- Each row's largest logit. -/
def largestOf (x : FVec Ideal S16x2x4x256x257 .f32) : FVec Ideal S16x2x4x256 .f32 :=
  maximumf (broadcastInDim S16x2x4x256 ![] bcast_S_S16x2x4x256 (constant S_ .f32 0xFF800000#32))
    (Host.reduce FloatOps.maximumf x (constant S_ .f32 0xFF800000#32) reducesTo_S16x2x4x256x257_S16x2x4x256_d4 h_S_)

/-- The exponentials of the logits, a number taken off each row. -/
def exponentialsOf (x : FVec Ideal S16x2x4x256x257 .f32) (M : FVec Ideal S16x2x4x256 .f32) :
    FVec Ideal S16x2x4x256x257 .f32 :=
  Host.exp (subf x (broadcastInDim S16x2x4x256x257 ![0, 1, 2, 3, 4] bcast_S16x2x4x256x1_S16x2x4x256x257_0_1_2_3_4
    (broadcastInDim S16x2x4x256x1 ![0, 1, 2, 3] bcast_S16x2x4x256_S16x2x4x256x1_0_1_2_3 M)))

/-- Each row divided by its sum, the sink's entry dropped. -/
def weightsOf (e : FVec Ideal S16x2x4x256x257 .f32) : FVec Ideal S16x2x4x256x256 .f32 :=
  extractStridedSlice S16x2x4x256x256 ![0, 0, 0, 0, 0]
    (Host.divf e (broadcastInDim S16x2x4x256x257 ![0, 1, 2, 3, 4] bcast_S16x2x4x256x1_S16x2x4x256x257_0_1_2_3_4
      (broadcastInDim S16x2x4x256x1 ![0, 1, 2, 3] bcast_S16x2x4x256_S16x2x4x256x1_0_1_2_3
        (Host.reduceAdd e (constant S_ .f32 0x00000000#32) reducesTo_S16x2x4x256x257_S16x2x4x256_d4 h_S_))))
    slices_S16x2x4x256x257_S16x2x4x256x256_0_0_0_0_0

/-- The weighted values as rows, then the latent rows as they came. -/
def resultOf (q : FVec Ideal S8192x512 .bf16) (V : FVec Ideal S16x256x2x64 .f32) (W : FVec Ideal S16x2x4x256x256 .f32) :
    FVec Ideal S8192x512 .bf16 :=
  concatenate S8192x512 0
    [⟨S4096x512, (truncf .bf16 (shapeCast _ (transpose S16x256x2x4x64 [0, 4, 1, 3, 2]
        (Host.dotGeneral dot_S16x256x2x64_S16x2x4x256x256_S16x2x64x4x256_1_4_3_23_02_01 none V W)
        transposes_S16x2x64x4x256_S16x256x2x4x64_0_4_1_3_2) shapeCasts_S16x256x2x4x64_S4096x512) bitsLt_bf16_f32
        : FVec Ideal S4096x512 .bf16)⟩,
      ⟨S4096x512, extractStridedSlice S4096x512 ![4096, 0] q slices_S8192x512_S4096x512_4096_0⟩]
    concatenates_S4096x512_S4096x512_S8192x512_d0

/-- The reference as a whole. -/
def refOut (q : FVec Ideal S8192x512 .bf16) (k v : FVec Ideal S8192x128 .bf16) (s : FVec Ideal S4x8 .f32) :
    FVec Ideal S8192x512 .bf16 :=
  resultOf q (keysOf v) (weightsOf (exponentialsOf (rowsOf (keysOf k) (queriesOf q) s)
    (largestOf (rowsOf (keysOf k) (queriesOf q) s))))

/-- The reference's run ends with this result. -/
theorem out_eq (m : (ℓ : Loc nD τ sig) → Buf (Elt Ideal) ℓ) (c : Dev nD) :
    res_out0 m c = refOut (m ((c.tc : Thread nD τ).loc main_arg0)) (m ((c.tc : Thread nD τ).loc main_arg1))
      (m ((c.tc : Thread nD τ).loc main_arg2)) (m ((c.tc : Thread nD τ).loc main_arg3)) := rfl

theorem reduces : S16x2x4x256x257.Reduces [4] S16x2x4x256 := by decide

theorem lift_at (b : Fin 16) (h : Fin 2) (g : Fin 4) (t : Fin 256) (i : Fin 257) :
    reduces.lift (ix4 b h g t) i = ix5 b h g t i := by
  funext c
  fin_cases c <;> rfl

/-- A row's maximum, as a fold over the row. -/
theorem fold_row (x : FVec Ideal S16x2x4x256x257 .f32) (init : FVec Ideal S_ .f32) (j : S16x2x4x256.Idx) :
    Host.reduce FloatOps.maximumf x init reducesTo_S16x2x4x256x257_S16x2x4x256_d4 h_S_ j
      = Finset.univ.fold max (init (Shape.Idx.first h_S_)) (x ∘ reduces.lift j) :=
  Host.reduce_eq_fold_single FloatOps.maximumf x init _ reduces _ _

/-- A row's largest logit is real when none is `⊤` and one is not `⊥`. -/
theorem largestOf_real (x : FVec Ideal S16x2x4x256x257 .f32) (b : Fin 16) (h : Fin 2) (g : Fin 4)
    (t : Fin 256) (hx : ∀ s : Fin 257, x (ix5 b h g t s) ≠ ⊤)
    (i : Fin 257) (hi : x (ix5 b h g t i) ≠ ⊥) : ∃ r : ℝ, largestOf x (ix4 b h g t) = (r : EReal) := by
  have e : x ∘ reduces.lift (ix4 b h g t) = fun s : Fin 257 => x (ix5 b h g t s) := by
    funext s
    exact congrArg x (lift_at b h g t s)
  unfold largestOf
  rw [max_at, fold_row, e]
  have hinit : (constant S_ .f32 0xFF800000#32 : FVec Ideal S_ .f32) (Shape.Idx.first h_S_) = ⊥ := bot_bits
  have hb : (broadcastInDim S16x2x4x256 ![] bcast_S_S16x2x4x256
      (constant S_ .f32 0xFF800000#32 : FVec Ideal S_ .f32)) (ix4 b h g t) = ⊥ := bot_bits
  rw [hinit, hb]
  refine ⟨_, (EReal.coe_toReal ?_ ?_).symm⟩
  · simp only [ne_eq, max_eq_top, not_or]
    exact ⟨bot_ne_top, fold_ne_top _ bot_ne_top _ hx⟩
  · exact (lt_max_of_lt_right ((Finset.lt_fold_max _).2 (.inr ⟨i, Finset.mem_univ _, bot_lt_iff_ne_bot.2 hi⟩))).ne'

theorem keysOf_at (k : FVec Ideal S8192x128 .bf16) (b : Fin 16) (s : Fin 256) (h : Fin 2) (d : Fin 64) :
    keysOf k (ix4 b s h d) = ownKey k b h d s := by
  pointwise [keysOf]

theorem queriesOf_at (q : FVec Ideal S8192x512 .bf16)
    (b : Fin 16) (t : Fin 256) (h : Fin 2) (g : Fin 4) (d : Fin 64) : queriesOf q (ix5 b t h g d)
      = Ideal.div (ownQuery q b h g t d) ((1 / 8 : ℝ) : EReal) * ((Real.log 2 : ℝ) : EReal) := by
  rw [← eighth, ← log_two]
  pointwise [queriesOf]

theorem rowsOf_at (K : FVec Ideal S16x256x2x64 .f32) (Q : FVec Ideal S16x256x2x4x64 .f32) (S : FVec Ideal S4x8 .f32)
    (b : Fin 16) (t : Fin 256) (h : Fin 2) (g : Fin 4) (s : Fin 257) : rowsOf K Q S (ix5 b h g t s)
      = if hs : s.val < 256 then (∑ d, K (ix4 b ⟨s.val, hs⟩ h d) * Q (ix5 b t h g d)) * ((1 / 8 : ℝ) : EReal)
        else S (ix2 1 ⟨h.val * 4 + g.val, by omega⟩) := by
  rw [← eighth]
  pointwise [rowsOf]

theorem weightsOf_at (x : FVec Ideal S16x2x4x256x257 .f32) (M : FVec Ideal S16x2x4x256 .f32)
    (b : Fin 16) (t : Fin 256) (h : Fin 2) (g : Fin 4) (s : Fin 256) :
    weightsOf (exponentialsOf x M) (ix5 b h g t s)
      = Ideal.div (Ideal.exp (x (ix5 b h g t ⟨s.val, by omega⟩) - M (ix4 b h g t)))
          (∑ j, Ideal.exp (x (ix5 b h g t j) - M (ix4 b h g t))) := by
  pointwise [weightsOf, exponentialsOf]

theorem resultOf_at (q : FVec Ideal S8192x512 .bf16) (V : FVec Ideal S16x256x2x64 .f32)
    (W : FVec Ideal S16x2x4x256x256 .f32) (r : Fin 8192) (c : Fin 512) : resultOf q V W (ix2 r c)
      = if h : r.val < 4096 then ∑ s, V (ix4 ⟨r.val / 256, by omega⟩ s ⟨c.val / 256, by omega⟩ ⟨c.val % 64, by omega⟩)
          * W (ix5 ⟨r.val / 256, by omega⟩ ⟨c.val / 256, by omega⟩ ⟨c.val / 64 % 4, by omega⟩
            ⟨r.val % 256, by omega⟩ s) else q (ix2 r c) := by
  pointwise [resultOf]
  by_cases h : r.val < 4096
  · rw [dif_pos h, dif_pos h]
  · rw [dif_neg h, dif_neg h]
    refine congrArg (fun x => q (ix2 x c)) (Fin.ext ?_)
    show 4096 + (r.val - 4096) = r.val
    omega

section

variable (q : FVec Ideal S8192x512 .bf16) (k v : FVec Ideal S8192x128 .bf16) (S : FVec Ideal S4x8 .f32)
  (hq : ∀ i, ∃ r : ℝ, q i = (r : EReal)) (hk : ∀ i, ∃ r : ℝ, k i = (r : EReal))
  (z : Fin 8 → ℝ) (hz : ∀ i, S (ix2 1 i) = (z i : EReal)) (b : Fin 16) (h : Fin 2) (g : Fin 4) (t : Fin 256)

include hq hk in
/-- A row's logits, the keys' ones. -/
theorem row_key (s : Fin 256) : rowsOf (keysOf k) (queriesOf q) S (ix5 b h g t ⟨s.val, by omega⟩)
    = ((Real.log 2 : ℝ) : EReal) * ownScore q k b h g t s := by
  rw [rowsOf_at, dif_pos s.isLt]
  refine Eq.trans ?_ (scaled_dot (fun d => ownKey k b h d s) (fun d => ownQuery q b h g t d) (fun d => hk _) fun d => hq _)
  refine congrArg (· * _) (Finset.sum_congr rfl fun d _ => ?_)
  rw [keysOf_at, queriesOf_at]

include hz in
/-- A row's logits, the sink's one. -/
theorem row_sink : rowsOf (keysOf k) (queriesOf q) S (ix5 b h g t ⟨256, by decide⟩) = ((Real.log 2 : ℝ) : EReal)
    * (((Real.log 2)⁻¹ * z ⟨h.val * 4 + g.val, by omega⟩ : ℝ) : EReal) := by
  have hlog : 0 < Real.log 2 := Real.log_pos (by norm_num)
  rw [rowsOf_at, dif_neg (by simp only; omega), hz, ← EReal.coe_mul, mul_inv_cancel_left₀ hlog.ne']

include hq hk hz in
/-- The weighted values at a row and a feature are the sequence's attention. -/
theorem weighted_at (d : Fin 64) :
    ∑ s, keysOf v (ix4 b s h d) * weightsOf (exponentialsOf (rowsOf (keysOf k) (queriesOf q) S)
        (largestOf (rowsOf (keysOf k) (queriesOf q) S))) (ix5 b h g t s)
      = attendOwn q k v z b h g t d := by
  have hK := row_key q k S hq hk b h g t
  have hS := row_sink q k S z hz b h g t
  have htop : ∀ s : Fin 257, rowsOf (keysOf k) (queriesOf q) S (ix5 b h g t s) ≠ ⊤ := by
    intro s
    rcases Nat.lt_or_ge s.val 256 with h1 | h1
    · rw [show s = ⟨(⟨s.val, h1⟩ : Fin 256).val, s.isLt⟩ from rfl, hK]
      exact scaled_ne_top (ownScore_ne_top q k hq hk b h g t _)
    · rw [show s = ⟨256, by decide⟩ from Fin.ext (by show s.val = 256; omega), hS]
      exact scaled_ne_top (EReal.coe_ne_top _)
  obtain ⟨M, hM⟩ := largestOf_real _ b h g t htop ⟨256, by decide⟩ (by
    rw [hS, ← EReal.coe_mul]; exact EReal.coe_ne_bot _)
  have hsum : ∀ f : Fin 257 → EReal, ∑ s, f s = ∑ s : Fin 256, f ⟨s.val, by omega⟩ + f ⟨256, by decide⟩ :=
    fun f => Fin.sum_univ_castSucc (n := 256) f
  simp only [weightsOf_at, hM]
  rw [hsum]
  simp only [hS, hK, keysOf_at]
  unfold attendOwn
  refine Eq.trans ?_ (mean_exp _ _ (fun s => ownScore_ne_top q k hq hk b h g t s) _ M)
  exact Finset.sum_congr rfl fun s _ => mul_comm _ _

end

/-- The reference, entry by entry: the context rows attended, the latent rows as they came. -/
theorem refOut_at (q : FVec Ideal S8192x512 .bf16) (k v : FVec Ideal S8192x128 .bf16) (S : FVec Ideal S4x8 .f32)
    (z : Fin 8 → ℝ) (hq : ∀ i, ∃ r : ℝ, q i = (r : EReal)) (hk : ∀ i, ∃ r : ℝ, k i = (r : EReal))
    (hz : ∀ i, S (ix2 1 i) = (z i : EReal)) (r : Fin 8192) (c : Fin 512) :
    refOut q k v S (ix2 r c)
      = if h : r.val < 4096 then attendOwn q k v z ⟨r.val / 256, by omega⟩ ⟨c.val / 256, by omega⟩
            ⟨c.val / 64 % 4, by omega⟩ ⟨r.val % 256, by omega⟩ ⟨c.val % 64, by omega⟩
        else q (ix2 r c) := by
  unfold refOut
  rw [resultOf_at]
  by_cases h : r.val < 4096
  · rw [dif_pos h, dif_pos h]
    exact weighted_at q k v S hq hk z hz _ _ _ _ _
  · rw [dif_neg h, dif_neg h]

end Cert.AttnCtxReferenceIdeal.Value

end
-- ==== Proof.ContextClaim.lean ====
module

public import proofs.«01_k».proof.Defs
public import proofs.«01_k».proof.Proof.ContextArray
public import proofs.«01_k».proof.Proof.ContextRef
public import proofs.«01_k».proof.Proof.AttnClaim
public import Idealize.ShloMosaic.Lib.Claim

@[expose] public section

set_option maxRecDepth 16384

noncomputable section

open Idealize.ShloMosaic Idealize.SL.Sem

/-! # The context attention and its reference end with the same array -/

namespace Cert.AttnCtxIdeal.Value

open Cert.AttnCtxIdeal Cert.AttnCtxIdeal.Gen Attention
open Cert.KernelIdeal.Value (real_of_finite)

/-- The shape relations the precondition's operations take. -/
theorem finite_facts : Cert.Pre_finite6.Facts where
  bitsLt_bf16_f32 := by decide
  bcast_S_S8192x512 := by decide
  bcast_S_S8192x128 := by decide
  bcast_S_S4x8 := by decide

variable (m : (ℓ : Loc nD τ sig) → Buf (Elt Ideal) ℓ)
attribute [local instance] finite_facts

theorem queries_real (h : Cert.Pre_AttnCtxIdeal_finite6 m) (c : Dev nD) (i) :
    ∃ r : ℝ, m ((c.tc : Thread nD τ).loc main_arg0) i = (r : EReal) := by
  have e := congrFun (h c).1 i
  refine real_of_finite _ (Eq.trans ?_ e)
  idx_vars i
  pointwise [Cert.Pre_finite6.fn]

theorem keys_real (h : Cert.Pre_AttnCtxIdeal_finite6 m) (c : Dev nD) (i) :
    ∃ r : ℝ, m ((c.tc : Thread nD τ).loc main_arg1) i = (r : EReal) := by
  have e := congrFun (h c).2.1 i
  refine real_of_finite _ (Eq.trans ?_ e)
  idx_vars i
  pointwise [Cert.Pre_finite6.fn]

theorem sinks_real (h : Cert.Pre_AttnCtxIdeal_finite6 m) (c : Dev nD) (i) :
    ∃ r : ℝ, m ((c.tc : Thread nD τ).loc main_arg3) i = (r : EReal) := by
  have e := congrFun (h c).2.2 i
  refine real_of_finite _ (Eq.trans ?_ e)
  idx_vars i
  pointwise [Cert.Pre_finite6.fn]

/-- The array after the run is what the reference computes of the same arguments. -/
theorem attended_eq (h : Cert.Pre_AttnCtxIdeal_finite6 m) (c : Dev nD) : (dats m 0 c).arrAt 4 (cfgs 0).N
    = Cert.AttnCtxReferenceIdeal.Value.refOut (m ((c.tc : Thread nD τ).loc main_arg0))
        (m ((c.tc : Thread nD τ).loc main_arg1)) (m ((c.tc : Thread nD τ).loc main_arg2))
        (m ((c.tc : Thread nD τ).loc main_arg3)) := by
  choose z hz using fun i : Fin 8 => sinks_real m h c (ix2 1 i)
  rw [final m z c (queries_real m h c) (keys_real m h c) hz, entry_out]
  funext j
  obtain ⟨r, e, rfl⟩ : ∃ (r : Fin 8192) (e : Fin 512), j = ix2 r e := ⟨j 0, j 1, eq_ix2 j⟩
  refine Eq.trans ?_ (Cert.AttnCtxReferenceIdeal.Value.refOut_at _ _ _ _ z (queries_real m h c) (keys_real m h c)
    hz r e).symm
  by_cases hr : r.val < 4096
  · refine (if_pos (show r.val < 16 * 256 by omega)).trans ?_
    rw [dif_pos hr]
    exact dif_pos hr
  · refine (if_neg (show ¬ r.val < 16 * 256 by omega)).trans ?_
    rw [dif_neg hr]

/-- The context attention and its reference end with the same array. -/
theorem context_algebraic : Cert.algebraic_AttnCtxIdeal_AttnCtxReferenceIdeal_pre_finite6 := by
  pair_intro
  · run_from Cert.AttnCtxIdeal.Gen.run_main m g
  · run_from Cert.AttnCtxReferenceIdeal.Value.run m' g'
    obtain ⟨h0, h1, h2, h3⟩ := hagree c
    rw [attended_eq m hpre c, ← h0, ← h1, ← h2, ← h3]
    exact Cert.AttnCtxReferenceIdeal.Value.out_eq m' c

end Cert.AttnCtxIdeal.Value

end
-- ==== Proof.AdaArray.lean ====
module

public import proofs.«01_k».proof.Proof.Gen.AdaIdeal.Value
public import proofs.«01_k».proof.Proof.Gen.AdaReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The modulation of every layer by every condition -/

namespace Cert.AdaIdeal.Value

open Cert.AdaIdeal Cert.AdaIdeal.Gen

variable (m : (ℓ : Loc nD τ sig) → Buf (Elt Ideal) ℓ)

/-- The conditions one above the other: the context's, the four latent sequences', three rows of zeros. -/
abbrev conditions (x : FVec Ideal S4x1024 .f32) (y : FVec Ideal S1024 .f32) : FVec Ideal S8x1024 .f32 :=
  concatenate S8x1024 0 [⟨S1x1024, broadcastInDim S1x1024 ![1] bcast_S1024_S1x1024_1 y⟩, ⟨S4x1024, x⟩,
    ⟨S3x1024, broadcastInDim S3x1024 ![] bcast_S_S3x1024 (constant S_ .f32 0x00000000#32)⟩]
    concatenates_S1x1024_S4x1024_S3x1024_S8x1024_d0

/-- The array that holds one everywhere. -/
abbrev ones : FVec Ideal S8x1024 .f32 :=
  broadcastInDim S8x1024 ![] Cert.AdaReferenceIdeal.Gen.bcast_S_S8x1024 (constant S_ .f32 0x3F800000#32)

/-- What the reference computes of the stacked conditions. -/
abbrev modulation (x : FVec Ideal S8x1024 .f32) (w : FVec Ideal S4x1024x6144 .f32) (b : FVec Ideal S4x6144 .f32) :
    FVec Ideal S4x8x6144 .f32 :=
  addf
    (transpose S4x8x6144 [0, 2, 1]
      (Host.dotGeneral Cert.AdaReferenceIdeal.dot_S4x1024x6144_S8x1024_S4x6144x8_1_1_02_0_n_n none w
        (mulf x (Host.divf ones (addf ones (Host.exp (Host.negf x))))))
      Cert.AdaReferenceIdeal.Gen.transposes_S4x6144x8_S4x8x6144_0_2_1)
    (broadcastInDim S4x8x6144 ![0, 1, 2] Cert.AdaReferenceIdeal.Gen.bcast_S4x1x6144_S4x8x6144_0_1_2
      (broadcastInDim S4x1x6144 ![0, 2] Cert.AdaReferenceIdeal.Gen.bcast_S4x6144_S4x1x6144_0_2 b))

/-- Grid point `t` works on a quarter of a layer's columns: where each window's block sits. -/
theorem placed : ∀ t : Fin cfg0.N,
    win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

/-- The stacked conditions, as the call finds them. -/
theorem entry_conditions (c : Dev nD) : V m c main_v2
    = conditions (m ((c : Thread nD τ).loc main_arg0)) (m ((c : Thread nD τ).loc main_arg1)) := by
  rfl

/-- The offsets, as the call finds them. -/
theorem entry_offsets (c : Dev nD) : V m c main_v3
    = shapeCast S4x1x6144 (m ((c : Thread nD τ).loc main_arg3)) shapeCasts_S4x6144_S4x1x6144 := by
  entry_read
  rfl

/-- The conditions are fetched whole, whatever they are. -/
theorem conditions_fetched (A : (⟨S8x1024, .f32⟩ : BufTy).Contents (Elt Ideal)) (t : Fin cfg0.N) (r : Fin 8) (k : Fin 1024) :
    ((cfg0.win 0).blk t).view.read (Elt Ideal) A (ix2 r k) = A (ix2 r k) := by
  blk_point [placed t]

theorem whole_at (A : FVec Ideal S8x1024 .f32) (r : Fin 8) (k : Fin 1024) :
    View.ld (Val := Elt Ideal) (e' := .f32) A r0_0 (ix2 r k) = A (ix2 r k) :=
  congrFun (View.ld_unit_lit _ _ fun a => by fin_cases a <;> rfl) _

/-- The offsets are fetched by a quarter of a layer's, whatever they are. -/
theorem offsets_fetched (A : (⟨S4x1x6144, .f32⟩ : BufTy).Contents (Elt Ideal)) (t : Fin cfg0.N) (e : Fin 1536)
    (hl : t.val / 4 < 4) (he : t.val % 4 * 1536 + e.val < 6144) :
    ((cfg0.win 2).blk t).view.read (Elt Ideal) A (ix3 0 0 e) = A (ix3 ⟨t.val / 4, hl⟩ 0 ⟨t.val % 4 * 1536 + e.val, he⟩) := by
  blk_point [placed t]

theorem whole_offsets_at (A : FVec Ideal S1x1x1536 .f32) (e : Fin 1536) :
    View.ld (Val := Elt Ideal) (e' := .f32) A r0_2 (ix3 0 0 e) = A (ix3 0 0 e) :=
  congrFun (View.ld_unit_lit _ _ fun a => by fin_cases a <;> rfl) _

theorem offsets_laid_out (b : FVec Ideal S4x6144 .f32) (l : Fin 4) (e : Fin 6144) :
    shapeCast S4x1x6144 b shapeCasts_S4x6144_S4x1x6144 (ix3 l 0 e) = b (ix2 l e) := by
  pointwise

/-- One entry of a grid point's block. -/
theorem payload_at (x : Vec Ideal S8x1024 .f32) (w : Vec Ideal S1x1024x1536 .f32) (b : Vec Ideal S1x1x1536 .f32)
    (r : Fin 8) (e : Fin 1536) : k0_pay1 x w b (ix3 0 r e)
      = ∑ k, x (ix2 r k) * Ideal.div 1 (1 + Ideal.exp (-x (ix2 r k))) * w (ix3 0 k e) + b (ix3 0 0 e) := by
  pointwise [k0_pay1, Ideal.logistic]

/-- One entry of the reference. -/
theorem modulation_at (x : FVec Ideal S8x1024 .f32) (w : FVec Ideal S4x1024x6144 .f32) (b : FVec Ideal S4x6144 .f32)
    (l : Fin 4) (r : Fin 8) (e : Fin 6144) : modulation x w b (ix3 l r e)
      = ∑ k, w (ix3 l k e) * (x (ix2 r k) * Ideal.div 1 (1 + Ideal.exp (-x (ix2 r k)))) + b (ix2 l e) := by
  pointwise [modulation, ones]

/-- The array after the run is the reference's. -/
theorem final (c : Dev nD) : (dats m 0 c).arrAt 3 (cfgs 0).N
    = modulation (V m c main_v2) (m ((c : Thread nD τ).loc main_arg2)) (m ((c : Thread nD τ).loc main_arg3)) := by
  refine (dats m 0 c).arrAt_eq_of_covers 3 _ (by decide +kernel) fun t _ y => ?_
  blk_simp
  rw [after0_3]
  have hN := lt_of_lt_of_eq t.isLt (show cfg0.N = 16 from N_0)
  unfold out0_3
  refine (congrFun (View.canon_cons_unit_lit _ _ _ fun a => by fin_cases a <;> rfl) y).trans ?_
  obtain ⟨r, e, rfl⟩ : ∃ (r : Fin 8) (e : Fin 1536), y = ix3 0 r e := by
    refine ⟨y 1, y 2, ?_⟩
    have h0 := (y 0).isLt
    funext j
    match j with
    | 0 => exact Fin.ext (by show (y 0).val = 0; have : (y 0).val < 1 := h0; omega)
    | 1 => rfl
    | 2 => rfl
  have hl : t.val / 4 < 4 := by omega
  have he : t.val % 4 * 1536 + e.val < 6144 := by omega
  have hi : (win0_3.blk t).view.emb (ix3 0 r e) = ix3 ⟨t.val / 4, hl⟩ r ⟨t.val % 4 * 1536 + e.val, he⟩ := by
    funext j
    refine Fin.ext ?_
    match j with
    | 0 =>
      blk_simp [placed t]
      rfl
    | 1 => blk_simp [placed t]
    | 2 => blk_simp [placed t]
  rw [hi, modulation_at]
  refine (payload_at _ _ _ r e).trans ?_
  refine congrArg₂ (· + ·) (Finset.sum_congr rfl fun k _ => ?_) ?_
  · rw [mul_comm]
    refine congrArg₂ (· * ·) ?_ ?_
    · blk_point [iblk, V, placed t]
    · have hx : View.ld (Val := Elt Ideal) (e' := .f32) (iblk m c 0 t) r0_0 (ix2 r k) = V m c main_v2 (ix2 r k) :=
        (whole_at _ r k).trans (conditions_fetched (V m c main_v2) t r k)
      rw [hx]
  · refine (whole_offsets_at _ e).trans ((offsets_fetched (V m c main_v3) t e hl he).trans ?_)
    rw [entry_offsets]
    exact offsets_laid_out _ _ _

end Cert.AdaIdeal.Value

end
-- ==== Proof.AdaClaim.lean ====
module

public import proofs.«01_k».proof.Defs
public import proofs.«01_k».proof.Proof.AdaArray
public import Idealize.ShloMosaic.Lib.Claim

@[expose] public section

set_option maxRecDepth 16384

noncomputable section

open Idealize.ShloMosaic Idealize.SL.Sem

namespace Cert.AdaIdeal.Value

/-- The modulation's call and its reference end with the same array. -/
theorem ada_algebraic : Cert.algebraic_AdaIdeal_AdaReferenceIdeal := by
  pair_intro
  · run_from Cert.AdaIdeal.Gen.run_main m g
  · run_from Cert.AdaReferenceIdeal.Value.run m' g'
    rw [final m c, entry_conditions]

end Cert.AdaIdeal.Value

end
-- ==== Proof.GatherTile.lean ====
module

public import proofs.«01_k».proof.Proof.JoinMath
public import proofs.«01_k».proof.Proof.Gen.GatherIdeal.Value
public import proofs.«01_k».proof.Proof.Gen.GatherReferenceIdeal.Run
public import Idealize.ShloMosaic.Lib.Pipeline.ValueKit

@[expose] public section

set_option maxRecDepth 16384

noncomputable section

open Idealize.ShloMosaic Idealize.ShloMosaic.TcCoe Idealize.SL.Sem

/-! # What the gather computes for one latent sequence -/

namespace Cert.GatherIdeal.Value

open Cert.GatherIdeal Cert.GatherIdeal.Gen Mixing

/-- One expert's choice of tokens: one where a token is in a slot, zero elsewhere. -/
def chosen (slots : FVec Ideal S128x1024 .f32) (code : FVec Ideal S1x1024 .f32) : FVec Ideal S128x1024 .bf16 :=
  truncf .bf16 (select (cmpf .oeq (broadcastTo S128x1024 code broadcasts_S1x1024_S128x1024) slots)
    (broadcast S128x1024 (Scalar.ofBits .f32 0x3F800000#32))
    (broadcast S128x1024 (Scalar.ofBits .f32 0x00000000#32))) bitsLt_bf16_f32

theorem has_row (e : Fin 16) : S16x1024.Slices ![e.val, 0] S1x1024 := ⟨rfl, fun a => by
  match a with
  | ⟨0, _⟩ => exact e.isLt
  | ⟨1, _⟩ => exact le_refl 1024⟩

/-- An expert's row of the routing table. -/
def row (a : Vec Ideal S16x1024 .f32) (e : Fin 16) : FVec Ideal S1x1024 .f32 :=
  extractStridedSlice S1x1024 ![e.val, 0] a (has_row e)

theorem fits : Shape.Concatenates (List.replicate 16 S128x1024) S2048x1024 0 := by decide

/-- Sixteen experts' choices above one another. -/
def stacked (P : Fin 16 → FVec Ideal S128x1024 .bf16) : FVec Ideal S2048x1024 .bf16 :=
  concatenate S2048x1024 0 [⟨S128x1024, P 0⟩, ⟨S128x1024, P 1⟩, ⟨S128x1024, P 2⟩, ⟨S128x1024, P 3⟩, ⟨S128x1024, P 4⟩,
    ⟨S128x1024, P 5⟩, ⟨S128x1024, P 6⟩, ⟨S128x1024, P 7⟩, ⟨S128x1024, P 8⟩, ⟨S128x1024, P 9⟩, ⟨S128x1024, P 10⟩,
    ⟨S128x1024, P 11⟩, ⟨S128x1024, P 12⟩, ⟨S128x1024, P 13⟩, ⟨S128x1024, P 14⟩, ⟨S128x1024, P 15⟩] fits

/-- The whole choice. -/
def oneHot (code : Vec Ideal S16x1024 .f32) : FVec Ideal S2048x1024 .bf16 :=
  stacked fun e => chosen (k0_pay2 (F := Ideal)) (row code e)

theorem slots_at (s : Fin 128) (r : Fin 1024) : k0_pay2 (F := Ideal) (ix2 s r) = (((s.val + 1 : ℕ) : ℝ) : EReal) := by
  have e : (IntOp.addi (BitVec.ofNat 32 s.val) 1#32).toInt = ((s.val + 1 : ℕ) : ℤ) := by
    have h := s.isLt
    show (BitVec.ofNat 32 s.val + 1#32).toInt = _
    rw [BitVec.toInt_eq_toNat_of_lt] <;> simp [BitVec.toNat_add] <;> omega
  pointwise [k0_pay2]
  show ((((IntOp.addi (BitVec.ofNat 32 s.val) 1#32).toInt : ℤ) : ℝ) : EReal) = _
  rw [e, Int.cast_natCast]

theorem chosen_at {slots : FVec Ideal S128x1024 .f32} {code : FVec Ideal S1x1024 .f32} {s : Fin 128} {r : Fin 1024}
    (h : slots (ix2 s r) = (((s.val + 1 : ℕ) : ℝ) : EReal)) :
    chosen slots code (ix2 s r) = share (code (ix2 0 r)) 1 s.val := by
  pointwise [chosen, share, h]

theorem row_at (a : Vec Ideal S16x1024 .f32) (e : Fin 16) (r : Fin 1024) : row a e (ix2 0 r) = a (ix2 e r) := by
  pointwise [row]

theorem stacked_at (P : Fin 16 → FVec Ideal S128x1024 .bf16) (e : Fin 16) (s : Fin 128) (r : Fin 1024) :
    stacked P (ix2 (finProdFinEquiv (e, s)) r) = P e (ix2 s r) := by
  have hs := s.isLt
  have v : (finProdFinEquiv (e, s) : Fin (16 * 128)).val = s.val + 128 * e.val := rfl
  refine concatenate_ofFn_apply (t := S2048x1024) (0 : Fin 2) P fits rfl 128 rfl _ e ?_ _ ?_ fun b hb => ?_
  · show (finProdFinEquiv (e, s) : Fin (16 * 128)).val / 128 = e.val
    omega
  · show s.val = (finProdFinEquiv (e, s) : Fin (16 * 128)).val % 128
    omega
  · match b with
    | ⟨0, _⟩ => exact absurd rfl hb
    | ⟨1, _⟩ => rfl

/-- Whether a token is in a slot. -/
theorem oneHot_at (code : Vec Ideal S16x1024 .f32) (e : Fin 16) (s : Fin 128) (r : Fin 1024) :
    oneHot code (ix2 (finProdFinEquiv (e, s)) r) = share (code (ix2 e r)) 1 s.val := by
  rw [oneHot, stacked_at, chosen_at (slots_at s r), row_at]

/-- The tokens in the slots. -/
def picked (W : FVec Ideal S2048x1024 .bf16) (h : Vec Ideal S1024x1024 .bf16) : FVec Ideal S16x128x1024 .bf16 :=
  truncf .bf16 (shapeCast S16x128x1024
    (matmul (φ₁ := .bf16) (φ₂ := .bf16) dot_S2048x1024_S1024x1024_S2048x1024_1_0_0_1_n_n none W h
      (constant S2048x1024 .f32 0x00000000#32)) shapeCasts_S2048x1024_S16x128x1024) bitsLt_bf16_f32

/-- The block a point leaves. -/
theorem leaves (code : Vec Ideal S16x1024 .f32) (h : Vec Ideal S1024x1024 .bf16) :
    out0_2 code h = picked (oneHot code) h := by
  unfold out0_2
  frame_out
  rfl

/-- A slot, as a row of the product. -/
theorem product_at (P : FVec Ideal S2048x1024 .f32) (e : Fin 16) (s : Fin 128) (j : Fin 1024) :
    shapeCast S16x128x1024 P shapeCasts_S2048x1024_S16x128x1024 (ix3 e s j) = P (ix2 (finProdFinEquiv (e, s)) j) := by
  have hs := s.isLt
  have v : (finProdFinEquiv (e, s) : Fin (16 * 128)).val = s.val + 128 * e.val := rfl
  pointwise []
  refine congrArg P ?_
  congr 1
  exact Fin.ext (by show _ = s.val + 128 * e.val; simp; omega)

/-- A slot's token. -/
theorem picked_at (code : Vec Ideal S16x1024 .f32) (h : Vec Ideal S1024x1024 .bf16) (e : Fin 16) (s : Fin 128) (j : Fin 1024) :
    picked (oneHot code) h (ix3 e s j) = ∑ n : Fin 1024, share (code (ix2 e n)) (h (ix2 n j)) s.val := by
  have w : ∀ (W : FVec Ideal S2048x1024 .bf16) (k : Fin 2048),
      matmul (φ₁ := .bf16) (φ₂ := .bf16) dot_S2048x1024_S1024x1024_S2048x1024_1_0_0_1_n_n none W h
        (constant S2048x1024 .f32 0x00000000#32) (ix2 k j) = ∑ n : Fin 1024, W (ix2 k n) * h (ix2 n j) := fun W k => by
    pointwise []
  refine (product_at _ e s j).trans ((w _ _).trans (Finset.sum_congr rfl fun n _ => ?_))
  refine (congrArg (· * h (ix2 n j)) (oneHot_at code e s n)).trans ?_
  unfold share
  split
  · exact one_mul _
  · exact zero_mul _

end Cert.GatherIdeal.Value

end
-- ==== Proof.GatherArray.lean ====
module

public import proofs.«01_k».proof.Proof.GatherTile

@[expose] public section

set_option maxRecDepth 16384

noncomputable section

open Idealize.ShloMosaic Idealize.ShloMosaic.TcCoe Idealize.SL.Sem
open Idealize.ShloMosaic.Pipeline (Dat)

/-! # The tokens in the experts' slots -/

namespace Cert.GatherReferenceIdeal.Value

open Cert.GatherReferenceIdeal Cert.GatherReferenceIdeal.Gen Mixing

/-- The slots' numbers, counted from one. -/
abbrev numbers : FVec Ideal S16x4x128x1024 .f32 :=
  broadcastInDim S16x4x128x1024 ![0, 1, 2, 3] bcast_S1x1x128x1_S16x4x128x1024_0_1_2_3
    (broadcastInDim S1x1x128x1 ![2, 3] bcast_S128x1_S1x1x128x1_2_3
      (broadcastInDim S128x1 ![0] bcast_S128_S128x1_0
        (sitofp .f32 (addi (broadcastInDim S128 ![] bcast_S_S128 (constantI S_ 32 1#32)) (iotaInDim S128 32 0)))))

/-- The tokens' features where a token is in a slot, zero elsewhere. -/
abbrev placed (code : FVec Ideal S16x4096 .f32) (h : FVec Ideal S8192x1024 .bf16) : FVec Ideal S16x4x128x1024x1024 .f32 :=
  select (broadcastInDim S16x4x128x1024x1024 ![0, 1, 2, 3, 4] bcast_S16x4x128x1024x1_S16x4x128x1024x1024_0_1_2_3_4
      (broadcastInDim S16x4x128x1024x1 ![0, 1, 2, 3] bcast_S16x4x128x1024_S16x4x128x1024x1_0_1_2_3
        (cmpf .oeq (broadcastInDim S16x4x128x1024 ![0, 1, 2, 3] bcast_S16x4x1x1024_S16x4x128x1024_0_1_2_3
          (shapeCast _ code shapeCasts_S16x4096_S16x4x1x1024)) numbers)))
    (broadcastInDim S16x4x128x1024x1024 ![0, 1, 2, 3, 4] bcast_S1x4x1x1024x1024_S16x4x128x1024x1024_0_1_2_3_4
      (shapeCast _ (extractStridedSlice S4096x1024 ![4096, 0] (extf .f32 h bitsLt_bf16_f32) slices_S8192x1024_S4096x1024_4096_0)
        shapeCasts_S4096x1024_S1x4x1x1024x1024))
    (broadcastInDim S16x4x128x1024x1024 ![] bcast_S_S16x4x128x1024x1024 (id (constant S_ .f32 0x00000000#32)))

/-- What the reference computes. -/
abbrev gathered (code : FVec Ideal S16x4096 .f32) (h : FVec Ideal S8192x1024 .bf16) : FVec Ideal S16x512x1024 .bf16 :=
  truncf .bf16 (shapeCast _ (Host.reduceAdd (placed code h) (constant S_ .f32 0x00000000#32)
    reducesTo_S16x4x128x1024x1024_S16x4x128x1024_d3 h_S_) shapeCasts_S16x4x128x1024_S16x512x1024) bitsLt_bf16_f32

theorem numbers_at (e : Fin 16) (b : Fin 4) (s : Fin 128) (n : Fin 1024) :
    numbers (ix4 e b s n) = (((s.val + 1 : ℕ) : ℝ) : EReal) := by
  have e' : (IntOp.addi 1#32 (BitVec.ofNat 32 s.val)).toInt = ((s.val + 1 : ℕ) : ℤ) := by
    have h := s.isLt
    show (1#32 + BitVec.ofNat 32 s.val).toInt = _
    rw [BitVec.toInt_eq_toNat_of_lt] <;> simp [BitVec.toNat_add] <;> omega
  pointwise [numbers]
  show ((((IntOp.addi 1#32 (BitVec.ofNat 32 s.val)).toInt : ℤ) : ℝ) : EReal) = _
  rw [e', Int.cast_natCast]

theorem placed_at (code : FVec Ideal S16x4096 .f32) (h : FVec Ideal S8192x1024 .bf16) (e : Fin 16) (b : Fin 4) (s : Fin 128)
    (n j : Fin 1024) (hc : b.val * 1024 + n.val < 4096) (hh : 4096 + (b.val * 1024 + n.val) < 8192) :
    placed code h (ix5 e b s n j)
      = share (code (ix2 e ⟨b.val * 1024 + n.val, hc⟩)) (h (ix2 ⟨4096 + (b.val * 1024 + n.val), hh⟩ j)) s.val := by
  have w := numbers_at e b s n
  have z : (id (constant (F := Ideal) S_ .f32 0x00000000#32)) ix0 = 0 := by
    show constant (F := Ideal) S_ .f32 0x00000000#32 ix0 = 0
    pointwise []
  pointwise [placed, share, w]
  rw [z]

theorem summed_at (P : FVec Ideal S16x4x128x1024x1024 .f32) (e : Fin 16) (b : Fin 4) (s : Fin 128) (j : Fin 1024)
    (hs : b.val * 128 + s.val < 512) :
    truncf .bf16 (shapeCast S16x512x1024 (Host.reduceAdd P (constant S_ .f32 0x00000000#32)
      reducesTo_S16x4x128x1024x1024_S16x4x128x1024_d3 h_S_) shapeCasts_S16x4x128x1024_S16x512x1024) bitsLt_bf16_f32
        (ix3 e ⟨b.val * 128 + s.val, hs⟩ j) = ∑ n : Fin 1024, P (ix5 e b s n j) := by
  pointwise []

/-- One entry of the reference. -/
theorem gathered_at (code : FVec Ideal S16x4096 .f32) (h : FVec Ideal S8192x1024 .bf16) (e : Fin 16) (b : Fin 4) (s : Fin 128)
    (j : Fin 1024) (hs : b.val * 128 + s.val < 512) :
    gathered code h (ix3 e ⟨b.val * 128 + s.val, hs⟩ j)
      = ∑ n : Fin 1024, share (code (ix2 e ⟨b.val * 1024 + n.val, by omega⟩))
          (h (ix2 ⟨4096 + (b.val * 1024 + n.val), by omega⟩ j)) s.val :=
  (summed_at _ e b s j hs).trans (Finset.sum_congr rfl fun n _ => placed_at code h e b s n j _ _)

end Cert.GatherReferenceIdeal.Value

namespace Cert.GatherIdeal.Value

open Cert.GatherIdeal Cert.GatherIdeal.Gen Mixing

variable (m : (ℓ : Loc nD τ sig) → Buf (Elt Ideal) ℓ)

/-- Grid point `t` works on a latent sequence: where each window's block sits. -/
theorem placed : ∀ t : Fin cfg0.N,
    win0_0.index t = ![0, t.val] ∧ win0_1.index t = ![4 + t.val, 0] ∧ win0_2.index t = ![0, t.val, 0] :=
  (by decide +kernel : ∀ t : Fin grid0.N, _)

/-- A sequence's part of the routing table. -/
theorem code_fetched (A : (⟨S16x4096, .f32⟩ : BufTy).Contents (Elt Ideal)) (t : Fin cfg0.N) (e : Fin 16) (n : Fin 1024)
    (h : t.val * 1024 + n.val < 4096) :
    ((cfg0.win 0).blk t).view.read (Elt Ideal) A (ix2 e n) = A (ix2 e ⟨t.val * 1024 + n.val, h⟩) := by
  blk_point [placed t]

/-- A sequence's tokens. -/
theorem tokens_fetched (A : (⟨S8192x1024, .bf16⟩ : BufTy).Contents (Elt Ideal)) (t : Fin cfg0.N) (n j : Fin 1024)
    (h : 4096 + (t.val * 1024 + n.val) < 8192) :
    ((cfg0.win 1).blk t).view.read (Elt Ideal) A (ix2 n j) = A (ix2 ⟨4096 + (t.val * 1024 + n.val), h⟩ j) := by
  have e : (⟨4096 + (t.val * 1024 + n.val), h⟩ : Fin 8192) = ⟨(4 + t.val) * 1024 + n.val, by omega⟩ := Fin.ext (by simp; omega)
  rw [e]
  blk_point [placed t]

/-- The array after the run is the reference's. -/
theorem final (c : Dev nD) : (dats m 0 c).arrAt 2 (cfgs 0).N
    = Cert.GatherReferenceIdeal.Value.gathered (m ((c : Thread nD τ).loc main_arg0)) (m ((c : Thread nD τ).loc main_arg1)) := by
  refine (dats m 0 c).arrAt_eq_of_covers 2 _ (by decide +kernel) fun t _ y => ?_
  blk_simp
  rw [after0_2]
  have hN := lt_of_lt_of_eq t.isLt (show cfg0.N = 4 from N_0)
  rw [leaves]
  obtain ⟨e, s, j, rfl⟩ : ∃ (e : Fin 16) (s : Fin 128) (j : Fin 1024), y = ix3 e s j := by
    refine ⟨y 0, y 1, y 2, ?_⟩
    funext j
    match j with
    | 0 => rfl
    | 1 => rfl
    | 2 => rfl
  have hs : t.val * 128 + s.val < 512 := by omega
  have hi : (win0_2.blk t).view.emb (ix3 e s j) = ix3 e ⟨t.val * 128 + s.val, hs⟩ j := by
    funext j
    refine Fin.ext ?_
    match j with
    | 0 => blk_simp [placed t]
    | 1 => blk_simp [placed t]
    | 2 => blk_simp [placed t]
  rw [hi]
  refine (picked_at _ _ e s j).trans ((Finset.sum_congr rfl fun n _ => ?_).trans
    (Cert.GatherReferenceIdeal.Value.gathered_at _ _ e ⟨t.val, hN⟩ s j hs).symm)
  have h1 : t.val * 1024 + n.val < 4096 := by omega
  have h2 : 4096 + (t.val * 1024 + n.val) < 8192 := by omega
  exact congrArg₂ (fun x y => share x y s.val) (code_fetched (V m c main_arg0) t e n h1)
    (tokens_fetched (V m c main_arg1) t n j h2)

end Cert.GatherIdeal.Value

end
-- ==== Proof.GatherClaim.lean ====
module

public import proofs.«01_k».proof.Defs
public import proofs.«01_k».proof.Proof.GatherArray
public import Idealize.ShloMosaic.Lib.Claim

@[expose] public section

set_option maxRecDepth 16384

noncomputable section

open Idealize.ShloMosaic Idealize.SL.Sem

namespace Cert.GatherIdeal.Value

/-- The gather's call and its reference end with the same array. -/
theorem gather_algebraic : Cert.algebraic_GatherIdeal_GatherReferenceIdeal := by
  pair_intro
  · run_from Cert.GatherIdeal.Gen.run_main m g
  · run_from Cert.GatherReferenceIdeal.Value.run m' g'
    rw [final m c]
    rfl

end Cert.GatherIdeal.Value

end
-- ==== Proof.lean ====
/- The certificate: every program's frame, what the idealization named, and the value claims, each from the module that
   proves it. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Ffn.Frame
public import proofs.«01_k».proof.Proof.Gen.FfnIdeal.Frame
public import proofs.«01_k».proof.Proof.Gen.Outproj.Frame
public import proofs.«01_k».proof.Proof.Gen.OutprojIdeal.Frame
public import proofs.«01_k».proof.Proof.Gen.OutprojReferenceIdeal.Run
public import proofs.«01_k».proof.Proof.Gen.Combine.Frame
public import proofs.«01_k».proof.Proof.Gen.CombineIdeal.Frame
public import proofs.«01_k».proof.Proof.Gen.CombineIdeal.Value
public import proofs.«01_k».proof.Proof.Gen.CombineReferenceIdeal.Run
public import proofs.«01_k».proof.Proof.Gen.Merge.Frame
public import proofs.«01_k».proof.Proof.Gen.MergeIdeal.Frame
public import proofs.«01_k».proof.Proof.Gen.MergeIdeal.Value
public import proofs.«01_k».proof.Proof.Gen.MergeReferenceIdeal.Run
public import proofs.«01_k».proof.Proof.Gen.AttnCtx.Frame
public import proofs.«01_k».proof.Proof.Gen.AttnCtxIdeal.Frame
public import proofs.«01_k».proof.Proof.Gen.AttnCtxIdeal.Value
public import proofs.«01_k».proof.Proof.Gen.AttnCtxReferenceIdeal.Run
public import proofs.«01_k».proof.Proof.Gen.Ada.Frame
public import proofs.«01_k».proof.Proof.Gen.AdaIdeal.Frame
public import proofs.«01_k».proof.Proof.Gen.AdaIdeal.Value
public import proofs.«01_k».proof.Proof.Gen.AdaReferenceIdeal.Run
public import proofs.«01_k».proof.Proof.Gen.Gather.Frame
public import proofs.«01_k».proof.Proof.Gen.GatherIdeal.Frame
public import proofs.«01_k».proof.Proof.Gen.GatherIdeal.Value
public import proofs.«01_k».proof.Proof.Gen.GatherReferenceIdeal.Run
public import proofs.«01_k».proof.Proof.FfnClaim
public import proofs.«01_k».proof.Proof.AttnClaim
public import proofs.«01_k».proof.Proof.OutClaim
public import proofs.«01_k».proof.Proof.JoinClaim
public import proofs.«01_k».proof.Proof.MergeClaim
public import proofs.«01_k».proof.Proof.ContextClaim
public import proofs.«01_k».proof.Proof.AdaClaim
public import proofs.«01_k».proof.Proof.GatherClaim

@[expose] public section

noncomputable section

namespace Cert.Proof

open Idealize.ShloMosaic Idealize.SL.Sem

/-- The attention's reference runs, keeps its arguments, and has no semaphore to leave raised. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The experts' reference likewise. -/
theorem ffn_reference_frame : Cert.quiescent_FfnReferenceIdeal := fun m ρ _ =>
  (θ_run Cert.FfnReferenceIdeal.defs _ _).mono
    (fun r h => ⟨fun c => (h c).2.2, sem_eq_zero_of_no_sems (by decide) r.2⟩)
    (Cert.FfnReferenceIdeal.Value.run (F := Ideal) m ρ)

/-- The output projection's reference likewise. -/
theorem outproj_reference_frame : Cert.quiescent_OutprojReferenceIdeal := fun m ρ _ =>
  (θ_run Cert.OutprojReferenceIdeal.defs _ _).mono
    (fun r h => ⟨fun c => (h c).2.2.2, sem_eq_zero_of_no_sems (by decide) r.2⟩)
    (Cert.OutprojReferenceIdeal.Value.run (F := Ideal) m ρ)

/-- The reference of the latent stream's last combination likewise. -/
theorem combine_reference_frame : Cert.quiescent_CombineReferenceIdeal := fun m ρ _ =>
  (θ_run Cert.CombineReferenceIdeal.defs _ _).mono
    (fun r h => ⟨fun c => (h c).2, sem_eq_zero_of_no_sems (by decide) r.2⟩)
    (Cert.CombineReferenceIdeal.Value.run (F := Ideal) m ρ)

/-- The reference of the context stream's last combination likewise. -/
theorem merge_reference_frame : Cert.quiescent_MergeReferenceIdeal := fun m ρ _ =>
  (θ_run Cert.MergeReferenceIdeal.defs _ _).mono
    (fun r h => ⟨fun c => (h c).2, sem_eq_zero_of_no_sems (by decide) r.2⟩)
    (Cert.MergeReferenceIdeal.Value.run (F := Ideal) m ρ)

/-- The context attention's reference likewise. -/
theorem context_reference_frame : Cert.quiescent_AttnCtxReferenceIdeal := fun m ρ _ =>
  (θ_run Cert.AttnCtxReferenceIdeal.defs _ _).mono
    (fun r h => ⟨fun c => (h c).2, sem_eq_zero_of_no_sems (by decide) r.2⟩)
    (Cert.AttnCtxReferenceIdeal.Value.run (F := Ideal) m ρ)

/-- The modulation's reference likewise. -/
theorem ada_reference_frame : Cert.quiescent_AdaReferenceIdeal := fun m ρ _ =>
  (θ_run Cert.AdaReferenceIdeal.defs _ _).mono
    (fun r h => ⟨fun c => (h c).2, sem_eq_zero_of_no_sems (by decide) r.2⟩)
    (Cert.AdaReferenceIdeal.Value.run (F := Ideal) m ρ)

/-- The gather's reference likewise. -/
theorem gather_reference_frame : Cert.quiescent_GatherReferenceIdeal := fun m ρ _ =>
  (θ_run Cert.GatherReferenceIdeal.defs _ _).mono
    (fun r h => ⟨fun c => (h c).2, sem_eq_zero_of_no_sems (by decide) r.2⟩)
    (Cert.GatherReferenceIdeal.Value.run (F := Ideal) m ρ)

/-- The two literals the idealization named: the masked score, and `log₂ e`. -/
theorem named : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32
      (((Real.log 2)⁻¹ : ℝ) : EReal) rfl⟩

/-- The context attention has only the second of them. -/
theorem context_named : Cert.preserves_AttnCtx_AttnCtxIdeal :=
  IdealRules.named_const.statement Cert.AttnCtxIdeal.κ "log2e" .f32 0x3FB8AA3B#32
    (((Real.log 2)⁻¹ : ℝ) : EReal) rfl

theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Outproj.Gen.facts, Cert.OutprojIdeal.Gen.facts, Cert.OutprojReferenceIdeal.Gen.facts,
    Cert.Combine.Gen.facts, Cert.CombineIdeal.Gen.facts, Cert.CombineReferenceIdeal.Gen.facts,
    Cert.Merge.Gen.facts, Cert.MergeIdeal.Gen.facts, Cert.MergeReferenceIdeal.Gen.facts,
    Cert.AttnCtx.Gen.facts, Cert.AttnCtxIdeal.Gen.facts, Cert.AttnCtxReferenceIdeal.Gen.facts,
    Cert.Ada.Gen.facts, Cert.AdaIdeal.Gen.facts, Cert.AdaReferenceIdeal.Gen.facts,
    Cert.Gather.Gen.facts, Cert.GatherIdeal.Gen.facts, Cert.GatherReferenceIdeal.Gen.facts,
    Cert.KernelIdeal.Value.finite_facts, Cert.OutprojIdeal.Value.finite3_facts,
    Cert.AttnCtxIdeal.Value.finite_facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.Ffn.Gen.frame m ρ,
    fun m ρ _ => Cert.FfnIdeal.Gen.frame m ρ,
    ffn_reference_frame,
    fun m ρ _ => Cert.Outproj.Gen.frame m ρ,
    fun m ρ _ => Cert.OutprojIdeal.Gen.frame m ρ,
    fun m ρ _ => Cert.OutprojIdeal.Gen.frame m ρ,
    outproj_reference_frame,
    fun m ρ _ => outproj_reference_frame m ρ trivial,
    fun m ρ _ => Cert.Combine.Gen.frame m ρ,
    fun m ρ _ => Cert.CombineIdeal.Gen.frame m ρ,
    combine_reference_frame,
    fun m ρ _ => Cert.Merge.Gen.frame m ρ,
    fun m ρ _ => Cert.MergeIdeal.Gen.frame m ρ,
    merge_reference_frame,
    fun m ρ _ => Cert.AttnCtx.Gen.frame m ρ,
    fun m ρ _ => Cert.AttnCtxIdeal.Gen.frame m ρ,
    fun m ρ _ => Cert.AttnCtxIdeal.Gen.frame m ρ,
    context_reference_frame,
    fun m ρ _ => context_reference_frame m ρ trivial,
    fun m ρ _ => Cert.Ada.Gen.frame m ρ,
    fun m ρ _ => Cert.AdaIdeal.Gen.frame m ρ,
    ada_reference_frame,
    fun m ρ _ => Cert.Gather.Gen.frame m ρ,
    fun m ρ _ => Cert.GatherIdeal.Gen.frame m ρ,
    gather_reference_frame,
    named,
    Cert.KernelIdeal.Value.attention_algebraic,
    trivial,
    Cert.FfnIdeal.Value.ffn_algebraic,
    trivial,
    Cert.OutprojIdeal.Value.outproj_algebraic,
    trivial,
    Cert.CombineIdeal.Value.combine_algebraic,
    trivial,
    Cert.MergeIdeal.Value.merge_algebraic,
    context_named,
    Cert.AttnCtxIdeal.Value.context_algebraic,
    trivial,
    Cert.AdaIdeal.Value.ada_algebraic,
    trivial,
    Cert.GatherIdeal.Value.gather_algebraic⟩

end Cert.Proof

end
